-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_v347) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x3 : Shape := ⟨2, ![32768, 3]⟩
abbrev S16x16x16x63x32 : Shape := ⟨5, ![16, 16, 16, 63, 32]⟩
abbrev S16x16x16x1x32 : Shape := ⟨5, ![16, 16, 16, 1, 32]⟩
abbrev S16x16x16x32x33 : Shape := ⟨5, ![16, 16, 16, 32, 33]⟩
abbrev S16x16x16x1x33 : Shape := ⟨5, ![16, 16, 16, 1, 33]⟩
abbrev S16x16x16x32x32 : Shape := ⟨5, ![16, 16, 16, 32, 32]⟩
abbrev S16x16x16x59x32 : Shape := ⟨5, ![16, 16, 16, 59, 32]⟩
abbrev S16x16x16x32x3 : Shape := ⟨5, ![16, 16, 16, 32, 3]⟩
abbrev S16x16x16x1x3 : Shape := ⟨5, ![16, 16, 16, 1, 3]⟩
abbrev S4096x63x32 : Shape := ⟨3, ![4096, 63, 32]⟩
abbrev S4096x1x32 : Shape := ⟨3, ![4096, 1, 32]⟩
abbrev S4096x32x33 : Shape := ⟨3, ![4096, 32, 33]⟩
abbrev S4096x1x33 : Shape := ⟨3, ![4096, 1, 33]⟩
abbrev S4096x32x32 : Shape := ⟨3, ![4096, 32, 32]⟩
abbrev S4096x59x32 : Shape := ⟨3, ![4096, 59, 32]⟩
abbrev S4096x32x3 : Shape := ⟨3, ![4096, 32, 3]⟩
abbrev S4096x1x3 : Shape := ⟨3, ![4096, 1, 3]⟩
abbrev S4096x80x128 : Shape := ⟨3, ![4096, 80, 128]⟩
abbrev S32x63x32 : Shape := ⟨3, ![32, 63, 32]⟩
abbrev S32x1x32 : Shape := ⟨3, ![32, 1, 32]⟩
abbrev S32x32x33 : Shape := ⟨3, ![32, 32, 33]⟩
abbrev S32x1x33 : Shape := ⟨3, ![32, 1, 33]⟩
abbrev S32x32x32 : Shape := ⟨3, ![32, 32, 32]⟩
abbrev S32x59x32 : Shape := ⟨3, ![32, 59, 32]⟩
abbrev S32x32x3 : Shape := ⟨3, ![32, 32, 3]⟩
abbrev S32x1x3 : Shape := ⟨3, ![32, 1, 3]⟩
abbrev S32x80x128 : Shape := ⟨3, ![32, 80, 128]⟩
abbrev S32x32x1 : Shape := ⟨3, ![32, 32, 1]⟩
abbrev S32x1x1 : Shape := ⟨3, ![32, 1, 1]⟩
abbrev S32768x1 : Shape := ⟨2, ![32768, 1]⟩
abbrev S32768 : Shape := ⟨1, ![32768]⟩
abbrev S_ : Shape := ⟨0, ![]⟩
abbrev S1 : Shape := ⟨1, ![1]⟩
abbrev S32767 : Shape := ⟨1, ![32767]⟩
abbrev S4225 : Shape := ⟨1, ![4225]⟩
abbrev S4224 : Shape := ⟨1, ![4224]⟩
abbrev S4225x1 : Shape := ⟨2, ![4225, 1]⟩
abbrev S32768x63 : Shape := ⟨2, ![32768, 63]⟩
abbrev S32768x27 : Shape := ⟨2, ![32768, 27]⟩
abbrev S512x3 : Shape := ⟨2, ![512, 3]⟩
abbrev S512x63 : Shape := ⟨2, ![512, 63]⟩
abbrev S512x27 : Shape := ⟨2, ![512, 27]⟩
abbrev S512x1 : Shape := ⟨2, ![512, 1]⟩
abbrev S32768x8 : Shape := ⟨2, ![32768, 8]⟩
abbrev S256x63 : Shape := ⟨2, ![256, 63]⟩
abbrev S256x27 : Shape := ⟨2, ![256, 27]⟩
abbrev S1x80x128 : Shape := ⟨3, ![1, 80, 128]⟩
abbrev S256x8 : Shape := ⟨2, ![256, 8]⟩
abbrev S80x128 : Shape := ⟨2, ![80, 128]⟩
abbrev S64x32 : Shape := ⟨2, ![64, 32]⟩
abbrev S40x32 : Shape := ⟨2, ![40, 32]⟩
abbrev S40x8 : Shape := ⟨2, ![40, 8]⟩
abbrev S256x1 : Shape := ⟨2, ![256, 1]⟩
abbrev S256x7 : Shape := ⟨2, ![256, 7]⟩
abbrev S256x64 : Shape := ⟨2, ![256, 64]⟩
abbrev S256x32 : Shape := ⟨2, ![256, 32]⟩
abbrev S256x40 : Shape := ⟨2, ![256, 40]⟩
abbrev S256x4 : Shape := ⟨2, ![256, 4]⟩
abbrev S256x3 : Shape := ⟨2, ![256, 3]⟩

abbrev nBuf : Space → Nat
  | .hbm => 244
  | .vmem => 38
  | .smem => 5
  | _ => 0

abbrev hbmTy0_0 (i : Nat) : BufTy := match i % 128 with
  | 0 => ⟨S32768x3, .f32⟩
  | 1 => ⟨S32768x3, .f32⟩
  | 2 => ⟨S16x16x16x63x32, .f32⟩
  | 3 => ⟨S16x16x16x1x32, .f32⟩
  | 4 => ⟨S16x16x16x32x33, .f32⟩
  | 5 => ⟨S16x16x16x1x33, .f32⟩
  | 6 => ⟨S16x16x16x32x32, .f32⟩
  | 7 => ⟨S16x16x16x1x32, .f32⟩
  | 8 => ⟨S16x16x16x59x32, .f32⟩
  | 9 => ⟨S16x16x16x1x32, .f32⟩
  | 10 => ⟨S16x16x16x32x3, .f32⟩
  | 11 => ⟨S16x16x16x1x3, .f32⟩
  | 12 => ⟨S4096x63x32, .f32⟩
  | 13 => ⟨S4096x1x32, .f32⟩
  | 14 => ⟨S4096x32x33, .f32⟩
  | 15 => ⟨S4096x1x33, .f32⟩
  | 16 => ⟨S4096x32x32, .f32⟩
  | 17 => ⟨S4096x1x32, .f32⟩
  | 18 => ⟨S4096x59x32, .f32⟩
  | 19 => ⟨S4096x1x32, .f32⟩
  | 20 => ⟨S4096x32x3, .f32⟩
  | 21 => ⟨S4096x1x3, .f32⟩
  | 22 => ⟨S4096x80x128, .f32⟩
  | 23 => ⟨S32768x1, .f32⟩
  | 24 => ⟨S32768, .f32⟩
  | 25 => ⟨S32768, .f32⟩
  | 26 => ⟨S_, .f32⟩
  | 27 => ⟨S32768, .f32⟩
  | 28 => ⟨S32768, .i1⟩
  | 29 => ⟨S32768x1, .f32⟩
  | 30 => ⟨S32768, .f32⟩
  | 31 => ⟨S32768, .f32⟩
  | 32 => ⟨S_, .f32⟩
  | 33 => ⟨S32768, .f32⟩
  | 34 => ⟨S32768, .i1⟩
  | 35 => ⟨S32768, .i1⟩
  | 36 => ⟨S32768x1, .f32⟩
  | 37 => ⟨S32768, .f32⟩
  | 38 => ⟨S32768, .f32⟩
  | 39 => ⟨S_, .f32⟩
  | 40 => ⟨S32768, .f32⟩
  | 41 => ⟨S32768, .i1⟩
  | 42 => ⟨S32768, .i1⟩
  | 43 => ⟨S_, .f32⟩
  | 44 => ⟨S32768x3, .f32⟩
  | 45 => ⟨S32768x3, .f32⟩
  | 46 => ⟨S_, .f32⟩
  | 47 => ⟨S32768x3, .f32⟩
  | 48 => ⟨S32768x3, .f32⟩
  | 49 => ⟨S32768x3, .i32⟩
  | 50 => ⟨S_, .i32⟩
  | 51 => ⟨S_, .i32⟩
  | 52 => ⟨S_, .i32⟩
  | 53 => ⟨S32768x3, .i32⟩
  | 54 => ⟨S32768x3, .i32⟩
  | 55 => ⟨S_, .i32⟩
  | 56 => ⟨S32768x3, .i32⟩
  | 57 => ⟨S32768x3, .i32⟩
  | 58 => ⟨S32768x1, .i32⟩
  | 59 => ⟨S32768, .i32⟩
  | 60 => ⟨S_, .i32⟩
  | 61 => ⟨S32768, .i32⟩
  | 62 => ⟨S32768, .i32⟩
  | 63 => ⟨S32768x1, .i32⟩
  | 64 => ⟨S32768, .i32⟩
  | 65 => ⟨S32768, .i32⟩
  | 66 => ⟨S_, .i32⟩
  | 67 => ⟨S32768, .i32⟩
  | 68 => ⟨S32768, .i32⟩
  | 69 => ⟨S32768x1, .i32⟩
  | 70 => ⟨S32768, .i32⟩
  | 71 => ⟨S32768, .i32⟩
  | 72 => ⟨S_, .i32⟩
  | 73 => ⟨S_, .i32⟩
  | 74 => ⟨S32768, .i32⟩
  | 75 => ⟨S32768, .i32⟩
  | 76 => ⟨S32768, .i32⟩
  | 77 => ⟨S32768, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S32768x1, .i32⟩
  | 87 => ⟨S32768x3, .f32⟩
  | 88 => ⟨S_, .i32⟩
  | 89 => ⟨S32768, .i32⟩
  | 90 => ⟨S32768, .i1⟩
  | 91 => ⟨S_, .i32⟩
  | 92 => ⟨S32768, .i32⟩
  | 93 => ⟨S32768, .i32⟩
  | 94 => ⟨S32768, .i32⟩
  | 95 => ⟨S32768x1, .i32⟩
  | 96 => ⟨S32768x3, .f32⟩
  | 97 => ⟨S_, .i32⟩
  | 98 => ⟨S1, .i32⟩
  | 99 => ⟨S32767, .i32⟩
  | 100 => ⟨S32768, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S32768, .i32⟩
  | 108 => ⟨S32768, .i32⟩
  | 109 => ⟨S_, .i32⟩
  | 110 => ⟨S32768, .i32⟩
  | 111 => ⟨S32768, .i1⟩
  | 112 => ⟨S_, .i32⟩
  | 113 => ⟨S32768, .i32⟩
  | 114 => ⟨S32768, .i1⟩
  | 115 => ⟨S_, .i32⟩
  | 116 => ⟨S_, .i1⟩
  | 117 => ⟨S32768, .i1⟩
  | 118 => ⟨S32768, .i1⟩
  | 119 => ⟨S32768, .i1⟩
  | 120 => ⟨S32768, .i32⟩
  | 121 => ⟨S32768, .i32⟩
  | 122 => ⟨S32768, .i32⟩
  | 123 => ⟨S_, .i32⟩
  | 124 => ⟨S32768, .i32⟩
  | 125 => ⟨S32768, .i1⟩
  | 126 => ⟨S32768, .i1⟩
  | 127 => ⟨S32768, .i1⟩
  | _ => ⟨S32768x3, .f32⟩

abbrev hbmTy0_1 (i : Nat) : BufTy := match i % 128 with
  | 0 => ⟨S_, .i32⟩
  | 1 => ⟨S_, .i32⟩
  | 2 => ⟨S32768, .i32⟩
  | 3 => ⟨S32768, .i32⟩
  | 4 => ⟨S32768, .i32⟩
  | 5 => ⟨S4225, .i32⟩
  | 6 => ⟨S4224, .i32⟩
  | 7 => ⟨S_, .i32⟩
  | 8 => ⟨S1, .i32⟩
  | 9 => ⟨S4225, .i32⟩
  | 10 => ⟨S_, .i32⟩
  | 11 => ⟨S4225, .i32⟩
  | 12 => ⟨S4225, .i1⟩
  | 13 => ⟨S_, .i32⟩
  | 14 => ⟨S_, .i32⟩
  | 15 => ⟨S4225, .i32⟩
  | 16 => ⟨S4225, .i32⟩
  | 17 => ⟨S4225, .i32⟩
  | 18 => ⟨S_, .i32⟩
  | 19 => ⟨S4225, .i32⟩
  | 20 => ⟨S4225, .i1⟩
  | 21 => ⟨S4225, .i32⟩
  | 22 => ⟨S4225, .i32⟩
  | 23 => ⟨S_, .i32⟩
  | 24 => ⟨S4225, .i32⟩
  | 25 => ⟨S4225, .i1⟩
  | 26 => ⟨S4225, .i1⟩
  | 27 => ⟨S_, .i32⟩
  | 28 => ⟨S4225, .i32⟩
  | 29 => ⟨S4225, .i32⟩
  | 30 => ⟨S4225, .i32⟩
  | 31 => ⟨S_, .i32⟩
  | 32 => ⟨S4225, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4225, .i32⟩
  | 40 => ⟨S4225, .i32⟩
  | 41 => ⟨S_, .i32⟩
  | 42 => ⟨S4225, .i32⟩
  | 43 => ⟨S4225, .i1⟩
  | 44 => ⟨S_, .i32⟩
  | 45 => ⟨S4225, .i32⟩
  | 46 => ⟨S4225, .i1⟩
  | 47 => ⟨S_, .i32⟩
  | 48 => ⟨S_, .i1⟩
  | 49 => ⟨S4225, .i1⟩
  | 50 => ⟨S4225, .i1⟩
  | 51 => ⟨S4225, .i1⟩
  | 52 => ⟨S4225, .i32⟩
  | 53 => ⟨S4225, .i32⟩
  | 54 => ⟨S_, .i32⟩
  | 55 => ⟨S4225, .i32⟩
  | 56 => ⟨S4225, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S4225, .i32⟩
  | 64 => ⟨S4225, .i32⟩
  | 65 => ⟨S_, .i32⟩
  | 66 => ⟨S4225, .i32⟩
  | 67 => ⟨S4225, .i1⟩
  | 68 => ⟨S_, .i32⟩
  | 69 => ⟨S4225, .i32⟩
  | 70 => ⟨S4225, .i1⟩
  | 71 => ⟨S_, .i32⟩
  | 72 => ⟨S_, .i1⟩
  | 73 => ⟨S4225, .i1⟩
  | 74 => ⟨S4225, .i1⟩
  | 75 => ⟨S4225, .i1⟩
  | 76 => ⟨S4225, .i32⟩
  | 77 => ⟨S4225, .i32⟩
  | 78 => ⟨S4225, .i32⟩
  | 79 => ⟨S_, .i32⟩
  | 80 => ⟨S4225, .i32⟩
  | 81 => ⟨S4225, .i32⟩
  | 82 => ⟨S_, .i32⟩
  | 83 => ⟨S_, .i32⟩
  | 84 => ⟨S4225, .i32⟩
  | 85 => ⟨S_, .i32⟩
  | 86 => ⟨S4225, .i32⟩
  | 87 => ⟨S4225, .i32⟩
  | 88 => ⟨S_, .i32⟩
  | 89 => ⟨S4225, .i32⟩
  | 90 => ⟨S4225, .i1⟩
  | 91 => ⟨S_, .i32⟩
  | 92 => ⟨S4225, .i32⟩
  | 93 => ⟨S4225, .i32⟩
  | 94 => ⟨S4225, .i32⟩
  | 95 => ⟨S4225x1, .i32⟩
  | 96 => ⟨S_, .i32⟩
  | 97 => ⟨S4225, .i32⟩
  | 98 => ⟨S4225, .i1⟩
  | 99 => ⟨S4225, .i1⟩
  | 100 => ⟨S32768x63, .f32⟩
  | 101 => ⟨S32768x27, .f32⟩
  | 102 => ⟨S32768x8, .f32⟩
  | 103 => ⟨S_, .f32⟩
  | 104 => ⟨S32768x8, .f32⟩
  | 105 => ⟨S_, .i32⟩
  | 106 => ⟨S32768, .i32⟩
  | 107 => ⟨S32768, .i1⟩
  | 108 => ⟨S_, .i32⟩
  | 109 => ⟨S32768, .i32⟩
  | 110 => ⟨S32768, .i32⟩
  | 111 => ⟨S32768, .i32⟩
  | 112 => ⟨S32768x1, .i32⟩
  | 113 => ⟨S32768x8, .f32⟩
  | 114 => ⟨S32768x3, .f32⟩
  | 115 => ⟨S32768x1, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | .local _ .vmem, ⟨0, _⟩ => ⟨S32x63x32, .f32⟩
  | .local _ .vmem, ⟨1, _⟩ => ⟨S32x63x32, .f32⟩
  | .local _ .vmem, ⟨2, _⟩ => ⟨S32x1x32, .f32⟩
  | .local _ .vmem, ⟨3, _⟩ => ⟨S32x1x32, .f32⟩
  | .local _ .vmem, ⟨4, _⟩ => ⟨S32x32x33, .f32⟩
  | .local _ .vmem, ⟨5, _⟩ => ⟨S32x32x33, .f32⟩
  | .local _ .vmem, ⟨6, _⟩ => ⟨S32x1x33, .f32⟩
  | .local _ .vmem, ⟨7, _⟩ => ⟨S32x1x33, .f32⟩
  | .local _ .vmem, ⟨8, _⟩ => ⟨S32x32x32, .f32⟩
  | .local _ .vmem, ⟨9, _⟩ => ⟨S32x32x32, .f32⟩
  | .local _ .vmem, ⟨10, _⟩ => ⟨S32x1x32, .f32⟩
  | .local _ .vmem, ⟨11, _⟩ => ⟨S32x1x32, .f32⟩
  | .local _ .vmem, ⟨12, _⟩ => ⟨S32x59x32, .f32⟩
  | .local _ .vmem, ⟨13, _⟩ => ⟨S32x59x32, .f32⟩
  | .local _ .vmem, ⟨14, _⟩ => ⟨S32x1x32, .f32⟩
  | .local _ .vmem, ⟨15, _⟩ => ⟨S32x1x32, .f32⟩
  | .local _ .vmem, ⟨16, _⟩ => ⟨S32x32x3, .f32⟩
  | .local _ .vmem, ⟨17, _⟩ => ⟨S32x32x3, .f32⟩
  | .local _ .vmem, ⟨18, _⟩ => ⟨S32x1x3, .f32⟩
  | .local _ .vmem, ⟨19, _⟩ => ⟨S32x1x3, .f32⟩
  | .local _ .vmem, ⟨20, _⟩ => ⟨S32x80x128, .f32⟩
  | .local _ .vmem, ⟨21, _⟩ => ⟨S32x80x128, .f32⟩
  | .local _ .vmem, ⟨22, _⟩ => ⟨S512x3, .f32⟩
  | .local _ .vmem, ⟨23, _⟩ => ⟨S512x3, .f32⟩
  | .local _ .vmem, ⟨24, _⟩ => ⟨S512x3, .f32⟩
  | .local _ .vmem, ⟨25, _⟩ => ⟨S512x3, .f32⟩
  | .local _ .vmem, ⟨26, _⟩ => ⟨S512x63, .f32⟩
  | .local _ .vmem, ⟨27, _⟩ => ⟨S512x63, .f32⟩
  | .local _ .vmem, ⟨28, _⟩ => ⟨S512x27, .f32⟩
  | .local _ .vmem, ⟨29, _⟩ => ⟨S512x27, .f32⟩
  | .local _ .vmem, ⟨30, _⟩ => ⟨S256x63, .f32⟩
  | .local _ .vmem, ⟨31, _⟩ => ⟨S256x63, .f32⟩
  | .local _ .vmem, ⟨32, _⟩ => ⟨S256x27, .f32⟩
  | .local _ .vmem, ⟨33, _⟩ => ⟨S256x27, .f32⟩
  | .local _ .vmem, ⟨34, _⟩ => ⟨S1x80x128, .f32⟩
  | .local _ .vmem, ⟨35, _⟩ => ⟨S1x80x128, .f32⟩
  | .local _ .vmem, ⟨36, _⟩ => ⟨S256x8, .f32⟩
  | .local _ .vmem, ⟨37, _⟩ => ⟨S256x8, .f32⟩
  | .local _ .smem, ⟨0, _⟩ => ⟨S4225, .i32⟩
  | .local _ .smem, ⟨1, _⟩ => ⟨S4225, .i32⟩
  | .local _ .smem, ⟨2, _⟩ => ⟨S4225, .i32⟩
  | .local _ .smem, ⟨3, _⟩ => ⟨S4225, .i32⟩
  | .local _ .smem, ⟨4, _⟩ => ⟨S4225, .i32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_c_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_call1_v0 : Ref sig .tc := ⟨.hbm, 73, rfl⟩
abbrev main_call1_v1 : Ref sig .tc := ⟨.hbm, 74, rfl⟩
abbrev main_v46 : Ref sig .tc := ⟨.hbm, 75, rfl⟩
abbrev main_v47 : Ref sig .tc := ⟨.hbm, 76, rfl⟩
abbrev main_v48_0 : Ref sig .tc := ⟨.hbm, 77, rfl⟩
abbrev main_v48_1 : Ref sig .tc := ⟨.hbm, 78, rfl⟩
abbrev main_c_8 : Ref sig .tc := ⟨.hbm, 79, rfl⟩
abbrev main_v49 : Ref sig .tc := ⟨.hbm, 80, rfl⟩
abbrev main_v50 : Ref sig .tc := ⟨.hbm, 81, rfl⟩
abbrev main_c_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_c_1 : Ref sig .tc := ⟨.hbm, 109, rfl⟩
abbrev main_call2_v5 : Ref sig .tc := ⟨.hbm, 110, rfl⟩
abbrev main_call2_v6 : Ref sig .tc := ⟨.hbm, 111, rfl⟩
abbrev main_call2_c_2 : Ref sig .tc := ⟨.hbm, 112, rfl⟩
abbrev main_call2_v7 : Ref sig .tc := ⟨.hbm, 113, rfl⟩
abbrev main_call2_v8 : Ref sig .tc := ⟨.hbm, 114, rfl⟩
abbrev main_call2_c_3 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_v66 : Ref sig .tc := ⟨.hbm, 122, rfl⟩
abbrev main_c_14 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_c_15 : Ref sig .tc := ⟨.hbm, 128, rfl⟩
abbrev main_call3_v0 : Ref sig .tc := ⟨.hbm, 129, rfl⟩
abbrev main_call3_v1 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_c_16 : Ref sig .tc := ⟨.hbm, 135, rfl⟩
abbrev main_v75 : Ref sig .tc := ⟨.hbm, 136, rfl⟩
abbrev main_v76 : Ref sig .tc := ⟨.hbm, 137, rfl⟩
abbrev main_c_17 : Ref sig .tc := ⟨.hbm, 138, rfl⟩
abbrev main_v77 : Ref sig .tc := ⟨.hbm, 139, rfl⟩
abbrev main_v78 : Ref sig .tc := ⟨.hbm, 140, rfl⟩
abbrev main_c_18 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_c : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_0 : Ref sig .tc := ⟨.hbm, 155, rfl⟩
abbrev main_call4_v12 : Ref sig .tc := ⟨.hbm, 156, rfl⟩
abbrev main_call4_v13 : Ref sig .tc := ⟨.hbm, 157, rfl⟩
abbrev main_v79 : Ref sig .tc := ⟨.hbm, 158, rfl⟩
abbrev main_c_19 : Ref sig .tc := ⟨.hbm, 159, rfl⟩
abbrev main_v80 : Ref sig .tc := ⟨.hbm, 160, rfl⟩
abbrev main_c_20 : Ref sig .tc := ⟨.hbm, 161, rfl⟩
abbrev main_call5_v0 : Ref sig .tc := ⟨.hbm, 162, rfl⟩
abbrev main_call5_c : Ref sig .tc := ⟨.hbm, 163, rfl⟩
abbrev main_call5_v1 : Ref sig .tc := ⟨.hbm, 164, rfl⟩
abbrev main_call5_c_0 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_c_1 : Ref sig .tc := ⟨.hbm, 169, rfl⟩
abbrev main_call5_v5 : Ref sig .tc := ⟨.hbm, 170, rfl⟩
abbrev main_call5_v6 : Ref sig .tc := ⟨.hbm, 171, rfl⟩
abbrev main_call5_c_2 : Ref sig .tc := ⟨.hbm, 172, rfl⟩
abbrev main_call5_v7 : Ref sig .tc := ⟨.hbm, 173, rfl⟩
abbrev main_call5_v8 : Ref sig .tc := ⟨.hbm, 174, rfl⟩
abbrev main_call5_c_3 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_v12 : Ref sig .tc := ⟨.hbm, 179, rfl⟩
abbrev main_call5_v13 : Ref sig .tc := ⟨.hbm, 180, rfl⟩
abbrev main_call5_v14 : Ref sig .tc := ⟨.hbm, 181, rfl⟩
abbrev main_c_21 : Ref sig .tc := ⟨.hbm, 182, rfl⟩
abbrev main_v83 : Ref sig .tc := ⟨.hbm, 183, rfl⟩
abbrev main_v84 : Ref sig .tc := ⟨.hbm, 184, rfl⟩
abbrev main_c_22 : Ref sig .tc := ⟨.hbm, 185, rfl⟩
abbrev main_call6_v0 : Ref sig .tc := ⟨.hbm, 186, rfl⟩
abbrev main_call6_c : Ref sig .tc := ⟨.hbm, 187, rfl⟩
abbrev main_call6_v1 : Ref sig .tc := ⟨.hbm, 188, rfl⟩
abbrev main_call6_c_0 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_call6_c_1 : Ref sig .tc := ⟨.hbm, 193, rfl⟩
abbrev main_call6_v5 : Ref sig .tc := ⟨.hbm, 194, rfl⟩
abbrev main_call6_v6 : Ref sig .tc := ⟨.hbm, 195, rfl⟩
abbrev main_call6_c_2 : Ref sig .tc := ⟨.hbm, 196, rfl⟩
abbrev main_call6_v7 : Ref sig .tc := ⟨.hbm, 197, rfl⟩
abbrev main_call6_v8 : Ref sig .tc := ⟨.hbm, 198, rfl⟩
abbrev main_call6_c_3 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_v12 : Ref sig .tc := ⟨.hbm, 203, rfl⟩
abbrev main_call6_v13 : Ref sig .tc := ⟨.hbm, 204, rfl⟩
abbrev main_call6_v14 : Ref sig .tc := ⟨.hbm, 205, rfl⟩
abbrev main_v85 : Ref sig .tc := ⟨.hbm, 206, rfl⟩
abbrev main_c_23 : Ref sig .tc := ⟨.hbm, 207, rfl⟩
abbrev main_v86 : Ref sig .tc := ⟨.hbm, 208, rfl⟩
abbrev main_v87 : Ref sig .tc := ⟨.hbm, 209, rfl⟩
abbrev main_c_24 : Ref sig .tc := ⟨.hbm, 210, rfl⟩
abbrev main_call7_v0 : Ref sig .tc := ⟨.hbm, 211, rfl⟩
abbrev main_call7_v1 : Ref sig .tc := ⟨.hbm, 212, rfl⟩
abbrev main_c_25 : Ref sig .tc := ⟨.hbm, 213, rfl⟩
abbrev main_v89 : Ref sig .tc := ⟨.hbm, 214, rfl⟩
abbrev main_v90 : Ref sig .tc := ⟨.hbm, 215, rfl⟩
abbrev main_c_26 : Ref sig .tc := ⟨.hbm, 216, rfl⟩
abbrev main_v91 : Ref sig .tc := ⟨.hbm, 217, rfl⟩
abbrev main_v92 : Ref sig .tc := ⟨.hbm, 218, rfl⟩
abbrev main_c_27 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev main_v96 : Ref sig .tc := ⟨.hbm, 223, rfl⟩
abbrev main_c_28 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v102_0 : Ref sig .tc := ⟨.hbm, 228, rfl⟩
abbrev main_v102_1 : Ref sig .tc := ⟨.hbm, 229, rfl⟩
abbrev main_v103 : Ref sig .tc := ⟨.hbm, 230, rfl⟩
abbrev main_cst_29 : Ref sig .tc := ⟨.hbm, 231, rfl⟩
abbrev main_v104 : Ref sig .tc := ⟨.hbm, 232, rfl⟩
abbrev main_c_30 : Ref sig .tc := ⟨.hbm, 233, rfl⟩
abbrev main_v105 : Ref sig .tc := ⟨.hbm, 234, rfl⟩
abbrev main_v106 : Ref sig .tc := ⟨.hbm, 235, rfl⟩
abbrev main_c_31 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v81 : Ref sig .tc := ⟨.smem, 0, rfl⟩
abbrev main_v97 : Ref sig .tc := ⟨.smem, 1, rfl⟩
abbrev main_v82 : Ref sig .tc := ⟨.smem, 2, rfl⟩
abbrev main_v88 : Ref sig .tc := ⟨.smem, 3, rfl⟩
abbrev main_v101 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x63x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1x33 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x59x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x32x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x80x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x63 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x27 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4225], ![false]⟩

abbrev pre2 : Pipeline.Prefetch sig := ⟨5, ![main_v81.idx, main_v97.idx, main_v82.idx, main_v88.idx, main_v101.idx], fun | 0 => main_v81.names | 1 => main_v97.names | 2 => main_v82.names | 3 => main_v88.names | 4 => main_v101.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (v1 : BitVec 32) (v3 : BitVec 32) (v7 : BitVec 32) (v9 : BitVec 32) : BitVec 1 :=
  let c0_i32 : BitVec 32 := 0#32
  let v10 : BitVec 1 := Scalar.cmpi .sgt v9 c0_i32
  let v11 : BitVec 1 := Scalar.cmpi .sgt v3 v1
  let c4096_i32 : BitVec 32 := 4096#32
  let v12 : BitVec 1 := Scalar.cmpi .slt v7 c4096_i32
  let v13 : BitVec 1 := Scalar.andi v11 v12
  let v14 : BitVec 1 := Scalar.ori v10 v13
  let v15 : BitVec 32 := Scalar.extui v14
  let c0_i32_0 : BitVec 32 := 0#32
  let v16 : BitVec 1 := Scalar.cmpi .ne v15 c0_i32_0
  v16

def cc2_transform_0 (k2_off1_inb : ∀ i : grid2.Coords, ∀ a, (k2_off1 i) a + S1.size a ≤ S4225.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S4225) ![v0.toNat] S1.size (k2_off1_inb i)) numel1_S1
  let c0_i32 : BitVec 32 := 0#32
  let c0_i32_0 : BitVec 32 := 0#32
  ![v1.toNat, c0_i32.toNat]

def cc2_transform_1 (k2_off1_inb : ∀ i : grid2.Coords, ∀ a, (k2_off1 i) a + S1.size a ≤ S4225.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S4225) ![v0.toNat] S1.size (k2_off1_inb i)) numel1_S1
  let c0_i32 : BitVec 32 := 0#32
  let c0_i32_0 : BitVec 32 := 0#32
  ![v1.toNat, c0_i32.toNat]

def cc2_transform_2 (k2_off1_inb : ∀ i : grid2.Coords, ∀ a, (k2_off1 i) a + S1.size a ≤ S4225.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S4225) ![v0.toNat] S1.size (k2_off1_inb i)) numel1_S1
  let c4095_i32 : BitVec 32 := 4095#32
  let v2 : BitVec 32 := Scalar.minsi v1 c4095_i32
  let c0_i32 : BitVec 32 := 0#32
  let c0_i32_0 : BitVec 32 := 0#32
  let c0_i32_1 : BitVec 32 := 0#32
  ![v2.toNat, c0_i32.toNat, c0_i32_0.toNat]

def cc2_transform_3 (k2_off1_inb : ∀ i : grid2.Coords, ∀ a, (k2_off1 i) a + S1.size a ≤ S4225.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S4225) ![v0.toNat] S1.size (k2_off1_inb i)) numel1_S1
  let c0_i32 : BitVec 32 := 0#32
  let c0_i32_0 : BitVec 32 := 0#32
  ![v1.toNat, c0_i32.toNat]

abbrev stage2_0 : Fin 2 → Memref sig .tc .vmem S256x63 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x27 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x80x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S32768x3 : Shape := ⟨2, ![32768, 3]⟩
abbrev S16x16x16x63x32 : Shape := ⟨5, ![16, 16, 16, 63, 32]⟩
abbrev S16x16x16x1x32 : Shape := ⟨5, ![16, 16, 16, 1, 32]⟩
abbrev S16x16x16x32x33 : Shape := ⟨5, ![16, 16, 16, 32, 33]⟩
abbrev S16x16x16x1x33 : Shape := ⟨5, ![16, 16, 16, 1, 33]⟩
abbrev S16x16x16x32x32 : Shape := ⟨5, ![16, 16, 16, 32, 32]⟩
abbrev S16x16x16x59x32 : Shape := ⟨5, ![16, 16, 16, 59, 32]⟩
abbrev S16x16x16x32x3 : Shape := ⟨5, ![16, 16, 16, 32, 3]⟩
abbrev S16x16x16x1x3 : Shape := ⟨5, ![16, 16, 16, 1, 3]⟩
abbrev S32768x1 : Shape := ⟨2, ![32768, 1]⟩
abbrev S32768 : Shape := ⟨1, ![32768]⟩
abbrev S_ : Shape := ⟨0, ![]⟩
abbrev S32768x48 : Shape := ⟨2, ![32768, 48]⟩
abbrev S32768x15 : Shape := ⟨2, ![32768, 15]⟩
abbrev S32768x63 : Shape := ⟨2, ![32768, 63]⟩
abbrev S32768x1x63 : Shape := ⟨3, ![32768, 1, 63]⟩
abbrev S32768x27 : Shape := ⟨2, ![32768, 27]⟩
abbrev S32768x1x27 : Shape := ⟨3, ![32768, 1, 27]⟩
abbrev S32768x63x32 : Shape := ⟨3, ![32768, 63, 32]⟩
abbrev S32768x1x32 : Shape := ⟨3, ![32768, 1, 32]⟩
abbrev S32768x32x33 : Shape := ⟨3, ![32768, 32, 33]⟩
abbrev S32768x1x33 : Shape := ⟨3, ![32768, 1, 33]⟩
abbrev S32768x33 : Shape := ⟨2, ![32768, 33]⟩
abbrev S32768x32x32 : Shape := ⟨3, ![32768, 32, 32]⟩
abbrev S32768x1x59 : Shape := ⟨3, ![32768, 1, 59]⟩
abbrev S32768x59x32 : Shape := ⟨3, ![32768, 59, 32]⟩
abbrev S32768x32x3 : Shape := ⟨3, ![32768, 32, 3]⟩
abbrev S32768x1x3 : Shape := ⟨3, ![32768, 1, 3]⟩

abbrev nBuf : Space → Nat
  | .hbm => 477
  | .vmem => 0
  | .smem => 0
  | _ => 0

abbrev hbmTy0_0 (i : Nat) : BufTy := match i % 128 with
  | 0 => ⟨S32768x3, .f32⟩
  | 1 => ⟨S32768x3, .f32⟩
  | 2 => ⟨S16x16x16x63x32, .f32⟩
  | 3 => ⟨S16x16x16x1x32, .f32⟩
  | 4 => ⟨S16x16x16x32x33, .f32⟩
  | 5 => ⟨S16x16x16x1x33, .f32⟩
  | 6 => ⟨S16x16x16x32x32, .f32⟩
  | 7 => ⟨S16x16x16x1x32, .f32⟩
  | 8 => ⟨S16x16x16x59x32, .f32⟩
  | 9 => ⟨S16x16x16x1x32, .f32⟩
  | 10 => ⟨S16x16x16x32x3, .f32⟩
  | 11 => ⟨S16x16x16x1x3, .f32⟩
  | 12 => ⟨S32768x1, .f32⟩
  | 13 => ⟨S32768, .f32⟩
  | 14 => ⟨S32768, .f32⟩
  | 15 => ⟨S_, .f32⟩
  | 16 => ⟨S32768, .f32⟩
  | 17 => ⟨S32768, .i1⟩
  | 18 => ⟨S32768x1, .f32⟩
  | 19 => ⟨S32768, .f32⟩
  | 20 => ⟨S32768, .f32⟩
  | 21 => ⟨S_, .f32⟩
  | 22 => ⟨S32768, .f32⟩
  | 23 => ⟨S32768, .i1⟩
  | 24 => ⟨S32768, .i1⟩
  | 25 => ⟨S32768x1, .f32⟩
  | 26 => ⟨S32768, .f32⟩
  | 27 => ⟨S32768, .f32⟩
  | 28 => ⟨S_, .f32⟩
  | 29 => ⟨S32768, .f32⟩
  | 30 => ⟨S32768, .i1⟩
  | 31 => ⟨S32768, .i1⟩
  | 32 => ⟨S_, .f32⟩
  | 33 => ⟨S32768x3, .f32⟩
  | 34 => ⟨S32768x3, .f32⟩
  | 35 => ⟨S32768x3, .f32⟩
  | 36 => ⟨S_, .f32⟩
  | 37 => ⟨S32768x3, .f32⟩
  | 38 => ⟨S32768x3, .f32⟩
  | 39 => ⟨S32768x3, .f32⟩
  | 40 => ⟨S_, .f32⟩
  | 41 => ⟨S32768x3, .f32⟩
  | 42 => ⟨S32768x3, .f32⟩
  | 43 => ⟨S32768x3, .f32⟩
  | 44 => ⟨S_, .f32⟩
  | 45 => ⟨S32768x3, .f32⟩
  | 46 => ⟨S32768x3, .f32⟩
  | 47 => ⟨S32768x3, .f32⟩
  | 48 => ⟨S_, .f32⟩
  | 49 => ⟨S32768x3, .f32⟩
  | 50 => ⟨S32768x3, .f32⟩
  | 51 => ⟨S32768x3, .f32⟩
  | 52 => ⟨S_, .f32⟩
  | 53 => ⟨S32768x3, .f32⟩
  | 54 => ⟨S32768x3, .f32⟩
  | 55 => ⟨S32768x3, .f32⟩
  | 56 => ⟨S_, .f32⟩
  | 57 => ⟨S32768x3, .f32⟩
  | 58 => ⟨S32768x3, .f32⟩
  | 59 => ⟨S32768x3, .f32⟩
  | 60 => ⟨S_, .f32⟩
  | 61 => ⟨S32768x3, .f32⟩
  | 62 => ⟨S32768x3, .f32⟩
  | 63 => ⟨S32768x3, .f32⟩
  | 64 => ⟨S_, .f32⟩
  | 65 => ⟨S32768x3, .f32⟩
  | 66 => ⟨S32768x3, .f32⟩
  | 67 => ⟨S32768x3, .f32⟩
  | 68 => ⟨S_, .f32⟩
  | 69 => ⟨S32768x3, .f32⟩
  | 70 => ⟨S32768x3, .f32⟩
  | 71 => ⟨S32768x3, .f32⟩
  | 72 => ⟨S_, .f32⟩
  | 73 => ⟨S32768x3, .f32⟩
  | 74 => ⟨S32768x3, .f32⟩
  | 75 => ⟨S32768x3, .f32⟩
  | 76 => ⟨S_, .f32⟩
  | 77 => ⟨S32768x3, .f32⟩
  | 78 => ⟨S32768x3, .f32⟩
  | 79 => ⟨S32768x3, .f32⟩
  | 80 => ⟨S_, .f32⟩
  | 81 => ⟨S32768x3, .f32⟩
  | 82 => ⟨S32768x3, .f32⟩
  | 83 => ⟨S32768x3, .f32⟩
  | 84 => ⟨S_, .f32⟩
  | 85 => ⟨S32768x3, .f32⟩
  | 86 => ⟨S32768x3, .f32⟩
  | 87 => ⟨S32768x3, .f32⟩
  | 88 => ⟨S_, .f32⟩
  | 89 => ⟨S32768x3, .f32⟩
  | 90 => ⟨S32768x3, .f32⟩
  | 91 => ⟨S32768x3, .f32⟩
  | 92 => ⟨S_, .f32⟩
  | 93 => ⟨S32768x3, .f32⟩
  | 94 => ⟨S32768x3, .f32⟩
  | 95 => ⟨S32768x3, .f32⟩
  | 96 => ⟨S_, .f32⟩
  | 97 => ⟨S32768x3, .f32⟩
  | 98 => ⟨S32768x3, .f32⟩
  | 99 => ⟨S32768x3, .f32⟩
  | 100 => ⟨S_, .f32⟩
  | 101 => ⟨S32768x3, .f32⟩
  | 102 => ⟨S32768x3, .f32⟩
  | 103 => ⟨S32768x3, .f32⟩
  | 104 => ⟨S_, .f32⟩
  | 105 => ⟨S32768x3, .f32⟩
  | 106 => ⟨S32768x3, .f32⟩
  | 107 => ⟨S32768x3, .f32⟩
  | 108 => ⟨S_, .f32⟩
  | 109 => ⟨S32768x3, .f32⟩
  | 110 => ⟨S32768x3, .f32⟩
  | 111 => ⟨S32768x3, .f32⟩
  | 112 => ⟨S32768x48, .f32⟩
  | 113 => ⟨S32768x15, .f32⟩
  | 114 => ⟨S32768x63, .f32⟩
  | 115 => ⟨S32768x1x63, .f32⟩
  | 116 => ⟨S_, .f32⟩
  | 117 => ⟨S32768x3, .f32⟩
  | 118 => ⟨S32768x3, .f32⟩
  | 119 => ⟨S32768x3, .f32⟩
  | 120 => ⟨S_, .f32⟩
  | 121 => ⟨S32768x3, .f32⟩
  | 122 => ⟨S32768x3, .f32⟩
  | 123 => ⟨S32768x3, .f32⟩
  | 124 => ⟨S_, .f32⟩
  | 125 => ⟨S32768x3, .f32⟩
  | 126 => ⟨S32768x3, .f32⟩
  | 127 => ⟨S32768x3, .f32⟩
  | _ => ⟨S32768x3, .f32⟩

abbrev hbmTy0_1 (i : Nat) : BufTy := match i % 128 with
  | 0 => ⟨S_, .f32⟩
  | 1 => ⟨S32768x3, .f32⟩
  | 2 => ⟨S32768x3, .f32⟩
  | 3 => ⟨S32768x3, .f32⟩
  | 4 => ⟨S_, .f32⟩
  | 5 => ⟨S32768x3, .f32⟩
  | 6 => ⟨S32768x3, .f32⟩
  | 7 => ⟨S32768x3, .f32⟩
  | 8 => ⟨S_, .f32⟩
  | 9 => ⟨S32768x3, .f32⟩
  | 10 => ⟨S32768x3, .f32⟩
  | 11 => ⟨S32768x3, .f32⟩
  | 12 => ⟨S_, .f32⟩
  | 13 => ⟨S32768x3, .f32⟩
  | 14 => ⟨S32768x3, .f32⟩
  | 15 => ⟨S32768x3, .f32⟩
  | 16 => ⟨S_, .f32⟩
  | 17 => ⟨S32768x3, .f32⟩
  | 18 => ⟨S32768x3, .f32⟩
  | 19 => ⟨S32768x3, .f32⟩
  | 20 => ⟨S32768x27, .f32⟩
  | 21 => ⟨S32768x1x27, .f32⟩
  | 22 => ⟨S_, .f32⟩
  | 23 => ⟨S32768x3, .f32⟩
  | 24 => ⟨S32768x3, .f32⟩
  | 25 => ⟨S_, .f32⟩
  | 26 => ⟨S32768x3, .f32⟩
  | 27 => ⟨S32768x3, .f32⟩
  | 28 => ⟨S32768x3, .i32⟩
  | 29 => ⟨S_, .i32⟩
  | 30 => ⟨S_, .i32⟩
  | 31 => ⟨S_, .i32⟩
  | 32 => ⟨S32768x3, .i32⟩
  | 33 => ⟨S32768x3, .i32⟩
  | 34 => ⟨S_, .i32⟩
  | 35 => ⟨S32768x3, .i32⟩
  | 36 => ⟨S32768x3, .i32⟩
  | 37 => ⟨S32768x1, .i32⟩
  | 38 => ⟨S32768, .i32⟩
  | 39 => ⟨S32768x1, .i32⟩
  | 40 => ⟨S32768, .i32⟩
  | 41 => ⟨S32768x1, .i32⟩
  | 42 => ⟨S32768, .i32⟩
  | 43 => ⟨S_, .i32⟩
  | 44 => ⟨S32768, .i32⟩
  | 45 => ⟨S32768, .i1⟩
  | 46 => ⟨S_, .i32⟩
  | 47 => ⟨S32768, .i32⟩
  | 48 => ⟨S32768, .i32⟩
  | 49 => ⟨S32768, .i32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S32768x1, .i32⟩
  | 65 => ⟨S32768x1, .i32⟩
  | 66 => ⟨S32768x1, .i32⟩
  | 67 => ⟨S32768x3, .i32⟩
  | 68 => ⟨S32768x63x32, .f32⟩
  | 69 => ⟨S32768x1x32, .f32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S32768x1, .i32⟩
  | 93 => ⟨S32768x1, .i32⟩
  | 94 => ⟨S32768x3, .i32⟩
  | 95 => ⟨S32768x1x32, .f32⟩
  | 96 => ⟨S32768x1x32, .f32⟩
  | 97 => ⟨S_, .f32⟩
  | 98 => ⟨S32768x1x32, .f32⟩
  | 99 => ⟨S32768x1x32, .f32⟩
  | 100 => ⟨S_, .i32⟩
  | 101 => ⟨S32768, .i32⟩
  | 102 => ⟨S32768, .i1⟩
  | 103 => ⟨S_, .i32⟩
  | 104 => ⟨S32768, .i32⟩
  | 105 => ⟨S32768, .i32⟩
  | 106 => ⟨S32768, .i32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x1, .i32⟩
  | 123 => ⟨S32768x1, .i32⟩
  | 124 => ⟨S32768x3, .i32⟩
  | 125 => ⟨S32768x32x33, .f32⟩
  | 126 => ⟨S32768x1x33, .f32⟩
  | 127 => ⟨S_, .i32⟩
  | _ => ⟨S32768x3, .f32⟩

abbrev hbmTy0_2 (i : Nat) : BufTy := match i % 128 with
  | 0 => ⟨S32768, .i32⟩
  | 1 => ⟨S32768, .i1⟩
  | 2 => ⟨S_, .i32⟩
  | 3 => ⟨S32768, .i32⟩
  | 4 => ⟨S32768, .i32⟩
  | 5 => ⟨S32768, .i32⟩
  | 6 => ⟨S_, .i32⟩
  | 7 => ⟨S32768, .i32⟩
  | 8 => ⟨S32768, .i1⟩
  | 9 => ⟨S_, .i32⟩
  | 10 => ⟨S32768, .i32⟩
  | 11 => ⟨S32768, .i32⟩
  | 12 => ⟨S32768, .i32⟩
  | 13 => ⟨S_, .i32⟩
  | 14 => ⟨S32768, .i32⟩
  | 15 => ⟨S32768, .i1⟩
  | 16 => ⟨S_, .i32⟩
  | 17 => ⟨S32768, .i32⟩
  | 18 => ⟨S32768, .i32⟩
  | 19 => ⟨S32768, .i32⟩
  | 20 => ⟨S32768x1, .i32⟩
  | 21 => ⟨S32768x1, .i32⟩
  | 22 => ⟨S32768x1, .i32⟩
  | 23 => ⟨S32768x3, .i32⟩
  | 24 => ⟨S32768x1x33, .f32⟩
  | 25 => ⟨S32768x1x33, .f32⟩
  | 26 => ⟨S_, .f32⟩
  | 27 => ⟨S32768x1x33, .f32⟩
  | 28 => ⟨S32768x1x33, .f32⟩
  | 29 => ⟨S32768x33, .f32⟩
  | 30 => ⟨S_, .f32⟩
  | 31 => ⟨S32768x33, .f32⟩
  | 32 => ⟨S32768x33, .f32⟩
  | 33 => ⟨S32768x1, .f32⟩
  | 34 => ⟨S32768x1x32, .f32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S_, .i32⟩
  | 50 => ⟨S32768, .i32⟩
  | 51 => ⟨S32768, .i1⟩
  | 52 => ⟨S_, .i32⟩
  | 53 => ⟨S32768, .i32⟩
  | 54 => ⟨S32768, .i32⟩
  | 55 => ⟨S32768, .i32⟩
  | 56 => ⟨S32768x1, .i32⟩
  | 57 => ⟨S32768x1, .i32⟩
  | 58 => ⟨S32768x1, .i32⟩
  | 59 => ⟨S32768x3, .i32⟩
  | 60 => ⟨S32768x32x32, .f32⟩
  | 61 => ⟨S32768x1x32, .f32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S32768x1, .i32⟩
  | 84 => ⟨S32768x1, .i32⟩
  | 85 => ⟨S32768x1, .i32⟩
  | 86 => ⟨S32768x3, .i32⟩
  | 87 => ⟨S32768x1x32, .f32⟩
  | 88 => ⟨S32768x1x32, .f32⟩
  | 89 => ⟨S32768x1x59, .f32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S_, .i32⟩
  | 98 => ⟨S32768, .i32⟩
  | 99 => ⟨S32768, .i1⟩
  | 100 => ⟨S_, .i32⟩
  | 101 => ⟨S32768, .i32⟩
  | 102 => ⟨S32768, .i32⟩
  | 103 => ⟨S32768, .i32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S32768x1, .i32⟩
  | 113 => ⟨S32768x1, .i32⟩
  | 114 => ⟨S32768x3, .i32⟩
  | 115 => ⟨S32768x59x32, .f32⟩
  | 116 => ⟨S32768x1x32, .f32⟩
  | 117 => ⟨S_, .i32⟩
  | 118 => ⟨S32768, .i32⟩
  | 119 => ⟨S32768, .i1⟩
  | 120 => ⟨S_, .i32⟩
  | 121 => ⟨S32768, .i32⟩
  | 122 => ⟨S32768, .i32⟩
  | 123 => ⟨S32768, .i32⟩
  | 124 => ⟨S_, .i32⟩
  | 125 => ⟨S32768, .i32⟩
  | 126 => ⟨S32768, .i1⟩
  | 127 => ⟨S_, .i32⟩
  | _ => ⟨S32768x3, .f32⟩

abbrev hbmTy0_3 (i : Nat) : BufTy := match i % 128 with
  | 0 => ⟨S32768, .i32⟩
  | 1 => ⟨S32768, .i32⟩
  | 2 => ⟨S32768, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S32768x1, .i32⟩
  | 12 => ⟨S32768x1, .i32⟩
  | 13 => ⟨S32768x3, .i32⟩
  | 14 => ⟨S32768x1x32, .f32⟩
  | 15 => ⟨S32768x1x32, .f32⟩
  | 16 => ⟨S_, .f32⟩
  | 17 => ⟨S32768x1x32, .f32⟩
  | 18 => ⟨S32768x1x32, .f32⟩
  | 19 => ⟨S_, .i32⟩
  | 20 => ⟨S32768, .i32⟩
  | 21 => ⟨S32768, .i1⟩
  | 22 => ⟨S_, .i32⟩
  | 23 => ⟨S32768, .i32⟩
  | 24 => ⟨S32768, .i32⟩
  | 25 => ⟨S32768, .i32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768x1, .i32⟩
  | 42 => ⟨S32768x1, .i32⟩
  | 43 => ⟨S32768x3, .i32⟩
  | 44 => ⟨S32768x32x3, .f32⟩
  | 45 => ⟨S32768x1x3, .f32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S32768x1, .i32⟩
  | 69 => ⟨S32768x1, .i32⟩
  | 70 => ⟨S32768x3, .i32⟩
  | 71 => ⟨S32768x1x3, .f32⟩
  | 72 => ⟨S32768x1x3, .f32⟩
  | 73 => ⟨S32768x1x3, .f32⟩
  | 74 => ⟨S32768x1x3, .f32⟩
  | 75 => ⟨S_, .f32⟩
  | 76 => ⟨S32768x1x3, .f32⟩
  | 77 => ⟨S32768x1x3, .f32⟩
  | 78 => ⟨S_, .f32⟩
  | 79 => ⟨S32768x1x3, .f32⟩
  | 80 => ⟨S32768x1x3, .f32⟩
  | 81 => ⟨S32768x3, .f32⟩
  | 82 => ⟨S32768x1, .i1⟩
  | 83 => ⟨S_, .f32⟩
  | 84 => ⟨S_, .f32⟩
  | 85 => ⟨S32768x3, .i1⟩
  | 86 => ⟨S32768x3, .f32⟩
  | 87 => ⟨S32768x3, .f32⟩
  | 88 => ⟨S32768x1, .i1⟩
  | 89 => ⟨S_, .f32⟩
  | 90 => ⟨S_, .f32⟩
  | 91 => ⟨S32768x1, .f32⟩
  | 92 => ⟨S32768x1, .f32⟩
  | _ => ⟨S32768x3, .f32⟩

abbrev hbmTy (i : Nat) : BufTy := match i / 128 with
  | 0 => hbmTy0_0 i
  | 1 => hbmTy0_1 i
  | 2 => hbmTy0_2 i
  | 3 => hbmTy0_3 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_19 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_20 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_21 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_22 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_23 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_24 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_26 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_27 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_28 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_29 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_30 : Ref sig .tc := ⟨.hbm, 150, rfl⟩
abbrev main_v107 : Ref sig .tc := ⟨.hbm, 151, rfl⟩
abbrev main_v108 : Ref sig .tc := ⟨.hbm, 152, rfl⟩
abbrev main_cst_31 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c : Ref sig .tc := ⟨.hbm, 157, rfl⟩
abbrev main_c_32 : Ref sig .tc := ⟨.hbm, 158, rfl⟩
abbrev main_call0_v0 : Ref sig .tc := ⟨.hbm, 159, rfl⟩
abbrev main_call0_v1 : Ref sig .tc := ⟨.hbm, 160, rfl⟩
abbrev main_call0_v2 : Ref sig .tc := ⟨.hbm, 161, rfl⟩
abbrev main_call0_v3 : Ref sig .tc := ⟨.hbm, 162, rfl⟩
abbrev main_call0_v4 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_33 : Ref sig .tc := ⟨.hbm, 171, rfl⟩
abbrev main_v119 : Ref sig .tc := ⟨.hbm, 172, rfl⟩
abbrev main_v120 : Ref sig .tc := ⟨.hbm, 173, rfl⟩
abbrev main_c_34 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_c_35 : Ref sig .tc := ⟨.hbm, 178, rfl⟩
abbrev main_v124 : Ref sig .tc := ⟨.hbm, 179, rfl⟩
abbrev main_v125 : Ref sig .tc := ⟨.hbm, 180, rfl⟩
abbrev main_c_36 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_c_37 : Ref sig .tc := ⟨.hbm, 185, rfl⟩
abbrev main_v129 : Ref sig .tc := ⟨.hbm, 186, rfl⟩
abbrev main_v130 : Ref sig .tc := ⟨.hbm, 187, rfl⟩
abbrev main_c_38 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_c_39 : Ref sig .tc := ⟨.hbm, 198, rfl⟩
abbrev main_v140 : Ref sig .tc := ⟨.hbm, 199, rfl⟩
abbrev main_v141 : Ref sig .tc := ⟨.hbm, 200, rfl⟩
abbrev main_c_40 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_c_41 : Ref sig .tc := ⟨.hbm, 205, rfl⟩
abbrev main_v145 : Ref sig .tc := ⟨.hbm, 206, rfl⟩
abbrev main_v146 : Ref sig .tc := ⟨.hbm, 207, rfl⟩
abbrev main_c_42 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_c_43 : Ref sig .tc := ⟨.hbm, 212, rfl⟩
abbrev main_v150 : Ref sig .tc := ⟨.hbm, 213, rfl⟩
abbrev main_v151 : Ref sig .tc := ⟨.hbm, 214, rfl⟩
abbrev main_c_44 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_call1_cst : Ref sig .tc := ⟨.hbm, 225, rfl⟩
abbrev main_call1_v0 : Ref sig .tc := ⟨.hbm, 226, rfl⟩
abbrev main_v161 : Ref sig .tc := ⟨.hbm, 227, rfl⟩
abbrev main_c_45 : Ref sig .tc := ⟨.hbm, 228, rfl⟩
abbrev main_v162 : Ref sig .tc := ⟨.hbm, 229, rfl⟩
abbrev main_v163 : Ref sig .tc := ⟨.hbm, 230, rfl⟩
abbrev main_c_46 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_c_47 : Ref sig .tc := ⟨.hbm, 235, rfl⟩
abbrev main_v167 : Ref sig .tc := ⟨.hbm, 236, rfl⟩
abbrev main_v168 : Ref sig .tc := ⟨.hbm, 237, rfl⟩
abbrev main_c_48 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_c_49 : Ref sig .tc := ⟨.hbm, 242, rfl⟩
abbrev main_v172 : Ref sig .tc := ⟨.hbm, 243, rfl⟩
abbrev main_v173 : Ref sig .tc := ⟨.hbm, 244, rfl⟩
abbrev main_c_50 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_c_51 : Ref sig .tc := ⟨.hbm, 255, rfl⟩
abbrev main_v183 : Ref sig .tc := ⟨.hbm, 256, rfl⟩
abbrev main_v184 : Ref sig .tc := ⟨.hbm, 257, rfl⟩
abbrev main_c_52 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_53 : Ref sig .tc := ⟨.hbm, 262, rfl⟩
abbrev main_v188 : Ref sig .tc := ⟨.hbm, 263, rfl⟩
abbrev main_v189 : Ref sig .tc := ⟨.hbm, 264, rfl⟩
abbrev main_c_54 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_c_55 : Ref sig .tc := ⟨.hbm, 269, rfl⟩
abbrev main_v193 : Ref sig .tc := ⟨.hbm, 270, rfl⟩
abbrev main_v194 : Ref sig .tc := ⟨.hbm, 271, rfl⟩
abbrev main_c_56 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_call2_cst : Ref sig .tc := ⟨.hbm, 282, rfl⟩
abbrev main_call2_v0 : Ref sig .tc := ⟨.hbm, 283, rfl⟩
abbrev main_v204 : Ref sig .tc := ⟨.hbm, 284, rfl⟩
abbrev main_v205 : Ref sig .tc := ⟨.hbm, 285, rfl⟩
abbrev main_call3_cst : Ref sig .tc := ⟨.hbm, 286, rfl⟩
abbrev main_call3_v0 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_c_57 : Ref sig .tc := ⟨.hbm, 291, rfl⟩
abbrev main_v209 : Ref sig .tc := ⟨.hbm, 292, rfl⟩
abbrev main_v210 : Ref sig .tc := ⟨.hbm, 293, rfl⟩
abbrev main_c_58 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_c_59 : Ref sig .tc := ⟨.hbm, 298, rfl⟩
abbrev main_v214 : Ref sig .tc := ⟨.hbm, 299, rfl⟩
abbrev main_v215 : Ref sig .tc := ⟨.hbm, 300, rfl⟩
abbrev main_c_60 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_c_61 : Ref sig .tc := ⟨.hbm, 305, rfl⟩
abbrev main_v219 : Ref sig .tc := ⟨.hbm, 306, rfl⟩
abbrev main_v220 : Ref sig .tc := ⟨.hbm, 307, rfl⟩
abbrev main_c_62 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_c_63 : Ref sig .tc := ⟨.hbm, 318, rfl⟩
abbrev main_v230 : Ref sig .tc := ⟨.hbm, 319, rfl⟩
abbrev main_v231 : Ref sig .tc := ⟨.hbm, 320, rfl⟩
abbrev main_c_64 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_c_65 : Ref sig .tc := ⟨.hbm, 325, rfl⟩
abbrev main_v235 : Ref sig .tc := ⟨.hbm, 326, rfl⟩
abbrev main_v236 : Ref sig .tc := ⟨.hbm, 327, rfl⟩
abbrev main_c_66 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_c_67 : Ref sig .tc := ⟨.hbm, 332, rfl⟩
abbrev main_v240 : Ref sig .tc := ⟨.hbm, 333, rfl⟩
abbrev main_v241 : Ref sig .tc := ⟨.hbm, 334, rfl⟩
abbrev main_c_68 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_c_69 : Ref sig .tc := ⟨.hbm, 346, rfl⟩
abbrev main_v252 : Ref sig .tc := ⟨.hbm, 347, rfl⟩
abbrev main_v253 : Ref sig .tc := ⟨.hbm, 348, rfl⟩
abbrev main_c_70 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_c_71 : Ref sig .tc := ⟨.hbm, 353, rfl⟩
abbrev main_v257 : Ref sig .tc := ⟨.hbm, 354, rfl⟩
abbrev main_v258 : Ref sig .tc := ⟨.hbm, 355, rfl⟩
abbrev main_c_72 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_c_73 : Ref sig .tc := ⟨.hbm, 360, rfl⟩
abbrev main_v262 : Ref sig .tc := ⟨.hbm, 361, rfl⟩
abbrev main_v263 : Ref sig .tc := ⟨.hbm, 362, rfl⟩
abbrev main_c_74 : Ref sig .tc := ⟨.hbm, 363, rfl⟩
abbrev main_v264 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_c_75 : Ref sig .tc := ⟨.hbm, 373, rfl⟩
abbrev main_v273 : Ref sig .tc := ⟨.hbm, 374, rfl⟩
abbrev main_v274 : Ref sig .tc := ⟨.hbm, 375, rfl⟩
abbrev main_c_76 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_c_77 : Ref sig .tc := ⟨.hbm, 380, rfl⟩
abbrev main_v278 : Ref sig .tc := ⟨.hbm, 381, rfl⟩
abbrev main_v279 : Ref sig .tc := ⟨.hbm, 382, rfl⟩
abbrev main_c_78 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_c_79 : Ref sig .tc := ⟨.hbm, 387, rfl⟩
abbrev main_v283 : Ref sig .tc := ⟨.hbm, 388, rfl⟩
abbrev main_v284 : Ref sig .tc := ⟨.hbm, 389, rfl⟩
abbrev main_c_80 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_call4_cst : Ref sig .tc := ⟨.hbm, 400, rfl⟩
abbrev main_call4_v0 : Ref sig .tc := ⟨.hbm, 401, rfl⟩
abbrev main_v294 : Ref sig .tc := ⟨.hbm, 402, rfl⟩
abbrev main_c_81 : Ref sig .tc := ⟨.hbm, 403, rfl⟩
abbrev main_v295 : Ref sig .tc := ⟨.hbm, 404, rfl⟩
abbrev main_v296 : Ref sig .tc := ⟨.hbm, 405, rfl⟩
abbrev main_c_82 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_c_83 : Ref sig .tc := ⟨.hbm, 410, rfl⟩
abbrev main_v300 : Ref sig .tc := ⟨.hbm, 411, rfl⟩
abbrev main_v301 : Ref sig .tc := ⟨.hbm, 412, rfl⟩
abbrev main_c_84 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_c_85 : Ref sig .tc := ⟨.hbm, 417, rfl⟩
abbrev main_v305 : Ref sig .tc := ⟨.hbm, 418, rfl⟩
abbrev main_v306 : Ref sig .tc := ⟨.hbm, 419, rfl⟩
abbrev main_c_86 : Ref sig .tc := ⟨.hbm, 420, rfl⟩
abbrev main_v307 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_c_87 : Ref sig .tc := ⟨.hbm, 430, rfl⟩
abbrev main_v316 : Ref sig .tc := ⟨.hbm, 431, rfl⟩
abbrev main_v317 : Ref sig .tc := ⟨.hbm, 432, rfl⟩
abbrev main_c_88 : Ref sig .tc := ⟨.hbm, 433, rfl⟩
abbrev main_v318 : Ref sig .tc := ⟨.hbm, 434, rfl⟩
abbrev main_v319 : Ref sig .tc := ⟨.hbm, 435, rfl⟩
abbrev main_v320 : Ref sig .tc := ⟨.hbm, 436, rfl⟩
abbrev main_c_89 : Ref sig .tc := ⟨.hbm, 437, rfl⟩
abbrev main_v321 : Ref sig .tc := ⟨.hbm, 438, rfl⟩
abbrev main_v322 : Ref sig .tc := ⟨.hbm, 439, rfl⟩
abbrev main_c_90 : Ref sig .tc := ⟨.hbm, 440, rfl⟩
abbrev main_v323 : Ref sig .tc := ⟨.hbm, 441, rfl⟩
abbrev main_v324 : Ref sig .tc := ⟨.hbm, 442, rfl⟩
abbrev main_v325 : Ref sig .tc := ⟨.hbm, 443, rfl⟩
abbrev main_c_91 : Ref sig .tc := ⟨.hbm, 444, rfl⟩
abbrev main_v326 : Ref sig .tc := ⟨.hbm, 445, rfl⟩
abbrev main_v327 : Ref sig .tc := ⟨.hbm, 446, rfl⟩
abbrev main_c_92 : Ref sig .tc := ⟨.hbm, 447, rfl⟩
abbrev main_v328 : Ref sig .tc := ⟨.hbm, 448, rfl⟩
abbrev main_v329 : Ref sig .tc := ⟨.hbm, 449, rfl⟩
abbrev main_v330 : Ref sig .tc := ⟨.hbm, 450, rfl⟩
abbrev main_v331 : Ref sig .tc := ⟨.hbm, 451, rfl⟩
abbrev main_v332 : Ref sig .tc := ⟨.hbm, 452, rfl⟩
abbrev main_v333 : Ref sig .tc := ⟨.hbm, 453, rfl⟩
abbrev main_v334 : Ref sig .tc := ⟨.hbm, 454, rfl⟩
abbrev main_v335 : Ref sig .tc := ⟨.hbm, 455, rfl⟩
abbrev main_v336 : Ref sig .tc := ⟨.hbm, 456, rfl⟩
abbrev main_v337 : Ref sig .tc := ⟨.hbm, 457, rfl⟩
abbrev main_v338 : Ref sig .tc := ⟨.hbm, 458, rfl⟩
abbrev main_cst_93 : Ref sig .tc := ⟨.hbm, 459, rfl⟩
abbrev main_v339 : Ref sig .tc := ⟨.hbm, 460, rfl⟩
abbrev main_v340 : Ref sig .tc := ⟨.hbm, 461, rfl⟩
abbrev main_cst_94 : Ref sig .tc := ⟨.hbm, 462, rfl⟩
abbrev main_v341 : Ref sig .tc := ⟨.hbm, 463, rfl⟩
abbrev main_v342 : Ref sig .tc := ⟨.hbm, 464, rfl⟩
abbrev main_v343 : Ref sig .tc := ⟨.hbm, 465, rfl⟩
abbrev main_v344 : Ref sig .tc := ⟨.hbm, 466, rfl⟩
abbrev main_cst_95 : Ref sig .tc := ⟨.hbm, 467, rfl⟩
abbrev main_call5_v0 : Ref sig .tc := ⟨.hbm, 468, rfl⟩
abbrev main_call5_v1 : Ref sig .tc := ⟨.hbm, 469, rfl⟩
abbrev main_call5_v2 : Ref sig .tc := ⟨.hbm, 470, rfl⟩
abbrev main_v345 : Ref sig .tc := ⟨.hbm, 471, rfl⟩
abbrev main_v346 : Ref sig .tc := ⟨.hbm, 472, rfl⟩
abbrev main_cst_96 : Ref sig .tc := ⟨.hbm, 473, rfl⟩
abbrev main_call6_v0 : Ref sig .tc := ⟨.hbm, 474, rfl⟩
abbrev main_call6_v1 : Ref sig .tc := ⟨.hbm, 475, rfl⟩
abbrev main_v347 : Ref sig .tc := ⟨.hbm, 476, rfl⟩

abbrev nD : Nat := 1
abbrev τ : Topo := Topo.v7x

variable {F : FTy → Type} [FloatOps F]
-- ==== Proof.Shared.Words.lean ====
module

public import Idealize.ShloMosaic.Lib.SortFacts
public import Idealize.ShloMosaic.Lib.WordCmp
public import Idealize.ShloMosaic.Lib.WordArith

@[expose] public section

/-! The host program's 32-bit word computations on small nonnegative words, as natural numbers. -/

namespace Cert.Words

open Idealize.ShloMosaic Idealize.ShloMosaic.WordCmp Idealize.ShloMosaic.WordArith

/-- The remainder by 256 with the divisor's sign, as the host computes it. -/
def remW (x : BitVec 32) : BitVec 32 :=
  let r := IntOp.remsi .host x 256#32
  Scalar.select (IntOp.andi (IntOp.cmpi .ne (IntOp.cmpi .slt r 0#32) (IntOp.cmpi .slt 256#32 0#32)) (IntOp.cmpi .ne r 0#32)) (IntOp.addi r 256#32) r

/-- The sign of a word. -/
def sgnW (x : BitVec 32) : BitVec 32 := if x = 0 then 0 else if x.msb then -1 else 1

/-- The quotient by 256 rounded down, as the host computes it. -/
def divW (x : BitVec 32) : BitVec 32 :=
  let q := IntOp.divsi .host x 256#32
  Scalar.select (IntOp.andi (IntOp.cmpi .ne (sgnW x) (sgnW 256#32)) (IntOp.cmpi .ne (IntOp.remsi .host x 256#32) 0#32)) (IntOp.subi q 1#32) q

theorem remsi_256 (x : BitVec 32) (hx : x.toNat < 2 ^ 31) : IntOp.remsi .host x 256#32 = BitVec.ofNat 32 (x.toNat % 256) := by
  have hc : ¬ IntOp.SDivCorner x 256#32 := by
    unfold IntOp.SDivCorner
    rintro (h | ⟨-, h⟩)
    · exact absurd h (by decide)
    · exact absurd h (by decide)
  have hm : x.msb = false := by rw [BitVec.msb_eq_false_iff_two_mul_lt]; omega
  unfold IntOp.remsi
  rw [if_neg hc, BitVec.srem_eq, hm, show (256#32).msb = false from rfl]
  apply BitVec.eq_of_toNat_eq
  rw [BitVec.toNat_umod, BitVec.toNat_ofNat, BitVec.toNat_ofNat, show 256 % 2 ^ 32 = 256 from rfl]
  omega

theorem divsi_256 (x : BitVec 32) (hx : x.toNat < 2 ^ 31) : IntOp.divsi .host x 256#32 = BitVec.ofNat 32 (x.toNat / 256) := by
  have hc : ¬ IntOp.SDivCorner x 256#32 := by
    unfold IntOp.SDivCorner
    rintro (h | ⟨-, h⟩)
    · exact absurd h (by decide)
    · exact absurd h (by decide)
  have hm : x.msb = false := by rw [BitVec.msb_eq_false_iff_two_mul_lt]; omega
  unfold IntOp.divsi
  rw [if_neg hc, BitVec.sdiv_eq, hm, show (256#32).msb = false from rfl]
  apply BitVec.eq_of_toNat_eq
  show (x.udiv 256#32).toNat = _
  rw [show x.udiv 256#32 = x / 256#32 from rfl, BitVec.toNat_udiv, BitVec.toNat_ofNat, BitVec.toNat_ofNat, show 256 % 2 ^ 32 = 256 from rfl]
  omega

theorem slt_zero_of_small (n : ℕ) (hn : n < 2 ^ 31) : IntOp.cmpi .slt (BitVec.ofNat 32 n) 0#32 = 0#1 := by
  rw [show (0#32) = BitVec.ofNat 32 0 from rfl, cmpi_slt_ofNat_eq_zero_iff hn (by decide)]
  omega

theorem remW_toNat (x : BitVec 32) (hx : x.toNat < 2 ^ 31) : (remW x).toNat = x.toNat % 256 := by
  unfold remW
  dsimp only
  rw [remsi_256 x hx, slt_zero_of_small _ (by omega), show IntOp.cmpi .slt 256#32 0#32 = 0#1 from by decide,
    show IntOp.cmpi .ne 0#1 0#1 = 0#1 from by decide, show ∀ b : BitVec 1, IntOp.andi 0#1 b = 0#1 from by decide]
  rw [select_of_eq_zero rfl, BitVec.toNat_ofNat]
  omega

theorem divW_toNat (x : BitVec 32) (hx : x.toNat < 2 ^ 31) : (divW x).toNat = x.toNat / 256 := by
  unfold divW
  dsimp only
  rw [divsi_256 x hx, remsi_256 x hx]
  by_cases h0 : x.toNat % 256 = 0
  · rw [h0, show IntOp.cmpi .ne (BitVec.ofNat 32 0) 0#32 = 0#1 from by decide,
      show ∀ b : BitVec 1, IntOp.andi b 0#1 = 0#1 from by decide, select_of_eq_zero rfl, BitVec.toNat_ofNat]
    omega
  · have hne : x ≠ 0 := by rintro rfl; exact h0 rfl
    have hm : x.msb = false := by rw [BitVec.msb_eq_false_iff_two_mul_lt]; omega
    have hs : sgnW x = 1 := by unfold sgnW; rw [if_neg hne, hm]; rfl
    rw [hs, show IntOp.cmpi .ne (1 : BitVec 32) (sgnW 256#32) = 0#1 from by decide,
      show ∀ b : BitVec 1, IntOp.andi 0#1 b = 0#1 from by decide, select_of_eq_zero rfl, BitVec.toNat_ofNat]
    omega

theorem minsi_toNat (x c : BitVec 32) (hx : x.toNat < 2 ^ 31) (hc : c.toNat < 2 ^ 31) : (IntOp.minsi x c).toNat = min x.toNat c.toNat :=
  toNat_minsi_of_lt x c hx hc

theorem slt_iff (x y : BitVec 32) (hx : x.toNat < 2 ^ 31) (hy : y.toNat < 2 ^ 31) : IntOp.cmpi .slt x y = 1#1 ↔ x.toNat < y.toNat := by
  rw [cmpi_slt_eq, WordCmp.ofBool_eq_one_iff, decide_eq_true_iff, toInt_eq_toNat_of_lt_half hx, toInt_eq_toNat_of_lt_half hy]
  omega

theorem eq_iff (x y : BitVec 32) : IntOp.cmpi .eq x y = 1#1 ↔ x.toNat = y.toNat := by
  rw [cmpi_eq_eq, WordCmp.ofBool_eq_one_iff, decide_eq_true_iff]
  exact ⟨fun h => h ▸ rfl, fun h => BitVec.eq_of_toNat_eq h⟩

theorem ne_iff (x y : BitVec 32) : IntOp.cmpi .ne x y = 1#1 ↔ x.toNat ≠ y.toNat := by
  rw [cmpi_ne_eq, WordCmp.ofBool_eq_one_iff, decide_eq_true_iff]
  exact ⟨fun h h' => h (BitVec.eq_of_toNat_eq h'), fun h h' => h (h' ▸ rfl)⟩

theorem ori_iff (a b : BitVec 1) : IntOp.ori a b = 1#1 ↔ (a = 1#1 ∨ b = 1#1) := by revert a b; decide
theorem andi_iff (a b : BitVec 1) : IntOp.andi a b = 1#1 ↔ (a = 1#1 ∧ b = 1#1) := by revert a b; decide

theorem select_ite {α : Type} (c : BitVec 1) (x y : α) : Scalar.select c x y = if c = 1#1 then x else y := by
  by_cases h : c = 1#1
  · rw [select_of_eq_one h, if_pos h]
  · rw [select_of_eq_zero (by revert h; revert c; decide), if_neg h]

/-! ## Sorting a table of small words -/

variable {n : ℕ}

/-- The order a signed sort of the words `x` reads them in. -/
def orderOf (x : (⟨1, ![n]⟩ : Shape).Idx → BitVec 32) : Fin n → Fin n :=
  sortedFrom (fun k k' => IntOp.cmpi .slt (x (Shape.Idx.ofFin k)) (x (Shape.Idx.ofFin k')) == 1#1)

theorem orderOf_bij (x : (⟨1, ![n]⟩ : Shape).Idx → BitVec 32) : Function.Bijective (orderOf x) :=
  ⟨sortedFrom_injective _, sortedFrom_surjective _⟩

theorem orderOf_mono (x : (⟨1, ![n]⟩ : Shape).Idx → BitVec 32) (hx : ∀ j, (x j).toNat < 2 ^ 31) (i j : Fin n) (hij : i ≤ j) :
    (x (Shape.Idx.ofFin (orderOf x i))).toNat ≤ (x (Shape.Idx.ofFin (orderOf x j))).toNat := by
  rcases eq_or_lt_of_le hij with rfl | hlt
  · exact le_rfl
  have hB : ∀ a b, (IntOp.cmpi .slt (x (Shape.Idx.ofFin a)) (x (Shape.Idx.ofFin b)) == 1#1) = true ↔ (x (Shape.Idx.ofFin a)).toNat < (x (Shape.Idx.ofFin b)).toNat :=
    fun a b => by rw [beq_iff_eq]; exact slt_iff _ _ (hx _) (hx _)
  have hB' : ∀ a b, (IntOp.cmpi .slt (x (Shape.Idx.ofFin a)) (x (Shape.Idx.ofFin b)) == 1#1) = false ↔ ¬ (x (Shape.Idx.ofFin a)).toNat < (x (Shape.Idx.ofFin b)).toNat :=
    fun a b => by rw [← hB a b, Bool.not_eq_true]
  have h := sortedFrom_noInversion (fun k k' : Fin n => IntOp.cmpi .slt (x (Shape.Idx.ofFin k)) (x (Shape.Idx.ofFin k')) == 1#1)
    (fun k k' : Fin n => IntOp.cmpi .slt (x (Shape.Idx.ofFin k)) (x (Shape.Idx.ofFin k')) == 1#1)
    (fun a b hab => (hB' _ _).mpr (by have := (hB _ _).mp hab; omega)) (fun a b hab => hab)
    (fun a b c hab hbc => (hB' _ _).mpr (by have := (hB' _ _).mp hab; have := (hB' _ _).mp hbc; omega)) i j hlt
  have := (hB' _ _).mp h
  unfold orderOf
  omega

theorem sort_eq (cmp : BitVec 32 → BitVec 32 → BitVec 1) (hcmp : ∀ l r, cmp l r = IntOp.cmpi .slt l r) (x : (⟨1, ![n]⟩ : Shape).Idx → BitVec 32)
    (j : (⟨1, ![n]⟩ : Shape).Idx) : Host.sort ⟨1, ![n]⟩ 0 cmp x j = x (Shape.Idx.ofFin (orderOf x (j 0))) := by
  rw [Host.sort_rank1]
  simp only [hcmp, orderOf]

theorem sort2_eq (cmp : BitVec 32 × BitVec 32 → BitVec 32 × BitVec 32 → BitVec 1) (hcmp : ∀ l r, cmp l r = IntOp.cmpi .slt l.1 r.1)
    (x y : (⟨1, ![n]⟩ : Shape).Idx → BitVec 32) (j : (⟨1, ![n]⟩ : Shape).Idx) :
    (Host.sort2 ⟨1, ![n]⟩ 0 cmp x y).1 j = x (Shape.Idx.ofFin (orderOf x (j 0)))
    ∧ (Host.sort2 ⟨1, ![n]⟩ 0 cmp x y).2 j = y (Shape.Idx.ofFin (orderOf x (j 0))) := by
  unfold Host.sort2
  simp [hcmp, orderOf]

theorem sort2_iota (cmp : BitVec 32 × BitVec 32 → BitVec 32 × BitVec 32 → BitVec 1) (hcmp : ∀ l r, cmp l r = IntOp.cmpi .slt l.1 r.1)
    (x : (⟨1, ![n]⟩ : Shape).Idx → BitVec 32) :
    (Host.sort2 ⟨1, ![n]⟩ 0 cmp x (iotaInDim ⟨1, ![n]⟩ 32 0)).2 = fun j => BitVec.ofNat 32 (orderOf x (j 0)).val :=
  funext fun j => ((sort2_eq cmp hcmp x (iotaInDim ⟨1, ![n]⟩ 32 0) j).2).trans rfl

end Cert.Words
-- ==== Proof.Shared.Seg.lean ====
module

public import Idealize.ShloMosaic.Lib.SortFacts
public import Idealize.ShloMosaic.Lib.WordCmp

@[expose] public section

/-! Sorted cell ids cut into segments.

`cs p` is the cell id of the `p`-th row in sorted order, `rs k` the first row of the `k`-th segment (32768 past the last).
A segment starts where the cell id changes and at every 256-th row, so each lies within one tile of 256 rows. -/

namespace Cert.Seg

/-- A segment starts at row `p`. -/
def New (cs : ℕ → ℕ) (p : ℕ) : Prop := p % 256 = 0 ∨ cs p ≠ cs (p - 1)

structure Segs (cs rs : ℕ → ℕ) : Prop where
  mono : ∀ p q, p ≤ q → q < 32768 → cs p ≤ cs q
  le : ∀ p, p < 32768 → cs p ≤ 4096
  rmono : ∀ j k, j ≤ k → k < 32768 → rs j ≤ rs k
  rnew : ∀ k, k < 32768 → rs k = 32768 ∨ (rs k < 32768 ∧ New cs (rs k))
  rinj : ∀ j k, j < k → k < 32768 → rs k < 32768 → rs j ≠ rs k
  rsurj : ∀ p, p < 32768 → New cs p → ∃ k, k < 32768 ∧ rs k = p

variable {cs rs : ℕ → ℕ}

namespace Segs

theorem rle (h : Segs cs rs) (k : ℕ) (hk : k < 32768) : rs k ≤ 32768 := by
  rcases h.rnew k hk with e | ⟨e, -⟩ <;> omega

theorem rlt (h : Segs cs rs) (j k : ℕ) (hjk : j < k) (hk : k < 32768) (hr : rs k < 32768) : rs j < rs k :=
  lt_of_le_of_ne (h.rmono j k hjk.le hk) (h.rinj j k hjk hk hr)

/-- A number below 4224 for each segment start. -/
def code (cs : ℕ → ℕ) (p : ℕ) : ℕ := if p % 256 = 0 then p / 256 else 127 + cs p

theorem code_lt (h : Segs cs rs) (p : ℕ) (hp : p < 32768) : code cs p < 4224 := by
  unfold code
  split
  · omega
  · have := h.le p hp; omega

theorem code_inj (h : Segs cs rs) (p q : ℕ) (hpq : p < q) (hq : q < 32768) (np : New cs p) (nq : New cs q) : code cs p ≠ code cs q := by
  unfold code
  unfold New at np nq
  by_cases h0 : p % 256 = 0 <;> by_cases h1 : q % 256 = 0 <;> simp only [h0, h1, if_true, if_false]
  · omega
  · have hq' := nq.resolve_left h1
    have hm := h.mono (q - 1) q (by omega) hq
    omega
  · have hp' := np.resolve_left h0
    have hm := h.mono (p - 1) p (by omega) (by omega)
    omega
  · have hq' := nq.resolve_left h1
    have hm := h.mono (q - 1) q (by omega) hq
    have hm' := h.mono p (q - 1) (by omega) (by omega)
    omega

/-- There are at most 4224 segments. -/
theorem rs_last (h : Segs cs rs) : rs 4224 = 32768 := by
  by_contra hne
  have hlt : rs 4224 < 32768 := lt_of_le_of_ne (h.rle 4224 (by omega)) hne
  have hk : ∀ k : ℕ, k < 4225 → rs k < 32768 := fun k hk => lt_of_le_of_lt (h.rmono k 4224 (by omega) (by omega)) hlt
  have hn : ∀ k : ℕ, k < 4225 → New cs (rs k) := fun k hk' => by
    rcases h.rnew k (by omega) with e | ⟨-, e⟩
    · have := hk k hk'; omega
    · exact e
  have hinj : Function.Injective (fun k : Fin 4225 => (⟨code cs (rs k.val), h.code_lt _ (hk k.val k.isLt)⟩ : Fin 4224)) := by
    intro a b hab
    have hab' : code cs (rs a.val) = code cs (rs b.val) := congrArg Fin.val hab
    rcases lt_trichotomy a.val b.val with hlt' | heq | hgt
    · exact absurd hab' (h.code_inj _ _ (h.rlt _ _ hlt' (by have := b.isLt; omega) (hk _ b.isLt)) (hk _ b.isLt) (hn _ a.isLt) (hn _ b.isLt))
    · exact Fin.ext heq
    · exact absurd hab'.symm (h.code_inj _ _ (h.rlt _ _ hgt (by have := a.isLt; omega) (hk _ a.isLt)) (hk _ a.isLt) (hn _ b.isLt) (hn _ a.isLt))
  have := Fintype.card_le_of_injective _ hinj
  simp at this

theorem index_lt (h : Segs cs rs) (k : ℕ) (hk : k < 32768) (hr : rs k < 32768) : k < 4224 := by
  by_contra hc
  have := h.rmono 4224 k (by omega) hk
  rw [h.rs_last] at this
  omega

theorem surj (h : Segs cs rs) (p : ℕ) (hp : p < 32768) (np : New cs p) : ∃ k, k < 4224 ∧ rs k = p := by
  obtain ⟨k, hk, e⟩ := h.rsurj p hp np
  exact ⟨k, h.index_lt k hk (by omega), e⟩

/-- No segment starts strictly between two consecutive starts. -/
theorem not_new (h : Segs cs rs) (k q : ℕ) (hk : k < 32768) (h1 : rs k < q) (h2 : k + 1 < 32768 → q < rs (k + 1)) (hq : q < 32768) : ¬ New cs q := by
  intro nq
  obtain ⟨j, hj, e⟩ := h.rsurj q hq nq
  have hkj : k < j := by
    by_contra hc
    have := h.rmono j k (by omega) hk
    omega
  have := h.rmono (k + 1) j (by omega) hj
  have := h2 (by omega)
  omega

theorem not_fresh_of_not_new {q : ℕ} (h : ¬ New cs q) : q % 256 ≠ 0 ∧ cs q = cs (q - 1) := by
  unfold New at h
  push Not at h
  exact h

/-- Within a segment the tile and the cell id are those of its start. -/
theorem same (h : Segs cs rs) (k : ℕ) (hk : k < 32768) (d : ℕ) (h2 : k + 1 < 32768 → rs k + d < rs (k + 1)) (hq : rs k + d < 32768) :
    (rs k + d) / 256 = rs k / 256 ∧ cs (rs k + d) = cs (rs k) := by
  induction d with
  | zero => exact ⟨rfl, rfl⟩
  | succ d ih =>
    obtain ⟨i1, i2⟩ := ih (fun hk' => by have := h2 hk'; omega) (by omega)
    obtain ⟨n1, n2⟩ := not_fresh_of_not_new (h.not_new k (rs k + (d + 1)) hk (by omega) h2 hq)
    refine ⟨by omega, ?_⟩
    rw [n2, show rs k + (d + 1) - 1 = rs k + d by omega, i2]

/-- The segment of a row. -/
theorem cover (h : Segs cs rs) (p : ℕ) (hp : p < 32768) : ∃ k, k < 4224 ∧ rs k ≤ p ∧ p < rs (k + 1) := by
  classical
  have h0 : ∃ k, k < 4224 ∧ rs k = 0 := h.surj 0 (by omega) (Or.inl rfl)
  obtain ⟨k0, hk0, e0⟩ := h0
  have hP0 : rs k0 ≤ p := by omega
  set k := Nat.findGreatest (fun k => rs k ≤ p) 4224 with hkdef
  have hle : k ≤ 4224 := Nat.findGreatest_le _
  have hk : rs k ≤ p := Nat.findGreatest_spec (P := fun k => rs k ≤ p) (by omega : k0 ≤ 4224) hP0
  have hlt : k < 4224 := h.index_lt k (by omega) (by omega)
  refine ⟨k, hlt, hk, ?_⟩
  by_contra hc
  have := Nat.le_findGreatest (P := fun k => rs k ≤ p) (by omega : k + 1 ≤ 4224) (by omega)
  omega

/-- An item whose tile differs from the previous item's starts a tile. -/
theorem fresh (h : Segs cs rs) (t : ℕ) (ht : t < 4225) (hf : t = 0 ∨ min (rs (t - 1) / 256) 127 ≠ min (rs t / 256) 127) :
    rs t < 32768 ∧ rs t % 256 = 0 := by
  have hle := h.rle t (by omega)
  -- the start of the tile of `t` is a segment start
  set q := (min (rs t / 256) 127) * 256 with hq
  have hq' : q < 32768 := by omega
  obtain ⟨k, hk, e⟩ := h.surj q hq' (Or.inl (by omega))
  have hqle : q ≤ rs t := by omega
  have hkt : t ≤ k := by
    by_contra hc
    rcases hf with hf | hf
    · omega
    · have a1 := h.rmono k (t - 1) (by omega) (by omega)
      have a2 := h.rmono (t - 1) t (by omega) (by omega)
      apply hf
      omega
  have := h.rmono t k hkt (by omega)
  omega

/-- The rows an item writes are those of its segment: row `p` lies in `[rs j % 256, (rs (j+1) - 1) % 256 + 1)` of the
    tile of item `j` exactly when `rs j ≤ p < rs (j + 1)`. -/
theorem row_iff (h : Segs cs rs) (j p : ℕ) (hj : j < 4224) (hp : p < 32768) (hlt : rs j < 32768) (ht : rs j / 256 = p / 256) :
    (rs j % 256 ≤ p % 256 ∧ p % 256 < (rs (j + 1) - 1) % 256 + 1) ↔ (rs j ≤ p ∧ p < rs (j + 1)) := by
  have h1 : rs j < rs (j + 1) := by
    by_cases hc : rs (j + 1) < 32768
    · exact h.rlt _ _ (by omega) (by omega) hc
    · have := h.rle (j + 1) (by omega); omega
  have h2 := h.rle (j + 1) (by omega)
  have hs := (h.same j (by omega) (rs (j + 1) - 1 - rs j) (fun _ => by omega) (by omega)).1
  rw [show rs j + (rs (j + 1) - 1 - rs j) = rs (j + 1) - 1 by omega] at hs
  omega

/-- Only the first item of a tile starts at its first row. -/
theorem first_unique (h : Segs cs rs) (j k : ℕ) (hjk : j < k) (hk : k < 4225) (hr : rs k < 32768) (ht : rs j / 256 = rs k / 256) : rs k % 256 ≠ 0 := by
  have := h.rlt j k hjk (by omega) hr
  omega

end Segs

end Cert.Seg
-- ==== Proof.KernelIdeal.HostOps.lean ====
module

public import proofs.«01_k».proof.Proof.Gen.KernelIdeal.Regions
public import proofs.«01_k».proof.Proof.Shared.Words
public import Idealize.ShloMosaic.Lib.StableHlo.Run
public import Idealize.ShloMosaic.Lib.Routing.Ops
public import Idealize.ShloMosaic.Lib.StableHlo.Predicate
public import Idealize.ShloMosaic.Lib.Pointwise

@[expose] public section

set_option maxRecDepth 16384

noncomputable section

namespace Cert.HostKernelIdeal

open Idealize.ShloMosaic Idealize.ShloMosaic.TcCoe Idealize.ShloMosaic.Tactic
open Idealize.ShloMosaic.StableHlo
open Cert.Words Cert.KernelIdeal.Gen
open Cert.KernelIdeal hiding ix2

variable {F : FTy → Type} [FloatOps F]

/-! ## The stretches of host operations, each result in terms of the buffers its stretch reads -/

variable (V : Valuation τ sig (Elt F))

/-- Whether a point lies inside the box, as the host computes it. -/
def inBox (X : FVec F S32768x3 .f32) : IVec S32768 1 :=
  andi (andi
    (cmpf .olt (Host.absf (shapeCast S32768 (extractStridedSlice S32768x1 ![0, 0] X slices_S32768x3_S32768x1_0_0) shapeCasts_S32768x1_S32768)) (broadcastInDim S32768 ![] bcast_S_S32768 (constant S_ .f32 0x3FC00000#32)))
    (cmpf .olt (Host.absf (shapeCast S32768 (extractStridedSlice S32768x1 ![0, 1] X slices_S32768x3_S32768x1_0_1) shapeCasts_S32768x1_S32768)) (broadcastInDim S32768 ![] bcast_S_S32768 (constant S_ .f32 0x3FC00000#32))))
    (cmpf .olt (Host.absf (shapeCast S32768 (extractStridedSlice S32768x1 ![0, 2] X slices_S32768x3_S32768x1_0_2) shapeCasts_S32768x1_S32768)) (broadcastInDim S32768 ![] bcast_S_S32768 (constant S_ .f32 0x3FC00000#32)))

/-- The cell coordinates of a point, before clipping. -/
def coords (X : FVec F S32768x3 .f32) : IVec S32768x3 32 :=
  fptosi 32 (addf (Host.divf X (broadcastInDim S32768x3 ![] bcast_S_S32768x3 (constant S_ .f32 0x3E400000#32))) (broadcastInDim S32768x3 ![] bcast_S_S32768x3 (constant S_ .f32 0x41000000#32)))

theorem r27 : after hostOps1 V main_v27 = inBox (V main_arg0) := by after_results; rfl
theorem r32 : after hostOps1 V main_v32 = coords (V main_arg0) := by after_results; rfl
theorem rc : after hostOps1 V main_c = constantI S_ 32 0#32 := by after_results
theorem rc4 : after hostOps1 V main_c_4 = constantI S_ 32 15#32 := by after_results

theorem r33 (h0 : V main_c = constantI S_ 32 0#32) (h1 : V main_c_4 = constantI S_ 32 15#32) : after hostOps1_1 V main_v33 = fun j => IntOp.minsi 15#32 (IntOp.maxsi 0#32 ((V main_v32 : IVec S32768x3 32) j)) := by
  simp only [hostOps1_1, TRef.ternary, TRef.binary, TRef.unary, TRef.nullary, TRef.toBuf, TRef.ofBuf, cast_eq]
  after_results
  rw [h0, h1]
  funext j; rfl

/-- A cell's number from its three coordinates. -/
def cellOf (a b c : BitVec 32) : BitVec 32 :=
  IntOp.addi (IntOp.muli (IntOp.addi (IntOp.muli a 16#32) b) 16#32) c

theorem ex1 {n : ℕ} (j : (⟨1, ![n]⟩ : Shape).Idx) : ∃ p : Fin n, j = ix1 p := ⟨j 0, funext fun a => match a with | ⟨0, _⟩ => rfl⟩

theorem ex2 {n m : ℕ} (j : (⟨2, ![n, m]⟩ : Shape).Idx) : ∃ (p : Fin n) (q : Fin m), j = ix2 p q :=
  ⟨j 0, j 1, funext fun a => match a with | ⟨0, _⟩ => rfl | ⟨1, _⟩ => rfl⟩

theorem col_ap {α : Type} (X : S32768x3.Idx → α) (k : ℕ) (hk : k < 3) (hs : S32768x3.Slices ![0, k] S32768x1) (p : Fin 32768) :
    shapeCast S32768 (extractStridedSlice S32768x1 ![0, k] X hs) shapeCasts_S32768x1_S32768 (ix1 p) = X (ix2 p ⟨k, hk⟩) := by
  have h : shapeCast S32768 (extractStridedSlice S32768x1 ![0, k] X hs) shapeCasts_S32768x1_S32768 (ix1 p) = extractStridedSlice S32768x1 ![0, k] X hs (ix2 p (0 : Fin 1)) := by
    pointwise
  rw [h]
  show X _ = X _
  congr 1
  funext a
  match a with
  | ⟨0, _⟩ => exact Fin.ext (Nat.zero_add _)
  | ⟨1, _⟩ => exact Fin.ext (Nat.add_zero _)

theorem r45 : after hostOps1_2 V main_v45 = fun j => cellOf ((V main_v33 : IVec S32768x3 32) (ix2 (j 0) 0)) ((V main_v33 : IVec S32768x3 32) (ix2 (j 0) 1)) ((V main_v33 : IVec S32768x3 32) (ix2 (j 0) 2)) := by
  after_results
  funext j
  obtain ⟨p, rfl⟩ := ex1 j
  have h0 := col_ap (V main_v33 : IVec S32768x3 32) 0 (by decide) slices_S32768x3_S32768x1_0_0 p
  have h1 := col_ap (V main_v33 : IVec S32768x3 32) 1 (by decide) slices_S32768x3_S32768x1_0_1 p
  have h2 := col_ap (V main_v33 : IVec S32768x3 32) 2 (by decide) slices_S32768x3_S32768x1_0_2 p
  exact congr (congr (congrArg cellOf h0) h1) h2

theorem rc7 : after hostOps1_2 V main_c_7 = constantI S_ 32 4096#32 := by after_results

theorem r46 (h0 : V main_c_7 = constantI S_ 32 4096#32) : after hostOps1_3 V main_v46 = fun j => Scalar.select ((V main_v27 : IVec S32768 1) j) ((V main_v45 : IVec S32768 32) j) 4096#32 := by
  simp only [hostOps1_3, TRef.ternary, TRef.binary, TRef.unary, TRef.nullary, TRef.toBuf, TRef.ofBuf, cast_eq]
  after_results
  rw [h0]
  funext j; rfl

/-- The points in the order of their cells. -/
abbrev ord (K : IVec S32768 32) : Fin 32768 → Fin 32768 := orderOf K

theorem r47 : after hostOps1_4 V main_v47 = fun j => BitVec.ofNat 32 (j 0).val := by after_results; rfl

theorem sort_fst (K : IVec S32768 32) : (Host.sort2 S32768 0 comparator_i32_i32_d0 K (iotaInDim S32768 32 0)).1 = fun j => K (Shape.Idx.ofFin (ord K (j 0))) :=
  funext fun j => (sort2_eq comparator_i32_i32_d0 (fun _ _ => rfl) K (iotaInDim S32768 32 0) j).1

theorem sort_snd (K : IVec S32768 32) : (Host.sort2 S32768 0 comparator_i32_i32_d0 K (iotaInDim S32768 32 0)).2 = fun j => BitVec.ofNat 32 (ord K (j 0)).val :=
  sort2_iota comparator_i32_i32_d0 (fun _ _ => rfl) K

theorem r48_0 : after hostOps1_4 V main_v48_0 = fun j => (V main_v46 : IVec S32768 32) (Shape.Idx.ofFin (ord (V main_v46) (j 0))) := by
  after_results
  exact sort_fst _

theorem r48_1 : after hostOps1_4 V main_v48_1 = fun j => BitVec.ofNat 32 (ord (V main_v46) (j 0)).val := by
  after_results
  exact sort_snd _

/-- Wrapping a negative index leaves a small one alone. -/
theorem wrap_small (o : IVec S32768 32) (z t : IVec S32768 32) (hz : z = fun _ => 0#32) (g : Fin 32768 → Fin 32768) (ho : o = fun j => BitVec.ofNat 32 (g (j 0)).val) :
    select (cmpi .slt o z) (addi o t) o = o := by
  subst hz ho
  funext j
  show Scalar.select (IntOp.cmpi .slt _ 0#32) _ _ = _
  rw [slt_zero_of_small _ (by have := (g (j 0)).isLt; omega)]
  rfl

theorem rows_ap {α : Type} (X : S32768x3.Idx → α) (o : IVec S32768 32) (g : Fin 32768 → Fin 32768) (ho : o = fun j => BitVec.ofNat 32 (g (j 0)).val) :
    Host.gather gather_S32768x3_S32768x1_S32768x3_1_0_n_n_0_1_13 X (broadcastInDim S32768x1 ![0] bcast_S32768_S32768x1_0 o) = fun j => X (ix2 (g (j 0)) (j 1)) := by
  subst ho
  funext j
  obtain ⟨p, q, rfl⟩ := ex2 j
  exact Idealize.ShloMosaic.Routing.gather_row gather_S32768x3_S32768x1_S32768x3_1_0_n_n_0_1_13 rfl rfl rfl rfl rfl X _ p q (g p) rfl (by decide)

theorem r55 : after hostOps1_4 V main_v55 = fun j => (V main_arg0 : FVec F S32768x3 .f32) (ix2 (ord (V main_v46) (j 0)) (j 1)) := by
  after_results
  rw [sort_snd]
  rw [wrap_small _ _ _ (by rfl) (ord (V main_v46)) rfl]
  exact rows_ap _ _ (ord (V main_v46)) rfl

theorem r62 : after hostOps1_4 V main_v62 = fun j => (V main_arg1 : FVec F S32768x3 .f32) (ix2 (ord (V main_v46) (j 0)) (j 1)) := by
  after_results
  rw [sort_snd]
  rw [wrap_small _ _ _ (by rfl) (ord (V main_v46)) rfl]
  exact rows_ap _ _ (ord (V main_v46)) rfl

end Cert.HostKernelIdeal

end
-- ==== Proof.KernelIdeal.HostTables.lean ====
module

public import proofs.«01_k».proof.Proof.KernelIdeal.HostOps
public import Idealize.ShloMosaic.Lib.StableHlo.Run
public import Idealize.ShloMosaic.Lib.Routing.Ops
public import Idealize.ShloMosaic.Lib.StableHlo.Predicate
public import Idealize.ShloMosaic.Lib.Pointwise

@[expose] public section

set_option maxRecDepth 16384

noncomputable section

namespace Cert.HostKernelIdeal

open Idealize.ShloMosaic Idealize.ShloMosaic.TcCoe Idealize.ShloMosaic.Tactic
open Idealize.ShloMosaic.StableHlo
open Cert.Words Cert.KernelIdeal.Gen
open Cert.KernelIdeal hiding ix2

variable {F : FTy → Type} [FloatOps F]

/-! ## The table computation, stretch by stretch -/

variable (V : Valuation τ sig (Elt F))

theorem ofFin_eq {n : ℕ} (p : Fin n) : (Shape.Idx.ofFin p : (⟨1, ![n]⟩ : Shape).Idx) = ix1 p :=
  funext fun a => match a with | ⟨0, _⟩ => rfl

theorem prev_ap (a : IVec S1 32) (y : IVec S32768 32) (p : Fin 32768) :
    concatenate S32768 0 [⟨S1, a⟩, ⟨S32767, extractStridedSlice S32767 ![0] y slices_S32768_S32767_0⟩] concatenates_S1_S32767_S32768_d0 (ix1 p)
      = if h : p.val = 0 then a (ix1 0) else y (ix1 ⟨p.val - 1, by omega⟩) := by
  by_cases h : p.val = 0
  · rw [dif_pos h]
    obtain rfl : p = 0 := Fin.ext h
    pointwise
  · rw [dif_neg h]
    pointwise
    rw [dif_neg (by omega)]

theorem next_ap (y : IVec S4225 32) (b : IVec S1 32) (p : Fin 4225) :
    concatenate S4225 0 [⟨S4224, extractStridedSlice S4224 ![1] y slices_S4225_S4224_1⟩, ⟨S1, b⟩] concatenates_S4224_S1_S4225_d0 (ix1 p)
      = if h : p.val + 1 < 4225 then y (ix1 ⟨p.val + 1, h⟩) else b (ix1 0) := by
  by_cases h : p.val + 1 < 4225
  · rw [dif_pos h]
    pointwise
    rw [dif_pos (by omega)]
    exact congrArg y (congrArg ix1 (Fin.ext (Nat.add_comm _ _)))
  · rw [dif_neg h]
    obtain rfl : p = 4224 := Fin.ext (by have := p.isLt; omega)
    pointwise

theorem head_ap (x : IVec S32768 32) (p : Fin 4225) : extractStridedSlice S4225 ![0] x slices_S32768_S4225_0 (ix1 p) = x (ix1 ⟨p.val, by omega⟩) := by
  pointwise

theorem gather_ap (x : IVec S32768 32) (i : IVec S4225 32) (p : Fin 4225) (q : Fin 32768) (h : i (ix1 p) = BitVec.ofNat 32 q.val) :
    Host.gather gather_S32768_S4225x1_S4225_n_0_n_n_0_1_1 x (broadcastInDim S4225x1 ![0] bcast_S4225_S4225x1_0 i) (ix1 p) = x (ix1 q) := by
  have hk : broadcastInDim S4225x1 ![0] bcast_S4225_S4225x1_0 i (Idealize.ShloMosaic.StableHlo.Predicate.ixP p) = i (ix1 p) := by
    show i _ = i _
    congr 1
    funext a
    match a with
    | ⟨0, _⟩ => rfl
  have := Idealize.ShloMosaic.StableHlo.Predicate.gather_take gather_S32768_S4225x1_S4225_n_0_n_n_0_1_1 rfl rfl rfl rfl x (broadcastInDim S4225x1 ![0] bcast_S4225_S4225x1_0 i) p (by decide)
  rw [← ofFin_eq p, ← ofFin_eq q, this]
  refine congrArg x (congrArg Shape.Idx.ofFin ?_)
  refine Fin.ext ?_
  show min _ _ = q.val
  rw [hk, h, WordCmp.toInt_eq_toNat_of_lt_half (by rw [BitVec.toNat_ofNat]; have := q.isLt; omega), BitVec.toNat_ofNat]
  have := q.isLt
  omega

theorem r65 (p : Fin 32768) : (after hostOps1_4 V main_v65 : IVec S32768 32) (ix1 p) = if h : p.val = 0 then 4294967295#32 else (V main_v46 : IVec S32768 32) (ix1 (ord (V main_v46) ⟨p.val - 1, by omega⟩)) := by
  after_results
  rw [sort_fst]
  refine (prev_ap _ _ p).trans ?_
  simp only [← ofFin_eq]
  rfl

theorem rc13 : after hostOps1_4 V main_c_13 = constantI S_ 32 256#32 := by after_results

theorem r66 (h0 : V main_c_13 = constantI S_ 32 256#32) : after hostOps1_5 V main_v66 = fun j => remW ((V main_v47 : IVec S32768 32) j) := by
  simp only [hostOps1_5, TRef.ternary, TRef.binary, TRef.unary, TRef.nullary, TRef.toBuf, TRef.ofBuf, cast_eq]
  after_results
  rw [h0]
  funext j; rfl

theorem r70 : after hostOps1_6 V main_v70 = fun j => IntOp.ori (IntOp.cmpi .eq ((V main_v66 : IVec S32768 32) j) 0#32) (IntOp.cmpi .ne ((V main_v48_0 : IVec S32768 32) j) ((V main_v65 : IVec S32768 32) j)) := by
  after_results; rfl

theorem rc15 : after hostOps1_6 V main_c_15 = constantI S_ 32 32768#32 := by after_results

theorem r71 (h0 : V main_c_15 = constantI S_ 32 32768#32) : after hostOps1_7 V main_v71 = fun j => Scalar.select ((V main_v70 : IVec S32768 1) j) ((V main_v47 : IVec S32768 32) j) 32768#32 := by
  simp only [hostOps1_7, TRef.ternary, TRef.binary, TRef.unary, TRef.nullary, TRef.toBuf, TRef.ofBuf, cast_eq]
  after_results
  rw [h0]
  funext j; rfl

/-- The words of a vector in increasing order. -/
def sorted (x : IVec S32768 32) (p : Fin 32768) : BitVec 32 := x (ix1 (ord x p))

theorem sort_one (x : IVec S32768 32) : Host.sort S32768 0 comparator_i32_d0 x = fun j => sorted x (j 0) :=
  funext fun j => (sort_eq comparator_i32_d0 (fun _ _ => rfl) x j).trans (by rw [ofFin_eq]; rfl)

theorem r73 : after hostOps1_8 V main_v73 = fun j => sorted (V main_v71) ⟨(j 0).val, lt_trans (j 0).isLt (by decide)⟩ := by
  after_results
  rw [sort_one]
  funext j
  obtain ⟨p, rfl⟩ := ex1 j
  exact head_ap _ p

theorem r76 (p : Fin 4225) : (after hostOps1_8 V main_v76 : IVec S4225 32) (ix1 p) = if h : p.val + 1 < 4225 then sorted (V main_v71) ⟨p.val + 1, lt_trans h (by decide)⟩ else 32768#32 := by
  after_results
  rw [sort_one]
  refine (next_ap _ _ p).trans ?_
  simp only [head_ap]
  rfl

theorem r78 : after hostOps1_8 V main_v78 = fun j => IntOp.cmpi .slt ((after hostOps1_8 V main_v73 : IVec S4225 32) j) 32768#32 := by
  after_results; rfl

theorem rc18 : after hostOps1_8 V main_c_18 = constantI S_ 32 256#32 := by after_results

theorem r79 (h0 : V main_c_18 = constantI S_ 32 256#32) : after hostOps1_9 V main_v79 = fun j => divW ((V main_v73 : IVec S4225 32) j) := by
  simp only [hostOps1_9, TRef.ternary, TRef.binary, TRef.unary, TRef.nullary, TRef.toBuf, TRef.ofBuf, cast_eq]
  after_results
  rw [h0]
  funext j; rfl

theorem r81 : after hostOps1_10 V main_v81 = fun j => IntOp.minsi ((V main_v79 : IVec S4225 32) j) 127#32 := by
  after_results; rfl

theorem rc20 : after hostOps1_10 V main_c_20 = constantI S_ 32 256#32 := by after_results

theorem r82 (h0 : V main_c_20 = constantI S_ 32 256#32) : after hostOps1_11 V main_v82 = fun j => remW ((V main_v73 : IVec S4225 32) j) := by
  simp only [hostOps1_11, TRef.ternary, TRef.binary, TRef.unary, TRef.nullary, TRef.toBuf, TRef.ofBuf, cast_eq]
  after_results
  rw [h0]
  funext j; rfl

theorem r84 : after hostOps1_12 V main_v84 = fun j => IntOp.subi ((V main_v76 : IVec S4225 32) j) 1#32 := by
  after_results; rfl

theorem rc22 : after hostOps1_12 V main_c_22 = constantI S_ 32 256#32 := by after_results

theorem r85 (h0 : V main_c_22 = constantI S_ 32 256#32) : after hostOps1_13 V main_v85 = fun j => remW ((V main_v84 : IVec S4225 32) j) := by
  simp only [hostOps1_13, TRef.ternary, TRef.binary, TRef.unary, TRef.nullary, TRef.toBuf, TRef.ofBuf, cast_eq]
  after_results
  rw [h0]
  funext j; rfl

theorem r87 : after hostOps1_14 V main_v87 = fun j => IntOp.addi ((V main_v85 : IVec S4225 32) j) 1#32 := by
  after_results; rfl

theorem rc24 : after hostOps1_14 V main_c_24 = constantI S_ 32 0#32 := by after_results

theorem r88 (h0 : V main_c_24 = constantI S_ 32 0#32) : after hostOps1_15 V main_v88 = fun j => Scalar.select ((V main_v78 : IVec S4225 1) j) ((V main_v87 : IVec S4225 32) j) 0#32 := by
  simp only [hostOps1_15, TRef.ternary, TRef.binary, TRef.unary, TRef.nullary, TRef.toBuf, TRef.ofBuf, cast_eq]
  after_results
  rw [h0]
  funext j; rfl

theorem r97 (p : Fin 4225) (hs : ((V main_v73 : IVec S4225 32) (ix1 p)).toNat < 2 ^ 31) :
    (after hostOps1_16 V main_v97 : IVec S4225 32) (ix1 p) = (V main_v48_0 : IVec S32768 32) (ix1 ⟨min ((V main_v73 : IVec S4225 32) (ix1 p)).toNat 32767, by omega⟩) := by
  after_results
  refine gather_ap _ _ p ⟨min ((V main_v73 : IVec S4225 32) (ix1 p)).toNat 32767, by omega⟩ ?_
  have hm := minsi_toNat ((V main_v73 : IVec S4225 32) (ix1 p)) 32767#32 hs (by decide)
  have hm' : IntOp.minsi ((V main_v73 : IVec S4225 32) (ix1 p)) 32767#32 = BitVec.ofNat 32 (min ((V main_v73 : IVec S4225 32) (ix1 p)).toNat 32767) := by
    apply BitVec.eq_of_toNat_eq
    rw [hm, show (32767#32).toNat = 32767 from rfl, BitVec.toNat_ofNat]
    omega
  show Scalar.select (IntOp.cmpi .slt (IntOp.minsi ((V main_v73 : IVec S4225 32) (ix1 p)) 32767#32) 0#32) _ (IntOp.minsi ((V main_v73 : IVec S4225 32) (ix1 p)) 32767#32) = _
  rw [hm', slt_zero_of_small _ (by omega)]
  rfl

theorem r101 : after hostOps1_16 V main_v101 = fun j => BitVec.setWidth 32 (IntOp.andi (IntOp.cmpi .eq ((V main_v82 : IVec S4225 32) j) 0#32) ((V main_v78 : IVec S4225 1) j)) := by
  after_results; rfl

end Cert.HostKernelIdeal

end
-- ==== Proof.KernelIdeal.Keys.lean ====
module

public import proofs.«01_k».proof.Proof.KernelIdeal.HostTables
public import proofs.«01_k».proof.Proof.Shared.Seg
public import Idealize.ShloMosaic.Lib.StableHlo.Run
public import Idealize.ShloMosaic.Lib.Routing.Ops
public import Idealize.ShloMosaic.Lib.StableHlo.Predicate
public import Idealize.ShloMosaic.Lib.Pointwise

@[expose] public section

set_option maxRecDepth 16384

noncomputable section

namespace Cert.HostKernelIdeal

open Idealize.ShloMosaic Idealize.ShloMosaic.TcCoe Idealize.ShloMosaic.Tactic
open Idealize.ShloMosaic.StableHlo
open Cert.Words Cert.KernelIdeal.Gen
open Cert.KernelIdeal hiding ix2

variable {F : FTy → Type} [FloatOps F]

/-! ## The cells of the points and the tables, as functions of the arguments -/

variable (m : (ℓ : Loc nD τ sig) → Buf (Elt F) ℓ) (outs : Outs (F := F)) (c : Dev nD)

/-- The cell of every point, 4096 for a point outside the box. -/
def keyOf (X : FVec F S32768x3 .f32) : IVec S32768 32 := fun j =>
  Scalar.select (inBox X j)
    (cellOf (IntOp.minsi 15#32 (IntOp.maxsi 0#32 (coords X (ix2 (j 0) 0)))) (IntOp.minsi 15#32 (IntOp.maxsi 0#32 (coords X (ix2 (j 0) 1)))) (IntOp.minsi 15#32 (IntOp.maxsi 0#32 (coords X (ix2 (j 0) 2)))))
    4096#32

/-- The cells in increasing order. -/
def cellsOf (K : IVec S32768 32) (p : Fin 32768) : BitVec 32 := K (ix1 (ord K p))

/-- Position `p` if a segment starts there, 32768 otherwise. -/
def starts (K : IVec S32768 32) : IVec S32768 32 := fun j =>
  Scalar.select (IntOp.ori (IntOp.cmpi .eq (remW (BitVec.ofNat 32 (j 0).val)) 0#32)
    (IntOp.cmpi .ne (cellsOf K (j 0)) (if h : (j 0).val = 0 then 4294967295#32 else cellsOf K ⟨(j 0).val - 1, lt_of_le_of_lt (Nat.sub_le _ _) (j 0).isLt⟩)))
    (BitVec.ofNat 32 (j 0).val) 32768#32

/-- The start of segment `k`. -/
def segW (K : IVec S32768 32) (k : Fin 32768) : BitVec 32 := sorted (starts K) k

/-- The point coordinates. -/
abbrev X0 : FVec F S32768x3 .f32 := m (c, Proc.devRef .tc main_arg0)
/-- The viewing directions. -/
abbrev X1 : FVec F S32768x3 .f32 := m (c, Proc.devRef .tc main_arg1)
/-- The cells of the points of `m`. -/
abbrev K0 : IVec S32768 32 := keyOf (X0 m c)

theorem v_arg0 : V2 m outs c main_arg0 = X0 m c := (V2_of m outs c main_arg0 (by decide)).trans <| (V1_of m c main_arg0 (by decide))
theorem v_arg1 : V6 m outs c main_arg1 = X1 m c := (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide))
theorem v_arg0' : V6 m outs c main_arg0 = X0 m c := (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide))

theorem v33 : V4 m outs c main_v33 = fun j => IntOp.minsi 15#32 (IntOp.maxsi 0#32 (coords (X0 m c) j)) := by
  refine (r33 (V3 m outs c) (rc _) (rc4 _)).trans ?_
  rw [show V3 m outs c main_v32 = coords (X0 m c) from (r32 _).trans (by rw [v_arg0])]
  rfl

theorem v45 : V5 m outs c main_v45 = fun j => cellOf (IntOp.minsi 15#32 (IntOp.maxsi 0#32 (coords (X0 m c) (ix2 (j 0) 0)))) (IntOp.minsi 15#32 (IntOp.maxsi 0#32 (coords (X0 m c) (ix2 (j 0) 1)))) (IntOp.minsi 15#32 (IntOp.maxsi 0#32 (coords (X0 m c) (ix2 (j 0) 2)))) := by
  refine (r45 (V4 m outs c)).trans ?_
  rw [v33]

theorem v27 : V5 m outs c main_v27 = inBox (X0 m c) :=
  ((V5_of m outs c main_v27 (by decide)).trans <| (V4_of m outs c main_v27 (by decide))).trans ((r27 _).trans (by rw [v_arg0]))

theorem v46 : V6 m outs c main_v46 = K0 m c := by
  refine (r46 (V5 m outs c) (rc7 _)).trans ?_
  rw [v27, v45]
  rfl

theorem v47 : V7 m outs c main_v47 = fun j => BitVec.ofNat 32 (j 0).val := r47 _

theorem v48_0 : V7 m outs c main_v48_0 = fun j => cellsOf (K0 m c) (j 0) := by
  refine (r48_0 _).trans ?_
  rw [v46]
  funext j
  show _ = K0 m c (ix1 _)
  rw [← ofFin_eq]

theorem v48_1 : V7 m outs c main_v48_1 = fun j => BitVec.ofNat 32 (ord (K0 m c) (j 0)).val := by
  refine (r48_1 _).trans ?_
  rw [v46]

theorem v55 : V7 m outs c main_v55 = fun j => X0 m c (ix2 (ord (K0 m c) (j 0)) (j 1)) := by
  refine (r55 _).trans ?_
  rw [v46, v_arg0']

theorem v62 : V7 m outs c main_v62 = fun j => X1 m c (ix2 (ord (K0 m c) (j 0)) (j 1)) := by
  refine (r62 _).trans ?_
  rw [v46, v_arg1]

theorem v65 (p : Fin 32768) : (V7 m outs c main_v65 : IVec S32768 32) (ix1 p) = if h : p.val = 0 then 4294967295#32 else cellsOf (K0 m c) ⟨p.val - 1, lt_of_le_of_lt (Nat.sub_le _ _) p.isLt⟩ := by
  refine (r65 (V6 m outs c) p).trans ?_
  rw [v46]
  rfl

theorem v66 : V8 m outs c main_v66 = fun j => remW (BitVec.ofNat 32 (j 0).val) := by
  refine (r66 (V7 m outs c) (rc13 _)).trans ?_
  rw [v47]
  rfl

theorem v71 : V10 m outs c main_v71 = starts (K0 m c) := by
  refine (r71 (V9 m outs c) (rc15 _)).trans ?_
  rw [show V9 m outs c main_v70 = _ from r70 (V8 m outs c), v66,
    show V9 m outs c main_v47 = _ from ((V9_of m outs c main_v47 (by decide)).trans <| (V8_of m outs c main_v47 (by decide))).trans (v47 m outs c),
    show V8 m outs c main_v48_0 = _ from ((V8_of m outs c main_v48_0 (by decide))).trans (v48_0 m outs c),
    show V8 m outs c main_v65 = V7 m outs c main_v65 from (V8_of m outs c main_v65 (by decide))]
  funext j
  obtain ⟨p, rfl⟩ := ex1 j
  show Scalar.select (IntOp.ori _ (IntOp.cmpi .ne _ ((V7 m outs c main_v65 : IVec S32768 32) (ix1 p)))) _ _ = _
  rw [v65]
  rfl

theorem v73 : V11 m outs c main_v73 = fun j => segW (K0 m c) ⟨(j 0).val, lt_trans (j 0).isLt (by decide)⟩ := by
  refine (r73 (V10 m outs c)).trans ?_
  rw [v71]
  rfl

theorem v76 (p : Fin 4225) : (V11 m outs c main_v76 : IVec S4225 32) (ix1 p) = if h : p.val + 1 < 4225 then segW (K0 m c) ⟨p.val + 1, lt_trans h (by decide)⟩ else 32768#32 := by
  refine (r76 (V10 m outs c) p).trans ?_
  rw [v71]
  rfl

theorem v78 : V11 m outs c main_v78 = fun j => IntOp.cmpi .slt (segW (K0 m c) ⟨(j 0).val, lt_trans (j 0).isLt (by decide)⟩) 32768#32 := by
  refine (r78 (V10 m outs c)).trans ?_
  rw [show after hostOps1_8 (V10 m outs c) main_v73 = _ from v73 m outs c]
  rfl

/-- The start of item `p`'s segment. -/
abbrev seg (p : Fin 4225) : BitVec 32 := segW (K0 m c) ⟨p.val, lt_trans p.isLt (by decide)⟩

/-- The start of the segment after item `p`'s. -/
def nxt (p : Fin 4225) : BitVec 32 := if h : p.val + 1 < 4225 then seg m c ⟨p.val + 1, h⟩ else 32768#32

theorem v81 : V19 m outs c main_v81 = fun j => IntOp.minsi (divW (seg m c (j 0))) 127#32 := by
  refine ((V19_of m outs c main_v81 (by decide)).trans <| (V18_of m outs c main_v81 (by decide)).trans <| (V17_of m outs c main_v81 (by decide)).trans <| (V16_of m outs c main_v81 (by decide)).trans <| (V15_of m outs c main_v81 (by decide)).trans <| (V14_of m outs c main_v81 (by decide))).trans ((r81 (V12 m outs c)).trans ?_)
  rw [show V12 m outs c main_v79 = _ from r79 (V11 m outs c) (rc18 _), v73]
  rfl

theorem v82 : V14 m outs c main_v82 = fun j => remW (seg m c (j 0)) := by
  refine (r82 (V13 m outs c) (rc20 _)).trans ?_
  rw [show V13 m outs c main_v73 = _ from ((V13_of m outs c main_v73 (by decide)).trans <| (V12_of m outs c main_v73 (by decide))).trans (v73 m outs c)]
  rfl

theorem v82' : V19 m outs c main_v82 = fun j => remW (seg m c (j 0)) :=
  ((V19_of m outs c main_v82 (by decide)).trans <| (V18_of m outs c main_v82 (by decide)).trans <| (V17_of m outs c main_v82 (by decide)).trans <| (V16_of m outs c main_v82 (by decide)).trans <| (V15_of m outs c main_v82 (by decide))).trans (v82 m outs c)

theorem v87 (p : Fin 4225) : (V17 m outs c main_v87 : IVec S4225 32) (ix1 p) = IntOp.addi (remW (IntOp.subi (nxt m c p) 1#32)) 1#32 := by
  rw [show V17 m outs c main_v87 = _ from r87 (V16 m outs c), show V16 m outs c main_v85 = _ from r85 (V15 m outs c) (rc22 _),
    show V15 m outs c main_v84 = _ from r84 (V14 m outs c), show V14 m outs c main_v76 = V11 m outs c main_v76 from (V14_of m outs c main_v76 (by decide)).trans <| (V13_of m outs c main_v76 (by decide)).trans <| (V12_of m outs c main_v76 (by decide))]
  show IntOp.addi (remW (IntOp.subi ((V11 m outs c main_v76 : IVec S4225 32) (ix1 p)) 1#32)) 1#32 = _
  rw [v76]
  rfl

theorem v88 (p : Fin 4225) : (V19 m outs c main_v88 : IVec S4225 32) (ix1 p) = Scalar.select (IntOp.cmpi .slt (seg m c p) 32768#32) (IntOp.addi (remW (IntOp.subi (nxt m c p) 1#32)) 1#32) 0#32 := by
  rw [show V19 m outs c main_v88 = V18 m outs c main_v88 from (V19_of m outs c main_v88 (by decide)), show V18 m outs c main_v88 = _ from r88 (V17 m outs c) (rc24 _),
    show V17 m outs c main_v78 = _ from ((V17_of m outs c main_v78 (by decide)).trans <| (V16_of m outs c main_v78 (by decide)).trans <| (V15_of m outs c main_v78 (by decide)).trans <| (V14_of m outs c main_v78 (by decide)).trans <| (V13_of m outs c main_v78 (by decide)).trans <| (V12_of m outs c main_v78 (by decide))).trans (v78 m outs c)]
  show Scalar.select _ ((V17 m outs c main_v87 : IVec S4225 32) (ix1 p)) _ = _
  rw [v87]
  rfl

theorem v97 (p : Fin 4225) (hs : (seg m c p).toNat < 2 ^ 31) : (V19 m outs c main_v97 : IVec S4225 32) (ix1 p) = cellsOf (K0 m c) ⟨min (seg m c p).toNat 32767, by omega⟩ := by
  have h : V18 m outs c main_v73 = _ := ((V18_of m outs c main_v73 (by decide)).trans <| (V17_of m outs c main_v73 (by decide)).trans <| (V16_of m outs c main_v73 (by decide)).trans <| (V15_of m outs c main_v73 (by decide)).trans <| (V14_of m outs c main_v73 (by decide)).trans <| (V13_of m outs c main_v73 (by decide)).trans <| (V12_of m outs c main_v73 (by decide))).trans (v73 m outs c)
  have h' : (V18 m outs c main_v73 : IVec S4225 32) (ix1 p) = seg m c p := congrFun h (ix1 p)
  refine (r97 (V18 m outs c) p (by rw [h']; exact hs)).trans ?_
  rw [show V18 m outs c main_v48_0 = _ from ((V18_of m outs c main_v48_0 (by decide)).trans <| (V17_of m outs c main_v48_0 (by decide)).trans <| (V16_of m outs c main_v48_0 (by decide)).trans <| (V15_of m outs c main_v48_0 (by decide)).trans <| (V14_of m outs c main_v48_0 (by decide)).trans <| (V13_of m outs c main_v48_0 (by decide)).trans <| (V12_of m outs c main_v48_0 (by decide)).trans <| (V11_of m outs c main_v48_0 (by decide)).trans <| (V10_of m outs c main_v48_0 (by decide)).trans <| (V9_of m outs c main_v48_0 (by decide)).trans <| (V8_of m outs c main_v48_0 (by decide))).trans (v48_0 m outs c)]
  simp only [h']
  rfl

theorem v101 : V19 m outs c main_v101 = fun j => BitVec.setWidth 32 (IntOp.andi (IntOp.cmpi .eq (remW (seg m c (j 0))) 0#32) (IntOp.cmpi .slt (seg m c (j 0)) 32768#32)) := by
  refine (r101 (V18 m outs c)).trans ?_
  rw [show V18 m outs c main_v82 = _ from ((V18_of m outs c main_v82 (by decide)).trans <| (V17_of m outs c main_v82 (by decide)).trans <| (V16_of m outs c main_v82 (by decide)).trans <| (V15_of m outs c main_v82 (by decide))).trans (v82 m outs c),
    show V18 m outs c main_v78 = _ from ((V18_of m outs c main_v78 (by decide)).trans <| (V17_of m outs c main_v78 (by decide)).trans <| (V16_of m outs c main_v78 (by decide)).trans <| (V15_of m outs c main_v78 (by decide)).trans <| (V14_of m outs c main_v78 (by decide)).trans <| (V13_of m outs c main_v78 (by decide)).trans <| (V12_of m outs c main_v78 (by decide))).trans (v78 m outs c)]
  rfl

end Cert.HostKernelIdeal

end
-- ==== Proof.KernelIdeal.Items.lean ====
module

public import proofs.«01_k».proof.Proof.KernelIdeal.Keys
public import Idealize.ShloMosaic.Lib.StableHlo.Run
public import Idealize.ShloMosaic.Lib.Routing.Ops
public import Idealize.ShloMosaic.Lib.StableHlo.Predicate
public import Idealize.ShloMosaic.Lib.Pointwise

@[expose] public section

set_option maxRecDepth 16384

noncomputable section

namespace Cert.HostKernelIdeal

open Idealize.ShloMosaic Idealize.ShloMosaic.TcCoe Idealize.ShloMosaic.Tactic
open Idealize.ShloMosaic.StableHlo
open Cert.Words Cert.Seg Cert.KernelIdeal.Gen
open Cert.KernelIdeal hiding ix2

variable {F : FTy → Type} [FloatOps F]

/-! ## The tables as numbers -/

theorem clip_le (y : BitVec 32) : (IntOp.minsi 15#32 (IntOp.maxsi 0#32 y)).toNat ≤ 15 := by
  have h := minsi_toNat 15#32 (IntOp.maxsi 0#32 y) (by decide) (by have := WordArith.two_mul_toNat_maxsi_zero_lt y; change 2 * (IntOp.maxsi 0#32 y).toNat < 2 ^ 32 at this; omega)
  rw [h]
  exact Nat.min_le_left _ _

theorem cellOf_toNat (a b c : BitVec 32) (ha : a.toNat ≤ 15) (hb : b.toNat ≤ 15) (hc : c.toNat ≤ 15) : (cellOf a b c).toNat = (a.toNat * 16 + b.toNat) * 16 + c.toNat := by
  show (((a * 16#32 + b) * 16#32) + c).toNat = _
  rw [BitVec.toNat_add, BitVec.toNat_mul, BitVec.toNat_add, BitVec.toNat_mul, show (16#32).toNat = 16 from rfl]
  omega

theorem keyOf_le (X : FVec F S32768x3 .f32) (j : S32768.Idx) : (keyOf X j).toNat ≤ 4096 := by
  show (Scalar.select _ (cellOf _ _ _) _).toNat ≤ 4096
  rw [select_ite]
  split
  · rw [cellOf_toNat _ _ _ (clip_le _) (clip_le _) (clip_le _)]
    have h0 := clip_le (coords X (ix2 (j 0) 0))
    have h1 := clip_le (coords X (ix2 (j 0) 1))
    have h2 := clip_le (coords X (ix2 (j 0) 2))
    omega
  · decide

/-- The sorted cells and the segment starts as functions on the naturals. -/
def csN (K : IVec S32768 32) (p : ℕ) : ℕ := if h : p < 32768 then (cellsOf K ⟨p, h⟩).toNat else 4096
def rsN (K : IVec S32768 32) (k : ℕ) : ℕ := if h : k < 32768 then (segW K ⟨k, h⟩).toNat else 32768

theorem csN_of (K : IVec S32768 32) (p : Fin 32768) : csN K p.val = (cellsOf K p).toNat := dif_pos p.isLt
theorem rsN_of (K : IVec S32768 32) (p : Fin 32768) : rsN K p.val = (segW K p).toNat := dif_pos p.isLt

instance (cs : ℕ → ℕ) (p : ℕ) : Decidable (New cs p) := by unfold New; infer_instance

theorem starts_toNat (K : IVec S32768 32) (p : Fin 32768) : (starts K (ix1 p)).toNat = if New (csN K) p.val then p.val else 32768 := by
  have hp := p.isLt
  have e : (BitVec.ofNat 32 p.val).toNat = p.val := by rw [BitVec.toNat_ofNat]; omega
  show (Scalar.select (IntOp.ori (IntOp.cmpi .eq (remW (BitVec.ofNat 32 p.val)) 0#32)
    (IntOp.cmpi .ne (cellsOf K p) (if h : p.val = 0 then 4294967295#32 else cellsOf K ⟨p.val - 1, _⟩)))
    (BitVec.ofNat 32 p.val) 32768#32).toNat = _
  rw [select_ite]
  have hc : IntOp.ori (IntOp.cmpi .eq (remW (BitVec.ofNat 32 p.val)) 0#32)
      (IntOp.cmpi .ne (cellsOf K p) (if h : p.val = 0 then 4294967295#32 else cellsOf K ⟨p.val - 1, lt_of_le_of_lt (Nat.sub_le _ _) p.isLt⟩)) = 1#1 ↔ New (csN K) p.val := by
    rw [ori_iff, eq_iff, ne_iff, remW_toNat _ (by omega), e]
    unfold New
    by_cases h0 : p.val = 0
    · simp [h0]
    · rw [dif_neg h0, csN_of K p, show csN K (p.val - 1) = _ from csN_of K ⟨p.val - 1, by omega⟩]
      exact Iff.rfl
  by_cases h : New (csN K) p.val
  · rw [if_pos (hc.2 h), if_pos h, e]
  · rw [if_neg (fun h' => h (hc.1 h')), if_neg h]
    rfl

theorem starts_lt (K : IVec S32768 32) (j : S32768.Idx) : (starts K j).toNat < 2 ^ 31 := by
  obtain ⟨p, rfl⟩ := ex1 j
  rw [starts_toNat]
  have := p.isLt
  split <;> omega

theorem segs (K : IVec S32768 32) (hK : ∀ j, (K j).toNat ≤ 4096) : Segs (csN K) (rsN K) where
  mono p q hpq hq := by
    have h := orderOf_mono K (fun j => lt_of_le_of_lt (hK j) (by decide)) ⟨p, by omega⟩ ⟨q, hq⟩ hpq
    rw [ofFin_eq, ofFin_eq] at h
    rw [show csN K p = _ from csN_of K ⟨p, by omega⟩, show csN K q = _ from csN_of K ⟨q, hq⟩]
    exact h
  le p hp := by
    rw [show csN K p = _ from csN_of K ⟨p, hp⟩]
    exact hK _
  rmono j k hjk hk := by
    have h := orderOf_mono (starts K) (starts_lt K) ⟨j, by omega⟩ ⟨k, hk⟩ hjk
    rw [ofFin_eq, ofFin_eq] at h
    rw [show rsN K j = _ from rsN_of K ⟨j, by omega⟩, show rsN K k = _ from rsN_of K ⟨k, hk⟩]
    exact h
  rnew k hk := by
    rw [show rsN K k = _ from rsN_of K ⟨k, hk⟩]
    have h := starts_toNat K (ord (starts K) ⟨k, hk⟩)
    change (segW K ⟨k, hk⟩).toNat = _ at h
    rw [h]
    have := (ord (starts K) ⟨k, hk⟩).isLt
    split
    · rename_i h'; exact .inr ⟨this, h'⟩
    · exact .inl rfl
  rinj j k hjk hk hr he := by
    have h1 := starts_toNat K (ord (starts K) ⟨j, by omega⟩)
    have h2 := starts_toNat K (ord (starts K) ⟨k, hk⟩)
    change (segW K ⟨j, by omega⟩).toNat = _ at h1
    change (segW K ⟨k, hk⟩).toNat = _ at h2
    rw [show rsN K k = _ from rsN_of K ⟨k, hk⟩] at hr he
    rw [show rsN K j = _ from rsN_of K ⟨j, by omega⟩] at he
    have e : ord (starts K) ⟨j, by omega⟩ = ord (starts K) ⟨k, hk⟩ := by
      apply Fin.ext
      split at h1 <;> split at h2 <;> omega
    have := congrArg Fin.val ((orderOf_bij (starts K)).1 e)
    change j = k at this
    omega
  rsurj p hp hn := by
    obtain ⟨k, hk⟩ := (orderOf_bij (starts K)).2 ⟨p, hp⟩
    refine ⟨k.val, k.isLt, ?_⟩
    rw [rsN_of]
    have h := starts_toNat K (ord (starts K) k)
    change (segW K k).toNat = _ at h
    rw [h, show ord (starts K) k = ⟨p, hp⟩ from hk, if_pos hn]

variable (m : (ℓ : Loc nD τ sig) → Buf (Elt F) ℓ) (outs : Outs (F := F)) (c : Dev nD)

theorem segs0 : Segs (csN (K0 m c)) (rsN (K0 m c)) := segs _ (keyOf_le _)

theorem seg_toNat (p : Fin 4225) : (seg m c p).toNat = rsN (K0 m c) p.val := (rsN_of _ _).symm

theorem seg_le (p : Fin 4225) : (seg m c p).toNat ≤ 32768 := by
  rw [seg_toNat]; exact (segs0 m c).rle _ (by have := p.isLt; omega)

theorem nxt_toNat (p : Fin 4225) : (nxt m c p).toNat = rsN (K0 m c) (p.val + 1) := by
  unfold nxt
  split
  · exact seg_toNat m c _
  · have h1 := (segs0 m c).rs_last
    have h2 := (segs0 m c).rmono 4224 4225 (by omega) (by omega)
    have h3 := (segs0 m c).rle 4225 (by omega)
    rw [show p.val + 1 = 4225 by have := p.isLt; omega]
    show 32768 = _
    omega

theorem tile_toNat (p : Fin 4225) : ((V19 m outs c main_v81 : IVec S4225 32) (ix1 p)).toNat = min (rsN (K0 m c) p.val / 256) 127 := by
  have hl := seg_le m c p
  rw [v81]
  show (IntOp.minsi (divW (seg m c p)) 127#32).toNat = _
  rw [minsi_toNat _ _ (by rw [divW_toNat _ (by omega)]; omega) (by decide), divW_toNat _ (by omega), seg_toNat]
  rfl

theorem start_toNat (p : Fin 4225) : ((V19 m outs c main_v82 : IVec S4225 32) (ix1 p)).toNat = rsN (K0 m c) p.val % 256 := by
  have hl := seg_le m c p
  rw [v82']
  show (remW (seg m c p)).toNat = _
  rw [remW_toNat _ (by omega), seg_toNat]

theorem cell_toNat (p : Fin 4225) : ((V19 m outs c main_v97 : IVec S4225 32) (ix1 p)).toNat = csN (K0 m c) (min (rsN (K0 m c) p.val) 32767) := by
  have hl := seg_le m c p
  rw [v97 m outs c p (by omega), ← seg_toNat m c p, ← csN_of]

theorem end_toNat (p : Fin 4225) : ((V19 m outs c main_v88 : IVec S4225 32) (ix1 p)).toNat = if rsN (K0 m c) p.val < 32768 then (rsN (K0 m c) (p.val + 1) - 1) % 256 + 1 else 0 := by
  have hl := seg_le m c p
  rw [v88, select_ite]
  have hc := slt_iff (seg m c p) 32768#32 (by omega) (by decide)
  rw [seg_toNat, show (32768#32).toNat = 32768 from rfl] at hc
  by_cases h : rsN (K0 m c) p.val < 32768
  · rw [if_pos (hc.2 h), if_pos h]
    have hn := nxt_toNat m c p
    have h1 : 0 < rsN (K0 m c) (p.val + 1) := by
      have := (segs0 m c).rlt p.val (p.val + 1) (by omega) (by have := p.isLt; omega)
      have := (segs0 m c).rnew (p.val + 1) (by have := p.isLt; omega)
      omega
    have h2 := (segs0 m c).rle (p.val + 1) (by have := p.isLt; omega)
    have hs : (IntOp.subi (nxt m c p) 1#32).toNat = rsN (K0 m c) (p.val + 1) - 1 := by
      show (nxt m c p - 1#32).toNat = _
      rw [BitVec.toNat_sub, hn, show (1#32).toNat = 1 from rfl]
      omega
    show (remW (IntOp.subi (nxt m c p) 1#32) + 1#32).toNat = _
    rw [BitVec.toNat_add, remW_toNat _ (by omega), hs, show (1#32).toNat = 1 from rfl]
    omega
  · rw [if_neg (fun h' => h (hc.1 h')), if_neg h]
    rfl

theorem first_word (p : Fin 4225) : (V19 m outs c main_v101 : IVec S4225 32) (ix1 p) = if rsN (K0 m c) p.val % 256 = 0 ∧ rsN (K0 m c) p.val < 32768 then 1#32 else 0#32 := by
  have hl := seg_le m c p
  rw [v101]
  show BitVec.setWidth 32 (IntOp.andi (IntOp.cmpi .eq (remW (seg m c p)) 0#32) (IntOp.cmpi .slt (seg m c p) 32768#32)) = _
  have hc : IntOp.andi (IntOp.cmpi .eq (remW (seg m c p)) 0#32) (IntOp.cmpi .slt (seg m c p) 32768#32) = 1#1 ↔ (rsN (K0 m c) p.val % 256 = 0 ∧ rsN (K0 m c) p.val < 32768) := by
    rw [andi_iff, eq_iff, slt_iff _ _ (by omega) (by decide), remW_toNat _ (by omega), seg_toNat]
    exact Iff.rfl
  by_cases h : rsN (K0 m c) p.val % 256 = 0 ∧ rsN (K0 m c) p.val < 32768
  · rw [if_pos h, hc.2 h]; rfl
  · rw [if_neg h]
    have : ∀ b : BitVec 1, b ≠ 1#1 → BitVec.setWidth 32 b = 0#32 := by decide
    exact this _ (fun h' => h (hc.1 h'))

end Cert.HostKernelIdeal

end
-- ==== Proof.KernelIdeal.PackRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Pack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what each core's buffers hold when the call begins
variable (W : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-! ## What the body leaves in its output buffer -/

abbrev box0 : Rect S32x80x128 := Rect.unit (s := S32x80x128) ![0, 0, 0] S32x80x128.size inb_S32x80x128_S32x80x128_0_0_0
abbrev box1 : Rect S32x80x128 := Rect.unit (s := S32x80x128) ![0, 0, 0] S32x63x32.size inb_S32x80x128_S32x63x32_0_0_0
abbrev box2 : Rect S32x80x128 := Rect.unit (s := S32x80x128) ![0, 63, 0] S32x1x32.size inb_S32x80x128_S32x1x32_0_63_0
abbrev box3 : Rect S32x80x128 := Rect.unit (s := S32x80x128) ![0, 0, 32] S32x59x32.size inb_S32x80x128_S32x59x32_0_0_32
abbrev box4 : Rect S32x80x128 := Rect.unit (s := S32x80x128) ![0, 59, 32] S32x1x32.size inb_S32x80x128_S32x1x32_0_59_32
abbrev box5 : Rect S32x80x128 := Rect.unit (s := S32x80x128) ![0, 0, 64] S32x32x32.size inb_S32x80x128_S32x32x32_0_0_64
abbrev box6 : Rect S32x80x128 := Rect.unit (s := S32x80x128) ![0, 32, 64] S32x1x32.size inb_S32x80x128_S32x1x32_0_32_64
abbrev box7 : Rect S32x80x128 := Rect.unit (s := S32x80x128) ![0, 40, 64] S32x32x32.size inb_S32x80x128_S32x32x32_0_40_64
abbrev box8 : Rect S32x80x128 := Rect.unit (s := S32x80x128) ![0, 72, 64] S32x1x32.size inb_S32x80x128_S32x1x32_0_72_64
abbrev box9 : Rect S32x80x128 := Rect.unit (s := S32x80x128) ![0, 0, 96] S32x32x3.size inb_S32x80x128_S32x32x3_0_0_96
abbrev box10 : Rect S32x80x128 := Rect.unit (s := S32x80x128) ![0, 32, 96] S32x1x3.size inb_S32x80x128_S32x1x3_0_32_96
abbrev box11 : Rect S32x80x128 := Rect.unit (s := S32x80x128) ![0, 0, 99] S32x32x1.size inb_S32x80x128_S32x32x1_0_0_99
abbrev box12 : Rect S32x80x128 := Rect.unit (s := S32x80x128) ![0, 32, 99] S32x1x1.size inb_S32x80x128_S32x1x1_0_32_99

/-- The thirteen stores of the body, last first. -/
def pieces (x0 : Vec F S32x63x32 .f32) (x1 : Vec F S32x1x32 .f32) (x2 : Vec F S32x32x33 .f32) (x3 : Vec F S32x1x33 .f32) (x4 : Vec F S32x32x32 .f32) (x5 : Vec F S32x1x32 .f32) (x6 : Vec F S32x59x32 .f32) (x7 : Vec F S32x1x32 .f32) (x8 : Vec F S32x32x3 .f32) (x9 : Vec F S32x1x3 .f32) : List (View.Piece (Elt F) S32x80x128 .f32) :=
  [⟨box12, k0_pay1 (View.ld x3 (Rect.unit (s := S32x1x33) ![0, 0, 0] S32x1x1.size inb_S32x1x33_S32x1x1_0_0_0))⟩,
   ⟨box11, k0_pay13 (View.ld x2 (Rect.unit (s := S32x32x33) ![0, 0, 0] S32x32x1.size inb_S32x32x33_S32x32x1_0_0_0))⟩,
   ⟨box10, k0_pay12 (View.ld x9 (Rect.unit (s := S32x1x3) ![0, 0, 0] S32x1x3.size inb_S32x1x3_S32x1x3_0_0_0))⟩,
   ⟨box9, k0_pay11 (View.ld x8 (Rect.unit (s := S32x32x3) ![0, 0, 0] S32x32x3.size inb_S32x32x3_S32x32x3_0_0_0))⟩,
   ⟨box8, k0_pay10 (View.ld x5 (Rect.unit (s := S32x1x32) ![0, 0, 0] S32x1x32.size inb_S32x1x32_S32x1x32_0_0_0))⟩,
   ⟨box7, k0_pay9 (View.ld x4 (Rect.unit (s := S32x32x32) ![0, 0, 0] S32x32x32.size inb_S32x32x32_S32x32x32_0_0_0))⟩,
   ⟨box6, k0_pay8 (View.ld x3 (Rect.unit (s := S32x1x33) ![0, 0, 1] S32x1x32.size inb_S32x1x33_S32x1x32_0_0_1))⟩,
   ⟨box5, k0_pay7 (View.ld x2 (Rect.unit (s := S32x32x33) ![0, 0, 1] S32x32x32.size inb_S32x32x33_S32x32x32_0_0_1))⟩,
   ⟨box4, k0_pay6 (View.ld x7 (Rect.unit (s := S32x1x32) ![0, 0, 0] S32x1x32.size inb_S32x1x32_S32x1x32_0_0_0))⟩,
   ⟨box3, k0_pay5 (View.ld x6 (Rect.unit (s := S32x59x32) ![0, 0, 0] S32x59x32.size inb_S32x59x32_S32x59x32_0_0_0))⟩,
   ⟨box2, k0_pay4 (View.ld x1 (Rect.unit (s := S32x1x32) ![0, 0, 0] S32x1x32.size inb_S32x1x32_S32x1x32_0_0_0))⟩,
   ⟨box1, k0_pay3 (View.ld x0 (Rect.unit (s := S32x63x32) ![0, 0, 0] S32x63x32.size inb_S32x63x32_S32x63x32_0_0_0))⟩,
   ⟨box0, k0_pay2 (F := F)⟩]

/-- What the stores leave in the output buffer. -/
def packOut (x0 : Vec F S32x63x32 .f32) (x1 : Vec F S32x1x32 .f32) (x2 : Vec F S32x32x33 .f32) (x3 : Vec F S32x1x33 .f32) (x4 : Vec F S32x32x32 .f32) (x5 : Vec F S32x1x32 .f32) (x6 : Vec F S32x59x32 .f32) (x7 : Vec F S32x1x32 .f32) (x8 : Vec F S32x32x3 .f32) (x9 : Vec F S32x1x3 .f32) : Vec F S32x80x128 .f32 :=
  View.canon (pieces x0 x1 x2 x3 x4 x5 x6 x7 x8 x9)

/-- The first store fills the whole buffer, so the stores cover it. -/
theorem packCover (x0 : Vec F S32x63x32 .f32) (x1 : Vec F S32x1x32 .f32) (x2 : Vec F S32x32x33 .f32) (x3 : Vec F S32x1x33 .f32) (x4 : Vec F S32x32x32 .f32) (x5 : Vec F S32x1x32 .f32) (x6 : Vec F S32x59x32 .f32) (x7 : Vec F S32x1x32 .f32) (x8 : Vec F S32x32x3 .f32) (x9 : Vec F S32x1x3 .f32) (y : S32x80x128.Idx) :
    ∃ pc ∈ pieces x0 x1 x2 x3 x4 x5 x6 x7 x8 x9, y ∈ pc.1.set := by
  obtain ⟨pc, hpc, hy⟩ := View.cover_of_tiled ([⟨box0, k0_pay2 (F := F)⟩] : List (View.Piece (Elt F) S32x80x128 .f32)) S32x80x128.size (by rfl) y
  rw [List.mem_singleton] at hpc
  subst hpc
  exact ⟨_, by unfold pieces; simp, hy⟩

/-! ## The body -/

set_option maxHeartbeats 4000000 in
/-- The body on whole buffers: the inputs are left as they were, each output holds its stores. -/
theorem sound_kernel (c : Dev nD) (E : Set ℕ) (i : grid0.Coords) (arg1 : Memref sig .tc .vmem S32x63x32 .f32) (harg1 : arg1.IsWhole) (arg2 : Memref sig .tc .vmem S32x1x32 .f32) (harg2 : arg2.IsWhole) (arg3 : Memref sig .tc .vmem S32x32x33 .f32) (harg3 : arg3.IsWhole) (arg4 : Memref sig .tc .vmem S32x1x33 .f32) (harg4 : arg4.IsWhole) (arg5 : Memref sig .tc .vmem S32x32x32 .f32) (harg5 : arg5.IsWhole) (arg6 : Memref sig .tc .vmem S32x1x32 .f32) (harg6 : arg6.IsWhole) (arg7 : Memref sig .tc .vmem S32x59x32 .f32) (harg7 : arg7.IsWhole) (arg8 : Memref sig .tc .vmem S32x1x32 .f32) (harg8 : arg8.IsWhole) (arg9 : Memref sig .tc .vmem S32x32x3 .f32) (harg9 : arg9.IsWhole) (arg10 : Memref sig .tc .vmem S32x1x3 .f32) (harg10 : arg10.IsWhole) (arg11 : Memref sig .tc .vmem S32x80x128 .f32) (harg11 : arg11.IsWhole)
    (x0 : Vec F S32x63x32 .f32) (x1 : Vec F S32x1x32 .f32) (x2 : Vec F S32x32x33 .f32) (x3 : Vec F S32x1x33 .f32) (x4 : Vec F S32x32x32 .f32) (x5 : Vec F S32x1x32 .f32) (x6 : Vec F S32x59x32 .f32) (x7 : Vec F S32x1x32 .f32) (x8 : Vec F S32x32x3 .f32) (x9 : Vec F S32x1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (packOut x0 x1 x2 x3 x4 x5 x6 x7 x8 x9)) -∗ K ⟨⟩))
      ⊢ wp frame (wpE (defs₀ (F := F)) Variants.none c none) E (cc0__pack_body i arg1 harg1 arg2 harg2 arg3 harg3 arg4 harg4 arg5 harg5 arg6 harg6 arg7 harg7 arg8 harg8 arg9 harg9 arg10 harg10 arg11 harg11) K := by
  simp only [cc0__pack_body_eq_skeleton]; unfold cc0__pack_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (packCover _ _ _ _ _ _ _ _ _ _)).trans ?_
  rfl

/-! ## The call's proof data -/

/-- The call's proof data on core `c`: the arrays as the call finds them; after the body at a point each input's
    buffer at its block and each output's at what the stores leave; nothing owed, full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => packOut (iblk W c 0 t) (iblk W c 1 t) (iblk W c 2 t) (iblk W c 3 t) (iblk W c 4 t) (iblk W c 5 t) (iblk W c 6 t) (iblk W c 7 t) (iblk W c 8 t) (iblk W c 9 t)
  Φ _ := Pipeline.scopedRest spec0 c
  q _ := fullShare
  owed _ := 0

theorem A_eq (c : Dev nD) (w : Fin cfg0.W) : (dat W c).A w = W c (Proc.devRef .tc (Pipeline.arrRef spec0 w)) := by
  dsimp only [dat]

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = iblk W c 4 t := by dsimp only [dat]
theorem after_5 (c : Dev nD) (t : Fin cfg0.N) : (dat W c).after 5 t = iblk W c 5 t := by dsimp only [dat]
theorem after_6 (c : Dev nD) (t : Fin cfg0.N) : (dat W c).after 6 t = iblk W c 6 t := by dsimp only [dat]
theorem after_7 (c : Dev nD) (t : Fin cfg0.N) : (dat W c).after 7 t = iblk W c 7 t := by dsimp only [dat]
theorem after_8 (c : Dev nD) (t : Fin cfg0.N) : (dat W c).after 8 t = iblk W c 8 t := by dsimp only [dat]
theorem after_9 (c : Dev nD) (t : Fin cfg0.N) : (dat W c).after 9 t = iblk W c 9 t := by dsimp only [dat]
theorem after_10 (c : Dev nD) (t : Fin cfg0.N) : (dat W c).after 10 t = packOut (iblk W c 0 t) (iblk W c 1 t) (iblk W c 2 t) (iblk W c 3 t) (iblk W c 4 t) (iblk W c 5 t) (iblk W c 6 t) (iblk W c 7 t) (iblk W c 8 t) (iblk W c 9 t) := by dsimp only [dat]

theorem before_0 (c : Dev nD) (t : Fin cfg0.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat W c).before 3 t d = iblk W c 3 t :=
  ((dat W c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat W c).before 4 t d = iblk W c 4 t :=
  ((dat W c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat W c).before 5 t d = iblk W c 5 t :=
  ((dat W c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat W c).before 6 t d = iblk W c 6 t :=
  ((dat W c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat W c).before 7 t d = iblk W c 7 t :=
  ((dat W c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat W c).before 8 t d = iblk W c 8 t :=
  ((dat W c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat W c).before 9 t d = iblk W c 9 t :=
  ((dat W c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d))
    ∗ (∃ d, owns (c : Thread nD τ) (st0_10 t) fullShare ((dat W c).before 10 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t)
    ∗ owns (c : Thread nD τ) (st0_10 t) fullShare ((dat W c).after 10 t))

set_option maxHeartbeats 1000000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5, before_6, before_7, before_8, before_9]
  rw [show (dat W c).Φ t.succ = (dat W c).Φ t.castSucc from rfl,
    show (dat W c).owesAt () t.succ = (dat W c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) (iblk W c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Pack

end
-- ==== Proof.KernelIdeal.EncRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what each core's buffers hold when the call begins
variable (W : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-! ## What the body leaves in its output buffers -/

abbrev box0 : Rect S512x3 := Rect.unit (s := S512x3) ![0, 0] S512x3.size inb_S512x3_S512x3_0_0
abbrev box1 : Rect S512x63 := Rect.unit (s := S512x63) ![0, 0] S512x63.size inb_S512x63_S512x63_0_0
abbrev box2 : Rect S512x27 := Rect.unit (s := S512x27) ![0, 0] S512x27.size inb_S512x27_S512x27_0_0

/-- The position encoding of a block of points. -/
def posVal (x0 : Vec F S512x3 .f32) : FVec F S512x63 .f32 :=
  k1_pay10 (k1_pay2 (View.ld x0 box0)) (iota .tc S512x63 32 [1] iota_S512x63_d1_w32) k1_pay4 k1_pay5 k1_pay6
    (Scalar.select (Scalar.cmpi .eq 3#32 0#32) 1#32 3#32) k1_pay7 k1_pay8 k1_pay9

/-- The direction encoding of a block of points. -/
def dirVal (x1 : Vec F S512x3 .f32) : FVec F S512x27 .f32 :=
  k1_pay1 (k1_pay11 (View.ld x1 box0)) (iota .tc S512x27 32 [1] iota_S512x27_d1_w32)
    (k1_pay14 k1_pay12 6#32 k1_pay13) (k1_pay15 k1_pay12 6#32 k1_pay13)
    (k1_pay16 (iota .tc S512x27 32 [1] iota_S512x27_d1_w32) k1_pay12 6#32 k1_pay13)
    (k1_pay17 (k1_pay11 (View.ld x1 box0))) (k1_pay18 (k1_pay11 (View.ld x1 box0)))

/-- What the body leaves in the buffer of position encodings, -/
def posOut (x0 : Vec F S512x3 .f32) (x1 : Vec F S512x3 .f32) : Vec F S512x63 .f32 :=
  View.canon [⟨box1, posVal x0⟩]

theorem posCover (p0 : Vec F S512x63 .f32) (y : S512x63.Idx) :
    ∃ pc ∈ ([⟨box1, p0⟩] : List (View.Piece (Elt F) S512x63 .f32)), y ∈ pc.1.set :=
  View.cover_of_tiled [⟨box1, p0⟩] S512x63.size (by rfl) y

/-- and in the buffer of direction encodings. -/
def dirOut (x0 : Vec F S512x3 .f32) (x1 : Vec F S512x3 .f32) : Vec F S512x27 .f32 :=
  View.canon [⟨box2, dirVal x1⟩]

theorem dirCover (p0 : Vec F S512x27 .f32) (y : S512x27.Idx) :
    ∃ pc ∈ ([⟨box2, p0⟩] : List (View.Piece (Elt F) S512x27 .f32)), y ∈ pc.1.set :=
  View.cover_of_tiled [⟨box2, p0⟩] S512x27.size (by rfl) y

/-! ## The body -/

set_option maxHeartbeats 4000000 in
/-- The body on whole buffers: the inputs are left as they were, each output holds its stores. -/
theorem sound_kernel (c : Dev nD) (E : Set ℕ) (i : grid1.Coords) (arg1 : Memref sig .tc .vmem S512x3 .f32) (harg1 : arg1.IsWhole) (arg2 : Memref sig .tc .vmem S512x3 .f32) (harg2 : arg2.IsWhole) (arg3 : Memref sig .tc .vmem S512x63 .f32) (harg3 : arg3.IsWhole) (arg4 : Memref sig .tc .vmem S512x27 .f32) (harg4 : arg4.IsWhole)
    (x0 : Vec F S512x3 .f32) (x1 : Vec F S512x3 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (posOut x0 x1) ∗ owns (c : Thread nD τ) arg4 fullShare (dirOut x0 x1)) -∗ K ⟨⟩))
      ⊢ wp frame (wpE (defs₀ (F := F)) Variants.none c none) E (cc1__enc_body i arg1 harg1 arg2 harg2 arg3 harg3 arg4 harg4) K := by
  simp only [cc1__enc_body_eq_skeleton]; unfold cc1__enc_body_skel
  simp only [k1_part1_eq_skeleton, k1_part2_eq_skeleton, k1_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (posCover _)).trans ?_
    rfl
  iexists _; isplitr
  swap; · iexact H3
  ipureintro
  refine (View.read_writes_eq_canon _ _ _ (dirCover _)).trans ?_
  rfl

/-! ## The call's proof data -/

/-- The call's proof data on core `c`: the arrays as the call finds them; after the body at a point each input's
    buffer at its block and each output's at what the stores leave; nothing owed, full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => posOut (iblk W c 0 t) (iblk W c 1 t)
    | ⟨3, _⟩ => dirOut (iblk W c 0 t) (iblk W c 1 t)
  Φ _ := Pipeline.scopedRest spec1 c
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = posOut (iblk W c 0 t) (iblk W c 1 t) := by dsimp only [dat]
theorem after_3 (c : Dev nD) (t : Fin cfg1.N) : (dat W c).after 3 t = dirOut (iblk W c 0 t) (iblk W c 1 t) := by dsimp only [dat]

theorem before_0 (c : Dev nD) (t : Fin cfg1.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t))

set_option maxHeartbeats 1000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1]
  rw [show (dat W c).Φ t.succ = (dat W c).Φ t.castSucc from rfl,
    show (dat W c).owesAt () t.succ = (dat W c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk W c 0 t) (iblk W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Enc

end
-- ==== Proof.KernelIdeal.MlpBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The words of the tables, and what the body stores -/

/-- The word of a table a grid point reads. -/
def word (T : Vec F S4225 .i32) (i : grid2.Coords) : BitVec 32 :=
  View.ld T (Rect.unit (s := S4225) (k2_off1 i) S1.size (k2_off1_inb i)) (Shape.Idx.first (numel1_S1.symm ▸ Nat.one_pos))

abbrev box0 : Rect S1x80x128 := Rect.unit (s := S1x80x128) ![0, 0, 0] S1x80x128.size inb_S1x80x128_S1x80x128_0_0_0
abbrev box1 : Rect S256x63 := Rect.unit (s := S256x63) ![0, 0] S256x63.size inb_S256x63_S256x63_0_0
abbrev box2 : Rect S256x27 := Rect.unit (s := S256x27) ![0, 0] S256x27.size inb_S256x27_S256x27_0_0
abbrev box3 : Rect S256x8 := Rect.unit (s := S256x8) ![0, 0] S256x8.size inb_S256x8_S256x8_0_0

/-- What the body stores: `s`, `e` the rows of the item, `f` whether it is the tile's first, `q` its cell; `big` the
    cell's packed parameters, `ex`, `ed` the tile's encodings, `old` what the output buffer held. -/
def mlpVal (s e f q : BitVec 32) (ex : Vec F S256x63 .f32) (ed : Vec F S256x27 .f32) (big : Vec F S1x80x128 .f32)
    (old : Vec F S256x8 .f32) : FVec F S256x8 .f32 :=
  k2_pay1 f (k2_pay2 (F := F) s e q) (k2_pay4 (View.ld big box0)) k2_pay5 k2_pay6 (k2_pay8 (View.ld big box0) (View.ld ex box1))
    (k2_pay9 (View.ld big box0) (View.ld ex box1) (View.ld ed box2)) k2_pay10 (View.ld old box3)

/-- The output buffer after the store. -/
def mlpOut (s e f q : BitVec 32) (ex : Vec F S256x63 .f32) (ed : Vec F S256x27 .f32) (big : Vec F S1x80x128 .f32)
    (old : Vec F S256x8 .f32) : Vec F S256x8 .f32 :=
  View.canon [⟨box3, mlpVal s e f q ex ed big old⟩]

theorem outCover (p0 : Vec F S256x8 .f32) (y : S256x8.Idx) :
    ∃ pc ∈ ([⟨box3, p0⟩] : List (View.Piece (Elt F) S256x8 .f32)), y ∈ pc.1.set :=
  View.cover_of_tiled [⟨box3, p0⟩] S256x8.size (by rfl) y

set_option maxHeartbeats 1000000 in
/-- The body where it stores: the tables and the inputs are left as they were, the output holds `mlpOut`. -/
theorem run_live (c : Dev nD) (E : Set ℕ) (i : grid2.Coords) (arg1 : Memref sig .tc .smem S4225 .i32) (harg1 : arg1.IsWhole) (arg2 : Memref sig .tc .smem S4225 .i32) (harg2 : arg2.IsWhole) (arg3 : Memref sig .tc .smem S4225 .i32) (harg3 : arg3.IsWhole) (arg4 : Memref sig .tc .smem S4225 .i32) (harg4 : arg4.IsWhole) (arg5 : Memref sig .tc .smem S4225 .i32) (harg5 : arg5.IsWhole) (arg6 : Memref sig .tc .vmem S256x63 .f32) (harg6 : arg6.IsWhole) (arg7 : Memref sig .tc .vmem S256x27 .f32) (harg7 : arg7.IsWhole) (arg8 : Memref sig .tc .vmem S1x80x128 .f32) (harg8 : arg8.IsWhole) (arg9 : Memref sig .tc .vmem S256x8 .f32) (harg9 : arg9.IsWhole)
    (T1 T2 T3 T4 T5 : Vec F S4225 .i32) (x6 : Vec F S256x63 .f32) (x7 : Vec F S256x27 .f32) (x8 : Vec F S1x80x128 .f32) (d : Vec F S256x8 .f32) (hc : k2_cond1 (word T3 i) (word T4 i) (word T2 i) (word T5 i) = 1#1) (K : PUnit → sProp 𝕄) :
    iprop(owns (c : Thread nD τ) arg1 fullShare T1 ∗ owns (c : Thread nD τ) arg2 fullShare T2 ∗ owns (c : Thread nD τ) arg3 fullShare T3 ∗ owns (c : Thread nD τ) arg4 fullShare T4 ∗ owns (c : Thread nD τ) arg5 fullShare T5 ∗ owns (c : Thread nD τ) arg6 fullShare x6 ∗ owns (c : Thread nD τ) arg7 fullShare x7 ∗ owns (c : Thread nD τ) arg8 fullShare x8 ∗ owns (c : Thread nD τ) arg9 fullShare d
        ∗ (iprop(owns (c : Thread nD τ) arg1 fullShare T1 ∗ owns (c : Thread nD τ) arg2 fullShare T2 ∗ owns (c : Thread nD τ) arg3 fullShare T3 ∗ owns (c : Thread nD τ) arg4 fullShare T4 ∗ owns (c : Thread nD τ) arg5 fullShare T5 ∗ owns (c : Thread nD τ) arg6 fullShare x6 ∗ owns (c : Thread nD τ) arg7 fullShare x7 ∗ owns (c : Thread nD τ) arg8 fullShare x8 ∗ owns (c : Thread nD τ) arg9 fullShare (mlpOut (word T3 i) (word T4 i) (word T5 i) (word T2 i) x6 x7 x8 d)) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9) K := by
  simp only [cc2__mlp_body_eq_skeleton]; unfold cc2__mlp_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (outCover _)).trans ?_
  rfl

set_option maxHeartbeats 1000000 in
/-- The body where it stores nothing. -/
theorem run_idle (c : Dev nD) (E : Set ℕ) (i : grid2.Coords) (arg1 : Memref sig .tc .smem S4225 .i32) (harg1 : arg1.IsWhole) (arg2 : Memref sig .tc .smem S4225 .i32) (harg2 : arg2.IsWhole) (arg3 : Memref sig .tc .smem S4225 .i32) (harg3 : arg3.IsWhole) (arg4 : Memref sig .tc .smem S4225 .i32) (harg4 : arg4.IsWhole) (arg5 : Memref sig .tc .smem S4225 .i32) (harg5 : arg5.IsWhole) (arg6 : Memref sig .tc .vmem S256x63 .f32) (harg6 : arg6.IsWhole) (arg7 : Memref sig .tc .vmem S256x27 .f32) (harg7 : arg7.IsWhole) (arg8 : Memref sig .tc .vmem S1x80x128 .f32) (harg8 : arg8.IsWhole) (arg9 : Memref sig .tc .vmem S256x8 .f32) (harg9 : arg9.IsWhole)
    (T1 T2 T3 T4 T5 : Vec F S4225 .i32) (x6 : Vec F S256x63 .f32) (x7 : Vec F S256x27 .f32) (x8 : Vec F S1x80x128 .f32) (d : Vec F S256x8 .f32) (hc : ¬ k2_cond1 (word T3 i) (word T4 i) (word T2 i) (word T5 i) = 1#1) (K : PUnit → sProp 𝕄) :
    iprop(owns (c : Thread nD τ) arg1 fullShare T1 ∗ owns (c : Thread nD τ) arg2 fullShare T2 ∗ owns (c : Thread nD τ) arg3 fullShare T3 ∗ owns (c : Thread nD τ) arg4 fullShare T4 ∗ owns (c : Thread nD τ) arg5 fullShare T5 ∗ owns (c : Thread nD τ) arg6 fullShare x6 ∗ owns (c : Thread nD τ) arg7 fullShare x7 ∗ owns (c : Thread nD τ) arg8 fullShare x8 ∗ owns (c : Thread nD τ) arg9 fullShare d
        ∗ (iprop(owns (c : Thread nD τ) arg1 fullShare T1 ∗ owns (c : Thread nD τ) arg2 fullShare T2 ∗ owns (c : Thread nD τ) arg3 fullShare T3 ∗ owns (c : Thread nD τ) arg4 fullShare T4 ∗ owns (c : Thread nD τ) arg5 fullShare T5 ∗ owns (c : Thread nD τ) arg6 fullShare x6 ∗ owns (c : Thread nD τ) arg7 fullShare x7 ∗ owns (c : Thread nD τ) arg8 fullShare x8 ∗ owns (c : Thread nD τ) arg9 fullShare d) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9) K := by
  simp only [cc2__mlp_body_eq_skeleton]; unfold cc2__mlp_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists f9; isplitr; · ipureintro; rfl
  iexact H9

end Cert.KernelIdeal.Mlp

end
-- ==== Proof.KernelIdeal.MlpRegion.lean ====
module

public import proofs.«01_k».proof.Proof.KernelIdeal.MlpBody
public import proofs.«01_k».proof.Proof.Gen.KernelIdeal.Launch
public import Idealize.ShloMosaic.Lib.Pipeline.TableIdle
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the tables' contents the call reads, and what each core's buffers hold when it begins
variable (a : (pcfg2 (F := F)).Adm) (W : Dev nD → Valuation τ sig (Elt F))

/-! ## The items' words -/

/-- The words of the item a grid point reads: its tile, its cell, its first and last row, and whether it is its tile's first. -/
def tileW (i : grid2.Coords) : BitVec 32 := word (F := F) (a.1 0) i
def cellW (i : grid2.Coords) : BitVec 32 := word (F := F) (a.1 1) i
def startW (i : grid2.Coords) : BitVec 32 := word (F := F) (a.1 2) i
def endW (i : grid2.Coords) : BitVec 32 := word (F := F) (a.1 3) i
def firstW (i : grid2.Coords) : BitVec 32 := word (F := F) (a.1 4) i

/-- Whether the item stores anything. -/
def live (i : grid2.Coords) : Prop := k2_cond1 (startW a i) (endW a i) (cellW a i) (firstW a i) = 1#1

instance (i : grid2.Coords) : Decidable (live a i) := by unfold live; infer_instance

theorem atD_eq_word (T : Vec F S4225 .i32) (i : grid2.Coords) :
    (if h : ∀ x, k2_off1 i x + 1 ≤ S4225.size x then T (fun x => ⟨k2_off1 i x, h x⟩) else default) = word T i := by
  have h1 : ∀ y : Fin 1, S1.size y = 1 := by decide
  rw [dif_pos (fun x => by have := k2_off1_inb i x; have := h1 x; omega)]
  unfold word View.ld
  congr 1

/-- The output window is idle exactly where the item stores nothing. -/
theorem idle_out (i : grid2.Coords) : (cfg2 a).idle 3 i = !(decide (live a i)) := by
  have : (cfg2 a).idle 3 i = !(k2_cond1 (a.1.atD 2 (k2_off1 i)) (a.1.atD 3 (k2_off1 i)) (a.1.atD 1 (k2_off1 i)) (a.1.atD 4 (k2_off1 i)) == 1#1) := rfl
  rw [this]
  have e1 : a.1.atD 1 (k2_off1 i) = cellW a i := atD_eq_word (F := F) (a.1 1) i
  have e2 : a.1.atD 2 (k2_off1 i) = startW a i := atD_eq_word (F := F) (a.1 2) i
  have e3 : a.1.atD 3 (k2_off1 i) = endW a i := atD_eq_word (F := F) (a.1 3) i
  have e4 : a.1.atD 4 (k2_off1 i) = firstW a i := atD_eq_word (F := F) (a.1 4) i
  rw [e1, e2, e3, e4]
  rfl

/-- A tile's first item stores. -/
theorem live_of_first (i : grid2.Coords) (h : Scalar.cmpi .sgt (firstW a i) 0#32 = 1#1) : live a i := by
  unfold live k2_cond1
  simp only [h]
  generalize Scalar.andi _ _ = x
  revert x
  decide

/-! ## What the output buffer holds -/

/-- Window `w`'s block at point `t`, read off its array as the call finds it. -/
def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (W c (Proc.devRef .tc (Pipeline.arrRef spec2 w)))

/-- The output buffer after the body at point `t`, from what it held before. -/
def upd (c : Dev nD) (t : Fin (cfg2 a).N) (old : Vec F S256x8 .f32) : Vec F S256x8 .f32 :=
  if live a (grid2.coords t) then
    mlpOut (startW a (grid2.coords t)) (endW a (grid2.coords t)) (firstW a (grid2.coords t)) (cellW a (grid2.coords t))
      (iblk a W c 0 t) (iblk a W c 1 t) (iblk a W c 2 t) old
  else old

/-- The output buffer after point `n`, the points before it applied in turn. -/
def traj (c : Dev nD) : ℕ → Vec F S256x8 .f32
  | 0 => if h : 0 < (cfg2 a).N then upd a W c ⟨0, h⟩ (fun _ => Scalar.ofBits .f32 0x00000000#32) else fun _ => Scalar.ofBits .f32 0x00000000#32
  | n + 1 => if h : n + 1 < (cfg2 a).N then upd a W c ⟨n + 1, h⟩ (traj c n) else traj c n

theorem traj_succ (c : Dev nD) (n : ℕ) (h : n + 1 < (cfg2 a).N) : traj a W c (n + 1) = upd a W c ⟨n + 1, h⟩ (traj a W c n) := by
  rw [traj, dif_pos h]

/-- Before a point: the point before it, or nothing. -/
def prev (c : Dev nD) (n : ℕ) : Vec F S256x8 .f32 :=
  match n with
  | 0 => fun _ => Scalar.ofBits .f32 0x00000000#32
  | n + 1 => traj a W c n

theorem traj_eq (c : Dev nD) (t : Fin (cfg2 a).N) : traj a W c t.val = upd a W c t (prev a W c t.val) := by
  obtain ⟨n, h⟩ := t
  cases n with
  | zero => simp only [traj, prev]; rw [dif_pos h]
  | succ n => exact traj_succ a W c n h

/-- A tile's first item does not look at what the output buffer held. -/
theorem mlpOut_first (s e f q : BitVec 32) (ex : Vec F S256x63 .f32) (ed : Vec F S256x27 .f32) (big : Vec F S1x80x128 .f32)
    (old old' : Vec F S256x8 .f32) (h : Scalar.cmpi .sgt f 0#32 = 1#1) :
    mlpOut s e f q ex ed big old = mlpOut s e f q ex ed big old' := by
  unfold mlpOut mlpVal k2_pay1
  simp only [h]
  rfl

/-! ## The call's proof data -/

/-- The call's proof data on core `c`: the inputs' buffers at their blocks, the output's at `traj`; the tables held whole
    throughout. -/
def dat (c : Dev nD) : Dat τ (Elt F) Unit ℕ (UR sig nD τ) ℕ (cfg2 a) c where
  A w := W c (Proc.devRef .tc (Pipeline.arrRef spec2 w))
  after w t := match w with
    | ⟨0, _⟩ => iblk a W c 0 t
    | ⟨1, _⟩ => iblk a W c 1 t
    | ⟨2, _⟩ => iblk a W c 2 t
    | ⟨3, _⟩ => traj a W c t.val
  Φ _ := iprop(Pipeline.scopedRest spec2 c ∗ Pipeline.prefHeld pre2 c (fun _ => fullShare) a.1)
  q _ := fullShare
  owed _ := 0

theorem A_eq (c : Dev nD) (w : Fin (cfg2 a).W) : (dat a W c).A w = W c (Proc.devRef .tc (Pipeline.arrRef spec2 w)) := by
  dsimp only [dat]

theorem after_0 (c : Dev nD) (t : Fin (cfg2 a).N) : (dat a W c).after 0 t = iblk a W c 0 t := by dsimp only [dat]; rfl
theorem after_1 (c : Dev nD) (t : Fin (cfg2 a).N) : (dat a W c).after 1 t = iblk a W c 1 t := by dsimp only [dat]; rfl
theorem after_2 (c : Dev nD) (t : Fin (cfg2 a).N) : (dat a W c).after 2 t = iblk a W c 2 t := by dsimp only [dat]; rfl
theorem after_3 (c : Dev nD) (t : Fin (cfg2 a).N) : (dat a W c).after 3 t = traj a W c t.val := by dsimp only [dat]; rfl

theorem before_0 (c : Dev nD) (t : Fin (cfg2 a).N) (d) : (dat a W c).before 0 t d = iblk a W c 0 t :=
  ((dat a W c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg2 a).N) (d) : (dat a W c).before 1 t d = iblk a W c 1 t :=
  ((dat a W c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg2 a).N) (d) : (dat a W c).before 2 t d = iblk a W c 2 t :=
  ((dat a W c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The items are in order: where a tile begins, the item is marked as its first. -/
def Ordered : Prop :=
  ∀ t : Fin (cfg2 a).N, (t.val = 0 ∨ ∃ h : t.val - 1 < (cfg2 a).N, ((cfg2 a).win 3).flush ⟨t.val - 1, h⟩ = true) →
    Scalar.cmpi .sgt (firstW a (grid2.coords t)) 0#32 = 1#1

variable {a}

/-- Where the output buffer holds nothing yet, the item is its tile's first. -/
theorem first_of_fresh (hF : Ordered a) (t : Fin (cfg2 a).N) (h : (cfg2 a).fresh 3 t.val = true) :
    Scalar.cmpi .sgt (firstW a (grid2.coords t)) 0#32 = 1#1 := by
  obtain ⟨n, hn⟩ := t
  induction n with
  | zero => exact hF _ (.inl rfl)
  | succ n ih =>
    have hn' : n < (cfg2 a).N := by omega
    rw [(cfg2 a).fresh_succ 3 n hn', Bool.or_eq_true, Bool.and_eq_true] at h
    rcases h with h | ⟨hi, hf⟩
    · exact hF _ (.inr ⟨by simpa using hn', h⟩)
    · have h1 := live_of_first a _ (ih hn' hf)
      rw [idle_out] at hi
      have : live a ((cfg2 a).grid.coords ⟨n, hn'⟩) := h1
      simp [this] at hi

theorem carry (c : Dev nD) (t : Fin (cfg2 a).N) (h0 : t.val ≠ 0) (hi : (cfg2 a).idle 3 ((cfg2 a).grid.coords t) = true) :
    traj a W c t.val = traj a W c (t.val - 1) := by
  have hl : ¬ live a (grid2.coords t) := fun hl => by
    rw [idle_out] at hi
    have : live a ((cfg2 a).grid.coords t) := hl
    simp [this] at hi
  rw [traj_eq, upd, if_neg hl]
  obtain ⟨n, hn⟩ := t
  cases n with
  | zero => exact absurd rfl h0
  | succ n => rfl

theorem before_3 (c : Dev nD) (t : Fin (cfg2 a).N) (d : Vec F S256x8 .f32) :
    (dat a W c).before 3 t d = if (cfg2 a).fresh 3 t.val then d else traj a W c (t.val - 1) := by
  rw [(dat a W c).before_out_traj 3 rfl (fun _ _ => rfl) (fun t h0 hi _ => by rw [after_3, after_3]; exact carry W c t h0 hi) t.val t rfl d, after_3]
  rfl

/-- Where the item stores, the buffer is left at `traj`, -/
theorem out_live (hF : Ordered a) (c : Dev nD) (t : Fin (cfg2 a).N) (hl : live a (grid2.coords t)) (d : Vec F S256x8 .f32) :
    mlpOut (startW a (grid2.coords t)) (endW a (grid2.coords t)) (firstW a (grid2.coords t)) (cellW a (grid2.coords t))
      (iblk a W c 0 t) (iblk a W c 1 t) (iblk a W c 2 t) ((dat a W c).before 3 t d) = traj a W c t.val := by
  rw [traj_eq, upd, if_pos hl, before_3]
  by_cases hf : (cfg2 a).fresh 3 t.val = true
  · exact mlpOut_first _ _ _ _ _ _ _ _ _ (first_of_fresh hF t hf)
  · rw [if_neg hf]
    congr 1
    obtain ⟨n, hn⟩ := t
    cases n with
    | zero => exact absurd rfl hf
    | succ n => rfl

/-- and where it does not, the buffer already was. -/
theorem out_idle (hF : Ordered a) (c : Dev nD) (t : Fin (cfg2 a).N) (hl : ¬ live a (grid2.coords t)) (d : Vec F S256x8 .f32) :
    (dat a W c).before 3 t d = traj a W c t.val := by
  have hf : ¬ (cfg2 a).fresh 3 t.val = true := fun hf => hl (live_of_first a _ (first_of_fresh hF t hf))
  rw [before_3, if_neg hf, traj_eq, upd, if_neg hl]
  obtain ⟨n, hn⟩ := t
  cases n with
  | zero => exact absurd rfl hf
  | succ n => rfl

/-! ## The body obligation -/

/-- The body at point `t`. -/
abbrev bodyAt (t : Fin (cfg2 a).N) : Prog (TpuEff nD τ sig (Elt F) Λ₀ .tc) PUnit :=
  cc2__mlp_body (grid2.coords t) (Memref.whole main_v81) (Memref.isWhole_whole _) (Memref.whole main_v97) (Memref.isWhole_whole _) (Memref.whole main_v82) (Memref.isWhole_whole _) (Memref.whole main_v88) (Memref.isWhole_whole _) (Memref.whole main_v101) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3))

theorem defs₀_row (t : Fin (cfg2 a).N) :
    defs₀ (F := F) .tc (cfg2 a).body ((cfg2 a).bodyArgs t ((cfg2 a).slots t)) = bodyAt t := by
  unfold defs₀; rw [Defs.onTc_tc]

/-- The tables, one by one. -/
theorem tables_eq (c : Dev nD) :
    (Pipeline.prefHeld pre2 c (fun _ => fullShare) a.1 : sProp 𝕄)
      = iprop(owns (c : Thread nD τ) (pre2.buf 0) fullShare (a.1 0) ∗ owns (c : Thread nD τ) (pre2.buf 1) fullShare (a.1 1) ∗ owns (c : Thread nD τ) (pre2.buf 2) fullShare (a.1 2) ∗ owns (c : Thread nD τ) (pre2.buf 3) fullShare (a.1 3) ∗ owns (c : Thread nD τ) (pre2.buf 4) fullShare (a.1 4)) := by
  have e : ∀ k : Fin pre2.K, (((c : Thread nD τ).loc (pre2.ref k) ↦{fullShare} a.1 k) : sProp 𝕄) = owns (c : Thread nD τ) (pre2.buf k) fullShare (a.1 k) :=
    fun k => (owns_whole _ _ fullShare _).symm
  unfold Pipeline.prefHeld
  simp only [e]
  exact bigSep_univ_eq_bigSepL [(0 : Fin 5), (1 : Fin 5), (2 : Fin 5), (3 : Fin 5), (4 : Fin 5)] (by decide) (by decide) _

/-- What a point that stores leaves of the output's buffer, -/
theorem leave_live (b f : Bool) (P Q : sProp 𝕄) : b = false → (Q ⊢ (match b with
      | true => (match f with
        | false => P
        | true => Q)
      | false => Q)) := by
  rintro rfl; exact .rfl

/-- and what one that does not. -/
theorem leave_idle (b f : Bool) (P Q : sProp 𝕄) : b = true → (P ⊢ Q) → (P ⊢ (match b with
      | true => (match f with
        | false => P
        | true => Q)
      | false => Q)) := by
  rintro rfl h; cases f
  · exact .rfl
  · exact h

/-- What the body is called with at point `t`, -/
def bodyPre (c : Dev nD) (t : Fin (cfg2 a).N) : sProp 𝕄 :=
  iprop((dat a W c).Φ t.castSucc ∗ (dat a W c).owesAt () t.castSucc
    ∗ (∃ d, owns (c : Thread nD τ) (((cfg2 a).win 0).stage ((cfg2 a).slots t 0)) fullShare ((dat a W c).before 0 t d))
    ∗ (∃ d, owns (c : Thread nD τ) (((cfg2 a).win 1).stage ((cfg2 a).slots t 1)) fullShare ((dat a W c).before 1 t d))
    ∗ (∃ d, owns (c : Thread nD τ) (((cfg2 a).win 2).stage ((cfg2 a).slots t 2)) fullShare ((dat a W c).before 2 t d))
    ∗ (∃ d, owns (c : Thread nD τ) (((cfg2 a).win 3).stage ((cfg2 a).slots t 3)) fullShare ((dat a W c).before 3 t d)))

/-- and what it returns: where the item stores nothing the output's buffer is as it was. -/
def bodyPost (c : Dev nD) (t : Fin (cfg2 a).N) : sProp 𝕄 :=
  iprop((dat a W c).Φ t.succ ∗ (dat a W c).owesAt () t.succ
    ∗ owns (c : Thread nD τ) (((cfg2 a).win 0).stage ((cfg2 a).slots t 0)) fullShare ((dat a W c).after 0 t)
    ∗ owns (c : Thread nD τ) (((cfg2 a).win 1).stage ((cfg2 a).slots t 1)) fullShare ((dat a W c).after 1 t)
    ∗ owns (c : Thread nD τ) (((cfg2 a).win 2).stage ((cfg2 a).slots t 2)) fullShare ((dat a W c).after 2 t)
    ∗ (if live a (grid2.coords t) then owns (c : Thread nD τ) (((cfg2 a).win 3).stage ((cfg2 a).slots t 3)) fullShare ((dat a W c).after 3 t)
       else ∃ d, owns (c : Thread nD τ) (((cfg2 a).win 3).stage ((cfg2 a).slots t 3)) fullShare ((dat a W c).before 3 t d)))

set_option maxHeartbeats 1000000 in
theorem sound_body (hF : Ordered a) (c : Dev nD) (t : Fin (cfg2 a).N) :
    bodyPre W c t ⊢ wp frame (wpE (defs₀ (F := F)) Variants.none c none) Set.univ (bodyAt t) (fun _ => bodyPost W c t) := by
  unfold bodyPre bodyPost bodyAt
  simp only [before_0, before_1, before_2]
  rw [show (dat a W c).owesAt () t.succ = (dat a W c).owesAt () t.castSucc from rfl,
    show (dat a W c).Φ t.succ = iprop(Pipeline.scopedRest spec2 c ∗ Pipeline.prefHeld pre2 c (fun _ => fullShare) a.1) from rfl,
    show (dat a W c).Φ t.castSucc = iprop(Pipeline.scopedRest spec2 c ∗ Pipeline.prefHeld pre2 c (fun _ => fullShare) a.1) from rfl,
    after_0, after_1, after_2, after_3, tables_eq]
  iintro ⟨⟨HS, HT1, HT2, HT3, HT4, HT5⟩, Ho, ⟨%d0, H0⟩, ⟨%d1, H1⟩, ⟨%d2, H2⟩, ⟨%d3, H3⟩⟩
  by_cases hl : live a (grid2.coords t)
  · rw [if_pos hl, ← out_live W hF c t hl d3]
    iapply (run_live c Set.univ (grid2.coords t) _ _ _ _ _ _ _ _ _ _ _ _ _ _ _ _ _ _ (a.1 0) (a.1 1) (a.1 2) (a.1 3) (a.1 4) (iblk a W c 0 t) (iblk a W c 1 t) (iblk a W c 2 t) ((dat a W c).before 3 t d3) hl _)
    isplitl [HT1]; · iexact HT1
    isplitl [HT2]; · iexact HT2
    isplitl [HT3]; · iexact HT3
    isplitl [HT4]; · iexact HT4
    isplitl [HT5]; · iexact HT5
    isplitl [H0]; · iexact H0
    isplitl [H1]; · iexact H1
    isplitl [H2]; · iexact H2
    isplitl [H3]; · iexact H3
    iintro ⟨HT1, HT2, HT3, HT4, HT5, H0, H1, H2, H3⟩
    isplitl [HS HT1 HT2 HT3 HT4 HT5]
    · isplitl [HS]; · iexact HS
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    iexact H3
  · rw [if_neg hl]
    iapply (run_idle c Set.univ (grid2.coords t) _ _ _ _ _ _ _ _ _ _ _ _ _ _ _ _ _ _ (a.1 0) (a.1 1) (a.1 2) (a.1 3) (a.1 4) (iblk a W c 0 t) (iblk a W c 1 t) (iblk a W c 2 t) ((dat a W c).before 3 t d3) hl _)
    isplitl [HT1]; · iexact HT1
    isplitl [HT2]; · iexact HT2
    isplitl [HT3]; · iexact HT3
    isplitl [HT4]; · iexact HT4
    isplitl [HT5]; · iexact HT5
    isplitl [H0]; · iexact H0
    isplitl [H1]; · iexact H1
    isplitl [H2]; · iexact H2
    isplitl [H3]; · iexact H3
    iintro ⟨HT1, HT2, HT3, HT4, HT5, H0, H1, H2, H3⟩
    isplitl [HS HT1 HT2 HT3 HT4 HT5]
    · isplitl [HS]; · iexact HS
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    iexists d3
    iexact H3

/-- The body obligation, at every point. -/
theorem body_obligation (hF : Ordered a) (c : Dev nD) : BodyObligation (dat (F := F) a W c) (defs₀ (F := F)) Variants.none () Set.univ := fun t => by
  rw [bigSep_W2, bigSep_W2, defs₀_row]
  refine triple_restated (sound_body W hF c t) rfl .rfl fun _ => ?_
  unfold bodyPost
  refine sep_mono .rfl (sep_mono .rfl (sep_mono .rfl (sep_mono .rfl (sep_mono .rfl ?_))))
  dsimp only
  by_cases hl : live a (grid2.coords t)
  · rw [if_pos hl]
    have hi' : (cfg2 a).idle 3 ((cfg2 a).grid.coords t) = false := by rw [idle_out]; simpa using hl
    exact leave_live (F := F) _ _ _ _ hi'
  · rw [if_neg hl]
    have hi' : (cfg2 a).idle 3 ((cfg2 a).grid.coords t) = true := by rw [idle_out]; simpa using hl
    refine leave_idle (F := F) _ _ _ _ hi' ?_
    iintro ⟨%d, H⟩
    rw [out_idle W hF c t hl d, after_3]
    iexact H

end Cert.KernelIdeal.Mlp

end
-- ==== Proof.KernelIdeal.Run.lean ====
module

public import proofs.«01_k».proof.Proof.KernelIdeal.PackRegion
public import proofs.«01_k».proof.Proof.KernelIdeal.EncRegion
public import proofs.«01_k».proof.Proof.KernelIdeal.MlpRegion
public import proofs.«01_k».proof.Proof.Gen.KernelIdeal.Regions
public import Idealize.ShloMosaic.Lib.Pipeline.RegionArraysTS
public import Idealize.ShloMosaic.Lib.Pipeline.RegionArraysS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each region leaves -/

/-- What the packing region leaves, from the contents it is entered at. -/
def outsPack : Outs (F := F) := fun _ r c => afterRegion (Pack.dat (V1 m) c) (V1 m c) (Proc.devRef .tc r)

/-- The contents of the table buffers when the last region is entered. -/
def tabs : pre2.Contents (Elt F) := fun k => V19 m (outsPack m) 0 (Proc.devRef .tc (pre2.ref k))

/-- What the first two regions leave. -/
def outsEnc : Outs (F := F) := fun n r c => match n with
  | 20 => afterRegion (Enc.dat (V19 m (outsPack m)) c) (V19 m (outsPack m) c) (Proc.devRef .tc r)
  | _ => outsPack m n r c

variable (hok : ok2 (F := F) (tabs m))

/-- The tables of the last region with their ranges. -/
abbrev adm : (pcfg2 (F := F)).Adm := ⟨tabs m, hok⟩

/-- What the three regions leave. -/
def outs : Outs (F := F) := fun n r c => match n with
  | 21 => afterRegion (Mlp.dat (adm m hok) (V20 m (outsEnc m)) c) (V20 m (outsEnc m) c) (Proc.devRef .tc r)
  | _ => outsEnc m n r c

/-- Up to the encoding region the contents depend on the packing region's output alone. -/
theorem V19_congr (o o' : Outs (F := F)) (c : Dev nD) (h : o 2 main_v10 c = o' 2 main_v10 c) : V19 m o c = V19 m o' c := by
  have h2 : V2 m o c = V2 m o' c := by unfold V2; rw [h]
  unfold V19 V18 V17 V16 V15 V14 V13 V12 V11 V10 V9 V8 V7 V6 V5 V4 V3
  rw [h2]

theorem V2_all (c : Dev nD) : V2 m (outs m hok) c = V2 m (outsPack m) c := by
  have h : (outs m hok) 2 main_v10 c = outsPack m 2 main_v10 c := rfl
  unfold V2; rw [h]
theorem V19_enc (c : Dev nD) : V19 m (outsEnc m) c = V19 m (outsPack m) c := V19_congr m _ _ c rfl
theorem V19_all (c : Dev nD) : V19 m (outs m hok) c = V19 m (outsPack m) c := V19_congr m _ _ c rfl
theorem V20_all (c : Dev nD) : V20 m (outs m hok) c = V20 m (outsEnc m) c := by
  have h1 : (outs m hok) 20 main_v102_0 c = outsEnc m 20 main_v102_0 c := rfl
  have h2 : (outs m hok) 20 main_v102_1 c = outsEnc m 20 main_v102_1 c := rfl
  unfold V20
  rw [V19_all, V19_enc, h1, h2]

/-- The windows' arrays are distinct, region by region. -/
theorem arr_inj0 : Function.Injective (arrRef spec0) := winFacts0.arr_inj
theorem arr_inj1 : Function.Injective (arrRef spec1) := winFacts1.arr_inj
theorem arr_inj2 : Function.Injective (arrRef spec2) := winFacts2.arr_inj

theorem update_self (V V' : Valuation τ sig (Elt F)) (b : DevRef τ sig)
    (h : ∀ b', b' ≠ b → V' b' = V b') : V' = Function.update V b (V' b) := by
  funext b'
  by_cases e : b' = b
  · subst e; rw [Function.update_self]
  · rw [Function.update_of_ne e]; exact h b' e

/-- Off the output arrays a region changes nothing. -/
theorem after0 (c : Dev nD) : afterRegion (Pack.dat (V1 m) c) (V1 m c) = V2 m (outsPack m) c := by
  refine update_self (V1 m c) _ (Proc.devRef .tc main_v10) fun b hb => ?_
  by_cases hw : ∃ w, b = Proc.devRef .tc (arrRef spec0 w)
  · obtain ⟨w, rfl⟩ := hw
    refine afterRegion_keeps (Pack.dat (V1 m) c) (V1 m c) (arr_inj0) (Pack.A_eq (V1 m) c) _ fun w' e => ?_
    obtain rfl : w' = w := arr_inj0 e
    have h10 : w' ≠ 10 := by rintro rfl; exact hb rfl
    revert h10; revert w'; decide
  · unfold afterRegion; rw [dif_neg hw]

theorem after1 (c : Dev nD) : afterRegion (Enc.dat (V19 m (outsPack m)) c) (V19 m (outsPack m) c) = V20 m (outsEnc m) c := by
  funext b
  by_cases h1 : b = Proc.devRef .tc main_v102_1
  · subst h1; unfold V20; rw [Function.update_self]; rfl
  by_cases h0 : b = Proc.devRef .tc main_v102_0
  · subst h0; unfold V20; rw [Function.update_of_ne h1, Function.update_self]; rfl
  unfold V20
  rw [Function.update_of_ne h1, Function.update_of_ne h0, V19_enc]
  by_cases hw : ∃ w, b = Proc.devRef .tc (arrRef spec1 w)
  · obtain ⟨w, rfl⟩ := hw
    refine afterRegion_keeps (Enc.dat (V19 m (outsPack m)) c) (V19 m (outsPack m) c) (arr_inj1) (Enc.A_eq (V19 m (outsPack m)) c) _ fun w' e => ?_
    obtain rfl : w' = w := arr_inj1 e
    have h2 : w' ≠ 2 := by rintro rfl; exact h0 rfl
    have h3 : w' ≠ 3 := by rintro rfl; exact h1 rfl
    revert h3 h2; revert w'; decide
  · unfold afterRegion; rw [dif_neg hw]

theorem after2 (c : Dev nD) : afterRegion (Mlp.dat (adm m hok) (V20 m (outsEnc m)) c) (V20 m (outsEnc m) c) = V21 m (outs m hok) c := by
  unfold V21
  rw [V20_all]
  refine update_self (V20 m (outsEnc m) c) _ (Proc.devRef .tc main_v103) fun b hb => ?_
  by_cases hw : ∃ w, b = Proc.devRef .tc (arrRef spec2 w)
  · obtain ⟨w, rfl⟩ := hw
    refine afterRegion_keeps (Mlp.dat (adm m hok) (V20 m (outsEnc m)) c) (V20 m (outsEnc m) c) (arr_inj2) (Mlp.A_eq (adm m hok) (V20 m (outsEnc m)) c) _ fun w' e => ?_
    obtain rfl : w' = w := arr_inj2 e
    have h3 : w' ≠ 3 := by rintro rfl; exact hb rfl
    clear hb e
    have key : ∀ w : Fin 4, w ≠ 3 → (win2 (adm m hok) w).isOut = false := by
      intro w; match w with
      | 0 => exact fun _ => rfl
      | 1 => exact fun _ => rfl
      | 2 => exact fun _ => rfl
      | 3 => exact fun h => absurd rfl h
    exact key w' h3
  · unfold afterRegion; rw [dif_neg hw]

/-! ## The launch -/

/-- The proof's level data: one label on the core's own semaphores, at level 0. -/
def L (g : GSem nD τ sig) : Finset Unit := if g.1.2 = .tc then {()} else ∅
def lv (g : GSem nD τ sig) (_ : Unit) : ℕ := 0

theorem hL (g : GSem nD τ sig) (h : g.1.2 ≠ .tc) : L g = ∅ := if_neg h

theorem emp_in (P : sProp 𝕄) : iprop(P ∗ emp) ⊢ P := Laws.sep_emp.1
theorem emp_out (P : sProp 𝕄) : P ⊢ iprop(P ∗ emp) := Laws.sep_emp.2
theorem put_emp (P Q : sProp 𝕄) : iprop(P ∗ Q) ⊢ iprop(P ∗ (Q ∗ emp ∗ emp)) := by
  iintro ⟨H1, H2⟩
  isplitl [H1]; · iexact H1
  isplitl [H2]; · iexact H2
  isplitl []; · iempintro
  iempintro
theorem drop_emp (P Q : sProp 𝕄) : iprop(P ∗ (Q ∗ emp ∗ emp)) ⊢ iprop(P ∗ Q) := by
  iintro ⟨H1, H2, -⟩
  isplitl [H1]; · iexact H1
  iexact H2
theorem emp_in2 (P Q : sProp 𝕄) : iprop(iprop(P ∗ emp) ∗ Q) ⊢ iprop(P ∗ Q) := by
  iintro ⟨⟨H1, -⟩, H2⟩
  isplitl [H1]; · iexact H1
  iexact H2
theorem emp_out2 (P Q : sProp 𝕄) : iprop(P ∗ Q) ⊢ iprop(iprop(P ∗ emp) ∗ Q) := by
  iintro ⟨H1, H2⟩
  isplitl [H1]
  · isplitl [H1]; · iexact H1
    iempintro
  iexact H2

theorem in0 (c : Dev nD) : iprop(scopedRest spec0 c ∗ emp) ⊢ (Pack.dat (V1 m) c).Φ 0 := emp_in _
theorem out0 (c : Dev nD) : (Pack.dat (V1 m) c).Φ (Fin.last cfg0.N) ⊢ iprop(scopedRest spec0 c ∗ emp) := emp_out _
theorem in1 (W : Dev nD → Valuation τ sig (Elt F)) (c : Dev nD) : iprop(scopedRest spec1 c ∗ emp) ⊢ (Enc.dat W c).Φ 0 := emp_in _
theorem out1 (W : Dev nD → Valuation τ sig (Elt F)) (c : Dev nD) : (Enc.dat W c).Φ (Fin.last cfg1.N) ⊢ iprop(scopedRest spec1 c ∗ emp) := emp_out _
theorem in2 (A : (pcfg2 (F := F)).Adm) (W : Dev nD → Valuation τ sig (Elt F)) (c : Dev nD) :
    iprop(iprop(scopedRest spec2 c ∗ emp) ∗ prefHeld pre2 c (fun _ => fullShare) A.1) ⊢ (Mlp.dat A W c).Φ 0 := emp_in2 _ _
theorem out2 (A : (pcfg2 (F := F)).Adm) (W : Dev nD → Valuation τ sig (Elt F)) (c : Dev nD) :
    (Mlp.dat A W c).Φ (Fin.last (cfg2 A).N) ⊢ iprop(iprop(scopedRest spec2 c ∗ emp) ∗ prefHeld pre2 c (fun _ => fullShare) A.1) := emp_out2 _ _

theorem share0 (c : Dev nD) (w : Fin cfg0.W) : (Pack.dat (V1 m) c).share w = fullShare := by unfold Dat.share; split <;> rfl
theorem share1 (W : Dev nD → Valuation τ sig (Elt F)) (c : Dev nD) (w : Fin cfg1.W) : (Enc.dat W c).share w = fullShare := by
  unfold Dat.share; split <;> rfl
theorem share2 (A : (pcfg2 (F := F)).Adm) (W : Dev nD → Valuation τ sig (Elt F)) (c : Dev nD) (w : Fin (cfg2 A).W) : (Mlp.dat A W c).share w = fullShare := by
  unfold Dat.share; split <;> rfl

/-- The tables of the three regions. -/
def a : (p : Fin 3) → (pcfgs (F := F) p).Adm
  | 0 => cfg0.toPCfg_adm
  | 1 => cfg1.toPCfg_adm
  | 2 => adm m hok

/-- The three regions' proof data. -/
def pdats : (p : Fin 3) → (c : Dev nD) → Dat τ (Elt F) Unit ℕ (UR sig nD τ) ℕ (Pipeline.pin (pcfgs (F := F)) (a m hok) p) c
  | 0 => Pack.dat (V1 m)
  | 1 => Enc.dat (V19 m (outsPack m))
  | 2 => Mlp.dat (adm m hok) (V20 m (outsEnc m))

/-- What a core owes between regions: nothing. -/
def E (_ : Fin 4) (c : Dev nD) : sProp 𝕄 := iprop(∃ W, owes (c : Thread nD τ) (0 : CellTallies nD τ sig Unit) W)

theorem cut (p : Fin 3) : LevelCut (pcfgs (F := F)) (a m hok) () L lv p (fun _ => 0) (fun _ => 0) where
  hι c w s := by simp [L]
  hιb c w s := le_rfl
  hD c g i h := absurd h (by simp)

def R0 : RegionSeg (pcfgs (F := F)) (a m hok) (pdats m hok) () defs₀ Variants.none L lv 0 :=
  RegionSeg.ofHeldIn (pcfgs (F := F)) (a m hok) (pdats m hok) () defs₀ Variants.none L lv 0 (fun _ => 0) (Pipeline.ucRefs τ sig)
    (fun _ => iprop(emp)) (fun _ => iprop(emp)) launch0 rfl
    (fun c => (Pack.body_obligation (V1 m) c).loose) (fun c t => rfl) (fun c => rfl) (fun c w => share0 m c w)
    (fun c => in0 m c) (fun c => out0 m c)
    (fun _ => 0) (cut m hok 0) (fun _ => iprop(emp)) (V1 m) (fun c w => Pack.A_eq (V1 m) c w)

def R1 : RegionSeg (pcfgs (F := F)) (a m hok) (pdats m hok) () defs₀ Variants.none L lv 1 :=
  RegionSeg.ofHeldIn (pcfgs (F := F)) (a m hok) (pdats m hok) () defs₀ Variants.none L lv 1 (fun _ => 0) (Pipeline.ucRefs τ sig)
    (fun _ => iprop(emp)) (fun _ => iprop(emp)) launch1 rfl
    (fun c => (Enc.body_obligation (V19 m (outsPack m)) c).loose) (fun c t => rfl) (fun c => rfl) (fun c w => share1 _ c w)
    (fun c => in1 _ c) (fun c => out1 _ c)
    (fun _ => 0) (cut m hok 1) (fun _ => iprop(emp)) (V19 m (outsPack m)) (fun c w => Enc.A_eq (V19 m (outsPack m)) c w)

theorem tabs_eq (c : Dev nD) (k : Fin pre2.K) : tabs m k = V20 m (outsEnc m) c (Proc.devRef .tc (pre2.ref k)) := by
  obtain rfl : c = 0 := Subsingleton.elim _ _
  refine ((V20_of m (outsEnc m) 0 (pre2.ref k) ?_).trans ?_).symm
  · revert k; decide
  · rfl

def R2 (hF : Mlp.Ordered (adm m hok)) : RegionSeg (pcfgs (F := F)) (a m hok) (pdats m hok) () defs₀ Variants.none L lv 2 :=
  RegionSeg.ofHeldInT (pcfgs (F := F)) (a m hok) (pdats m hok) () defs₀ Variants.none L lv 2 (fun _ => 0) (Pipeline.ucRefs τ sig)
    (fun _ => iprop(emp)) (fun _ => iprop(emp)) launch2
    (fun c => (Mlp.body_obligation (V20 m (outsEnc m)) hF c).loose) (fun c t => rfl) (fun c => rfl) (fun c w => share2 _ _ c w)
    (fun c => in2 _ _ c) (fun c => out2 _ _ c)
    (fun _ => 0) (cut m hok 2) (fun _ => iprop(emp)) (V20 m (outsEnc m)) (fun c w => Mlp.A_eq (adm m hok) (V20 m (outsEnc m)) c w)
    (fun c k => tabs_eq m c k)

theorem sub0 : arrRefs (τ := τ) (pcfgs (F := F) 0).spec ⊆ Pipeline.ucRefs τ sig := arrRefs_sub_ucRefs spec0 (by decide)
theorem sub1 : arrRefs (τ := τ) (pcfgs (F := F) 1).spec ⊆ Pipeline.ucRefs τ sig := arrRefs_sub_ucRefs spec1 (by decide)
theorem sub2 : arrRefs (τ := τ) (pcfgs (F := F) 2).spec ⊆ Pipeline.ucRefs τ sig := arrRefs_sub_ucRefs spec2 (by decide)
theorem sub2' : tblRefs (τ := τ) (pcfgs (F := F) 2).pre ⊆ Pipeline.ucRefs τ sig := tblRefs_sub_ucRefs pre2 (by decide)

theorem start_core (ρ : Dev nD → PrngReg) (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)
    ⊢ (iprop(StableHlo.held (c : Thread nD τ) (Pipeline.ucRefs τ sig) (V0 m c) ∗ E 0 c) : sProp 𝕄) := by
  rw [← Pipeline.unscopedBufs_held (Ix := Unit) (Name := ℕ) (U := UR sig nD τ) (Lvl := ℕ) c (V0 m c)]
  iintro ⟨Hb, -, Ho, -⟩
  isplitl [Hb]; · iexact Hb
  unfold E
  iexists ∅
  iexact Ho

theorem pre0 (c : Dev nD) : iprop(StableHlo.held (c : Thread nD τ) (Pipeline.ucRefs τ sig) (V1 m c) ∗ E 0 c) ⊢ (R0 m hok).pre c := by
  refine (put_emp (StableHlo.held (c : Thread nD τ) (Pipeline.ucRefs τ sig) (V1 m c)) (E 0 c)).trans ?_
  exact (RegionSeg.ofHeldIn_pre (pcs := pcfgs (F := F)) (p := 0) (D := fun _ => 0) (X := fun _ => iprop(emp)) (R := fun _ => iprop(emp)) sub0 c)

theorem post0 (c : Dev nD) : (R0 m hok).post c ⊢ iprop(StableHlo.held (c : Thread nD τ) (Pipeline.ucRefs τ sig) (V2 m (outs m hok) c) ∗ E 1 c) := by
  rw [V2_all, ← after0]
  exact (RegionSeg.ofHeldIn_post (pcs := pcfgs (F := F)) (p := 0) sub0 c).trans
    (drop_emp _ _)

theorem pre1 (c : Dev nD) : iprop(StableHlo.held (c : Thread nD τ) (Pipeline.ucRefs τ sig) (V19 m (outs m hok) c) ∗ E 1 c) ⊢ (R1 m hok).pre c := by
  rw [V19_all]
  refine (put_emp (StableHlo.held (c : Thread nD τ) (Pipeline.ucRefs τ sig) (V19 m (outsPack m) c)) (E 1 c)).trans ?_
  exact (RegionSeg.ofHeldIn_pre (pcs := pcfgs (F := F)) (p := 1) (D := fun _ => 0) (X := fun _ => iprop(emp)) (R := fun _ => iprop(emp)) sub1 c)

theorem post1 (c : Dev nD) : (R1 m hok).post c ⊢ iprop(StableHlo.held (c : Thread nD τ) (Pipeline.ucRefs τ sig) (V20 m (outs m hok) c) ∗ E 2 c) := by
  rw [V20_all, ← after1]
  exact (RegionSeg.ofHeldIn_post (pcs := pcfgs (F := F)) (p := 1) sub1 c).trans
    (drop_emp _ _)

theorem pre2' (hF : Mlp.Ordered (adm m hok)) (c : Dev nD) :
    iprop(StableHlo.held (c : Thread nD τ) (Pipeline.ucRefs τ sig) (V20 m (outs m hok) c) ∗ E 2 c) ⊢ (R2 m hok hF).pre c := by
  rw [V20_all]
  refine (put_emp (StableHlo.held (c : Thread nD τ) (Pipeline.ucRefs τ sig) (V20 m (outsEnc m) c)) (E 2 c)).trans ?_
  exact (RegionSeg.ofHeldInT_pre (pcs := pcfgs (F := F)) (p := 2) (D := fun _ => 0) (X := fun _ => iprop(emp)) (R := fun _ => iprop(emp)) sub2 sub2' c)

theorem post2 (hF : Mlp.Ordered (adm m hok)) (c : Dev nD) :
    (R2 m hok hF).post c ⊢ iprop(StableHlo.held (c : Thread nD τ) (Pipeline.ucRefs τ sig) (V21 m (outs m hok) c) ∗ E 3 c) := by
  rw [← after2]
  exact (RegionSeg.ofHeldInT_post (pcs := pcfgs (F := F)) (p := 2) sub2 sub2' c).trans
    (drop_emp _ _)

/-- @main's items on core `c`. -/
def theSegs (hF : Mlp.Ordered (adm m hok)) (c : Dev nD) : List (Seg (pcfgs (F := F)) (a m hok) (pdats m hok) () defs₀ Variants.none L lv) :=
  segs m (outs m hok) Variants.none L lv E () (a m hok) (pdats m hok) (R0 m hok) (R1 m hok) (R2 m hok hF) c

-- `θ_run_regions_kit_dev_sems`'s implicit arguments are found by unifying its conclusion with this one, which takes unfolding
-- plain definitions in a metavariable's type
set_option backward.isDefEq.respectTransparency.types false in
/-- Every run of @main ends with the buffers at the last valuation and the counters at zero. -/
theorem run_main (hF : Mlp.Ordered (adm m hok)) (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V22 m (outs m hok) c b) ∧ r.2.sem = fun _ => 0) := by
  refine Pipeline.θ_run_regions_kit_dev_sems (pcfgs (F := F)) (a m hok) (pdats m hok) () (cellOf_inj (a m hok)) emb₁ defs₀ Variants.none L lv m ρ main
    (theSegs m hok hF)
    (fun c Q => by
      rewrite [main_chain c, Seg.run_eq_chain,
        show (theSegs m hok hF c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          Prog.lift (.customCall (Pipeline.entry 2) ()),
          StableHlo.seq hostOps3 ] from rfl]
      dsimp (config := { failIfUnchanged := false }) only
      exact .rfl)
    (fun c => by simp only [theSegs, segs, Seg.pipes_host, Seg.pipes_region, Seg.pipes_nil]; decide) (fun _ => 0) hL (fun _ => iprop(emp))
    (initOf (Pipeline.cells (Pipeline.pin (pcfgs (F := F)) (a m hok)) (cellOf_inj (a m hok))) (Pipeline.launchToks (Pipeline.pin (pcfgs (F := F)) (a m hok)) (cellOf_inj (a m hok))))
    (by
      iintro Hu; imodintro
      isplitl [Hu]
      · iapply (show (ownU _ : sProp 𝕄) ⊢ BI.own (emb₁ (initOf (Pipeline.cells (Pipeline.pin (pcfgs (F := F)) (a m hok)) (cellOf_inj (a m hok))) (Pipeline.launchToks (Pipeline.pin (pcfgs (F := F)) (a m hok)) (cellOf_inj (a m hok))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V22 m (outs m hok) c))
    (hch := fun c => ⟨.rfl, pre0 m hok c, post0 m hok c, .rfl, .rfl, .rfl, .rfl, .rfl, .rfl, .rfl, .rfl, .rfl, .rfl, .rfl, .rfl, .rfl, .rfl, .rfl, .rfl, pre1 m hok c, (post1 m hok c).trans (pre2' m hok hF c), post2 m hok hF c, sep_mono .rfl .rfl⟩)
    (hinit := ?_) (QY := fun c s => ∀ b ∈ Pipeline.ucRefs τ sig, s.mem ((c : Thread nD τ).1, b) = V22 m (outs m hok) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E 0 c) : sProp 𝕄) := by
      exact bigSep_mono fun c _ => start_core m ρ c
    iintro ⟨H, -⟩
    ihave H' := hsplit $$ H
    imodintro
    iexact H'
  · unfold StableHlo.held
    iintro ⟨Hh, HSI⟩
    ihave Hr := (pointsTo_read_all (Pipeline.ucRefs τ sig) (fun b => ((c : Thread nD τ).1, b)) (V22 m (outs m hok) c) s') $$ [Hh HSI]
    · isplitl [Hh] <;> iassumption
    icases Hr with ⟨%h, HSI⟩
    imodintro
    isplitr
    · ipureintro; exact h
    · iexact HSI

end Cert.KernelIdeal.Run

end
-- ==== Proof.KernelIdeal.Tables.lean ====
module

public import proofs.«01_k».proof.Proof.KernelIdeal.Items
public import proofs.«01_k».proof.Proof.KernelIdeal.Run
public import Idealize.ShloMosaic.Lib.StableHlo.Run
public import Idealize.ShloMosaic.Lib.Routing.Ops
public import Idealize.ShloMosaic.Lib.StableHlo.Predicate
public import Idealize.ShloMosaic.Lib.Pointwise

@[expose] public section

set_option maxRecDepth 16384

noncomputable section

namespace Cert.HostKernelIdeal

open Idealize.ShloMosaic Idealize.ShloMosaic.TcCoe Idealize.ShloMosaic.Tactic
open Idealize.ShloMosaic.StableHlo
open Cert.Words Cert.Seg Cert.KernelIdeal.Gen
open Cert.KernelIdeal hiding ix2

variable {F : FTy → Type} [FloatOps F]

/-! ## The tables address blocks inside the arrays, tile by tile -/

variable (m : (ℓ : Loc nD τ sig) → Buf (Elt F) ℓ) (c : Dev nD)

/-- The item of a grid point. -/
def item (i : grid2.Coords) : Fin 4225 := i 0

theorem word_eq (T : Vec F S4225 .i32) (i : grid2.Coords) : Mlp.word T i = (T : IVec S4225 32) (ix1 (item i)) := by
  unfold Mlp.word View.ld
  show T _ = T _
  congr 1
  funext a
  match a with
  | ⟨0, _⟩ =>
    refine Fin.ext ?_
    show (BitVec.ofNat 32 (i 0).val).toNat + 1 * 0 = (i 0).val
    have hi : (i 0).val < 4225 := (i 0).isLt
    rw [BitVec.toNat_ofNat]
    omega

/-- The words of an item. -/
def tileOf (i : grid2.Coords) : BitVec 32 := Mlp.word (F := F) (Run.tabs m 0) i
def cellAt (i : grid2.Coords) : BitVec 32 := Mlp.word (F := F) (Run.tabs m 1) i
def startOf (i : grid2.Coords) : BitVec 32 := Mlp.word (F := F) (Run.tabs m 2) i
def endOf (i : grid2.Coords) : BitVec 32 := Mlp.word (F := F) (Run.tabs m 3) i
def firstOf (i : grid2.Coords) : BitVec 32 := Mlp.word (F := F) (Run.tabs m 4) i

theorem t0 (i : grid2.Coords) : cc2_transform_0 k2_off1_inb numel1_S1 (Run.tabs m) i = ![(tileOf m i).toNat, 0] := rfl
theorem t1 (i : grid2.Coords) : cc2_transform_1 k2_off1_inb numel1_S1 (Run.tabs m) i = ![(tileOf m i).toNat, 0] := rfl
theorem t2 (i : grid2.Coords) : cc2_transform_2 k2_off1_inb numel1_S1 (Run.tabs m) i = ![(IntOp.minsi (cellAt m i) 4095#32).toNat, 0, 0] := rfl
theorem t3 (i : grid2.Coords) : cc2_transform_3 k2_off1_inb numel1_S1 (Run.tabs m) i = ![(tileOf m i).toNat, 0] := rfl

theorem tileOf_toNat (i : grid2.Coords) : (tileOf m i).toNat = min (rsN (K0 m 0) (item i).val / 256) 127 :=
  (congrArg BitVec.toNat (word_eq (F := F) (Run.tabs m 0) i)).trans (tile_toNat m (Run.outsPack m) 0 _)

theorem cellAt_toNat (i : grid2.Coords) : (cellAt m i).toNat = csN (K0 m 0) (min (rsN (K0 m 0) (item i).val) 32767) :=
  (congrArg BitVec.toNat (word_eq (F := F) (Run.tabs m 1) i)).trans (cell_toNat m (Run.outsPack m) 0 _)

theorem startOf_toNat (i : grid2.Coords) : (startOf m i).toNat = rsN (K0 m 0) (item i).val % 256 :=
  (congrArg BitVec.toNat (word_eq (F := F) (Run.tabs m 2) i)).trans (start_toNat m (Run.outsPack m) 0 _)

theorem endOf_toNat (i : grid2.Coords) : (endOf m i).toNat = if rsN (K0 m 0) (item i).val < 32768 then (rsN (K0 m 0) ((item i).val + 1) - 1) % 256 + 1 else 0 :=
  (congrArg BitVec.toNat (word_eq (F := F) (Run.tabs m 3) i)).trans (end_toNat m (Run.outsPack m) 0 _)

theorem firstOf_eq (i : grid2.Coords) : firstOf m i = if rsN (K0 m 0) (item i).val % 256 = 0 ∧ rsN (K0 m 0) (item i).val < 32768 then 1#32 else 0#32 :=
  (word_eq (F := F) (Run.tabs m 4) i).trans (first_word m (Run.outsPack m) 0 _)

theorem cellAt_le (i : grid2.Coords) : (cellAt m i).toNat ≤ 4096 := by
  rw [cellAt_toNat]
  exact (segs0 m 0).le _ (by omega)

theorem blockW_toNat (i : grid2.Coords) : (IntOp.minsi (cellAt m i) 4095#32).toNat = min (cellAt m i).toNat 4095 := by
  have := cellAt_le m i
  rw [minsi_toNat _ _ (by omega) (by decide)]
  rfl

theorem tabs_ok : ok2 (F := F) (Run.tabs m) := by
  have ht : ∀ i, (tileOf m i).toNat ≤ 127 := fun i => by rw [tileOf_toNat]; omega
  refine ⟨fun i => ⟨fun a => ?_, .inl rfl⟩, fun i => ⟨fun a => ?_, .inl rfl⟩, fun i => ⟨fun a => ?_, .inl rfl⟩, fun i => ⟨fun a => ?_, .inl rfl⟩⟩
  · rw [t0]
    have := ht i
    match a with
    | ⟨0, _⟩ => show ((tileOf m i).toNat + 1) * 256 ≤ 32768; omega
    | ⟨1, _⟩ => show (0 + 1) * 63 ≤ 63; omega
  · rw [t1]
    have := ht i
    match a with
    | ⟨0, _⟩ => show ((tileOf m i).toNat + 1) * 256 ≤ 32768; omega
    | ⟨1, _⟩ => show (0 + 1) * 27 ≤ 27; omega
  · rw [t2]
    have := blockW_toNat m i
    match a with
    | ⟨0, _⟩ => show ((IntOp.minsi (cellAt m i) 4095#32).toNat + 1) * 1 ≤ 4096; omega
    | ⟨1, _⟩ => show (0 + 1) * 80 ≤ 80; omega
    | ⟨2, _⟩ => show (0 + 1) * 128 ≤ 128; omega
  · rw [t3]
    have := ht i
    match a with
    | ⟨0, _⟩ => show ((tileOf m i).toNat + 1) * 256 ≤ 32768; omega
    | ⟨1, _⟩ => show (0 + 1) * 8 ≤ 8; omega

/-- The tables of `m`. -/
abbrev adm0 : (pcfg2 (F := F)).Adm := Run.adm m (tabs_ok m)

theorem item_coords (t : Fin (cfg2 (adm0 m)).N) : (item (grid2.coords t)).val = t.val := by
  have h : ((grid2.coords t) 0).val = t.val / 1 % 4225 := Pipeline.Grid.coords_val (G := grid2) t 0 (by decide +kernel) rfl
  have ht : t.val < 4225 := t.isLt
  show ((grid2.coords t) 0).val = t.val
  rw [h]
  omega

theorem index3 (t : Fin (cfg2 (adm0 m)).N) : ((cfg2 (adm0 m)).win 3).index t = ![min (rsN (K0 m 0) t.val / 256) 127, 0] := by
  rw [← item_coords m t, ← tileOf_toNat]
  exact t3 m _

theorem ordered : Mlp.Ordered (adm0 m) := fun t h => by
  have hN : t.val < 4225 := t.isLt
  have hf : rsN (K0 m 0) t.val < 32768 ∧ rsN (K0 m 0) t.val % 256 = 0 := by
    refine (segs0 m 0).fresh t.val hN ?_
    by_cases h0 : t.val = 0
    · exact .inl h0
    refine .inr ?_
    rcases h with h | ⟨hp, hfl⟩
    · exact absurd h h0
    intro he
    unfold Pipeline.Window.flush at hfl
    rw [Bool.and_eq_true, Bool.or_eq_true, decide_eq_true_iff, decide_eq_true_iff] at hfl
    rcases hfl.2 with h1 | ⟨h1, h2⟩
    · have : t.val - 1 + 1 = 4225 := h1
      omega
    · apply h2
      rw [index3, index3]
      show ![min (rsN (K0 m 0) (t.val - 1 + 1) / 256) 127, 0] = ![min (rsN (K0 m 0) (t.val - 1) / 256) 127, 0]
      rw [show t.val - 1 + 1 = t.val by omega, he]
  show Scalar.cmpi .sgt (firstOf m (grid2.coords t)) 0#32 = 1#1
  rw [firstOf_eq, item_coords, if_pos ⟨hf.2, hf.1⟩]
  decide

end Cert.HostKernelIdeal

end
-- ==== Proof.KernelIdeal.Frame.lean ====
module

public import proofs.«01_k».proof.Proof.KernelIdeal.Tables

@[expose] public section

noncomputable section

namespace Cert.HostKernelIdeal

open Idealize.ShloMosaic Idealize.ShloMosaic.TcCoe Idealize.SL.Sem
open Cert.KernelIdeal.Gen
open Cert.KernelIdeal hiding ix2

variable {F : FTy → Type} [FloatOps F]

variable (m : (ℓ : Loc nD τ sig) → Buf (Elt F) ℓ) (ρ : Dev nD → PrngReg)

/-- What the regions leave. -/
abbrev outs0 : Outs (F := F) := Run.outs m (tabs_ok m)

/-- Every execution ends with each buffer at its computed contents and every semaphore at zero. -/
theorem run_all : θ_run (defs (F := F)) (onTc (τ := τ) (main (F := F))) ⟨m, fun _ => 0, ρ⟩ (fun r => (∀ c : Dev nD,
    ∀ b : Ref sig .tc, b ∈ Finset.univ.filter (fun b : Ref sig .tc => ¬ b.isScoped) → r.2.mem ((c.tc : Thread nD τ).loc b) = V22 m (outs0 m) c (Proc.devRef .tc b)) ∧ r.2.sem = fun _ => 0) :=
  (θ_run _ _ _).mono (fun r h => ⟨fun c b hb => h.1 c (Proc.devRef .tc b) (Finset.mem_filter.mpr ⟨StableHlo.devRef_mem_tcRefs _, by simpa using hb⟩), h.2⟩)
    (Run.run_main m (tabs_ok m) (ordered m) ρ)

theorem frame : θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run _ _ _).mono (fun r h => ⟨fun c => ⟨(h.1 c main_arg0 (Finset.mem_filter.mpr ⟨Finset.mem_univ _, by decide⟩)).trans (V22_main_arg0 m (outs0 m) c),
      (h.1 c main_arg1 (Finset.mem_filter.mpr ⟨Finset.mem_univ _, by decide⟩)).trans (V22_main_arg1 m (outs0 m) c),
      (h.1 c main_arg2 (Finset.mem_filter.mpr ⟨Finset.mem_univ _, by decide⟩)).trans (V22_main_arg2 m (outs0 m) c),
      (h.1 c main_arg3 (Finset.mem_filter.mpr ⟨Finset.mem_univ _, by decide⟩)).trans (V22_main_arg3 m (outs0 m) c),
      (h.1 c main_arg4 (Finset.mem_filter.mpr ⟨Finset.mem_univ _, by decide⟩)).trans (V22_main_arg4 m (outs0 m) c),
      (h.1 c main_arg5 (Finset.mem_filter.mpr ⟨Finset.mem_univ _, by decide⟩)).trans (V22_main_arg5 m (outs0 m) c),
      (h.1 c main_arg6 (Finset.mem_filter.mpr ⟨Finset.mem_univ _, by decide⟩)).trans (V22_main_arg6 m (outs0 m) c),
      (h.1 c main_arg7 (Finset.mem_filter.mpr ⟨Finset.mem_univ _, by decide⟩)).trans (V22_main_arg7 m (outs0 m) c),
      (h.1 c main_arg8 (Finset.mem_filter.mpr ⟨Finset.mem_univ _, by decide⟩)).trans (V22_main_arg8 m (outs0 m) c),
      (h.1 c main_arg9 (Finset.mem_filter.mpr ⟨Finset.mem_univ _, by decide⟩)).trans (V22_main_arg9 m (outs0 m) c),
      (h.1 c main_arg10 (Finset.mem_filter.mpr ⟨Finset.mem_univ _, by decide⟩)).trans (V22_main_arg10 m (outs0 m) c),
      (h.1 c main_arg11 (Finset.mem_filter.mpr ⟨Finset.mem_univ _, by decide⟩)).trans (V22_main_arg11 m (outs0 m) c)⟩, h.2⟩) (run_all m ρ)

end Cert.HostKernelIdeal

end
-- ==== Proof.ReferenceFrame.lean ====
module

public import proofs.«01_k».proof.Defs
public import proofs.«01_k».proof.Proof.Gen.ReferenceIdeal.Run
public import Idealize.ShloMosaic.Lib.Quiescent

@[expose] public section

noncomputable section

namespace Cert.ReferenceFrame

open Idealize.ShloMosaic Idealize.SL.Sem

/-- The reference runs, leaves its arguments alone, and declares no semaphore. -/
theorem frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

end Cert.ReferenceFrame

end
-- ==== Proof.Value.Net.lean ====
module

public import Idealize.ShloMosaic.Lib.Pointwise

@[expose] public section

noncomputable section

namespace Cert.Net

open Idealize.ShloMosaic

/-- The weights of one cell's network. -/
structure Net where
  w1 : Fin 63 → Fin 32 → EReal
  b1 : Fin 32 → EReal
  w2 : Fin 32 → Fin 33 → EReal
  b2 : Fin 33 → EReal
  w3 : Fin 32 → Fin 32 → EReal
  b3 : Fin 32 → EReal
  w4 : Fin 59 → Fin 32 → EReal
  b4 : Fin 32 → EReal
  w5 : Fin 32 → Fin 3 → EReal
  b5 : Fin 3 → EReal

/-- A dense layer with a bias. -/
def dense {K N : ℕ} (w : Fin K → Fin N → EReal) (b : Fin N → EReal) (x : Fin K → EReal) (n : Fin N) : EReal :=
  (∑ k : Fin K, x k * w k n) + b n

/-- The same, negative values replaced by zero. -/
def act {K N : ℕ} (w : Fin K → Fin N → EReal) (b : Fin N → EReal) (x : Fin K → EReal) (n : Fin N) : EReal :=
  max (dense w b x n) 0

variable (W : Net) (x : Fin 63 → EReal) (d : Fin 27 → EReal)

def l1 : Fin 32 → EReal := act W.w1 W.b1 x
def l2 : Fin 33 → EReal := act W.w2 W.b2 (l1 W x)
def l3 : Fin 32 → EReal := dense W.w3 W.b3 (fun k => l2 W x k.succ)
/-- The third layer's output followed by the encoded direction. -/
def feat (k : Fin 59) : EReal := if h : k.val < 32 then l3 W x ⟨k.val, h⟩ else d ⟨k.val - 32, by omega⟩
def l4 : Fin 32 → EReal := act W.w4 W.b4 (feat W x d)
def color (n : Fin 3) : EReal := Ideal.logistic (dense W.w5 W.b5 (l4 W x d) n)
def density : EReal := l2 W x 0

/-! ## Sums whose last terms are a bias and zeros -/

theorem sum64 (f : Fin 64 → EReal) : ∑ k, f k = (∑ k : Fin 63, f k.castSucc) + f (Fin.last 63) := Fin.sum_univ_castSucc f

theorem sum40 (f : Fin 40 → EReal) (hz : ∀ k : Fin 40, 32 < k.val → f k = 0) :
    ∑ k, f k = (∑ k : Fin 32, f ⟨k.val, by omega⟩) + f ⟨32, by omega⟩ := by
  have h : ∑ k, f k = (∑ k : Fin 32, f (Fin.castAdd 8 k)) + ∑ k : Fin 8, f (Fin.natAdd 32 k) := Fin.sum_univ_add (a := 32) (b := 8) f
  rw [h]
  congr 1
  rw [Fin.sum_univ_succ, Finset.sum_eq_zero (fun k _ => hz _ (by show 32 < 32 + (k.val + 1); omega)), add_zero]
  rfl

theorem sum64' (f : Fin 64 → EReal) (hz : ∀ k : Fin 64, 59 < k.val → f k = 0) :
    ∑ k, f k = (∑ k : Fin 59, f ⟨k.val, by omega⟩) + f ⟨59, by omega⟩ := by
  have h : ∑ k, f k = (∑ k : Fin 59, f (Fin.castAdd 5 k)) + ∑ k : Fin 5, f (Fin.natAdd 59 k) := Fin.sum_univ_add (a := 59) (b := 5) f
  rw [h]
  congr 1
  rw [Fin.sum_univ_succ, Finset.sum_eq_zero (fun k _ => hz _ (by show 59 < 59 + (k.val + 1); omega)), add_zero]
  rfl

theorem aug40 (f : Fin 32 → EReal) (G : Fin 40 → EReal) :
    ∑ k : Fin 40, (if h : k.val < 32 then f ⟨k.val, h⟩ else if h : k.val - 32 < 1 then 1 else 0) * G k
      = (∑ k : Fin 32, f k * G ⟨k.val, by omega⟩) + G ⟨32, by omega⟩ := by
  rw [sum40 _ fun k hk => by rw [dif_neg (by omega), dif_neg (by omega), zero_mul]]
  refine congrArg₂ (· + ·) ?_ ?_
  · exact Finset.sum_congr rfl fun k _ => by rw [dif_pos k.isLt]
  · rw [dif_neg (by simp), dif_pos (by simp), one_mul]

theorem aug64 (f : Fin 32 → EReal) (g : Fin 27 → EReal) (G : Fin 64 → EReal) :
    ∑ k : Fin 64, (if h : k.val < 32 then f ⟨k.val, h⟩ else if h : k.val - 32 < 27 then g ⟨k.val - 32, h⟩
        else if h : k.val - 32 - 27 < 1 then 1 else 0) * G k
      = (∑ k : Fin 59, (if h : k.val < 32 then f ⟨k.val, h⟩ else g ⟨k.val - 32, by omega⟩) * G ⟨k.val, by omega⟩) + G ⟨59, by omega⟩ := by
  rw [sum64' _ fun k hk => by rw [dif_neg (by omega), dif_neg (by omega), dif_neg (by omega), zero_mul]]
  refine congrArg₂ (· + ·) ?_ ?_
  · refine Finset.sum_congr rfl fun k _ => ?_
    by_cases h : k.val < 32
    · rw [dif_pos h, dif_pos h]
    · rw [dif_neg h, dif_neg h, dif_pos (show k.val - 32 < 27 by omega)]
  · rw [dif_neg (by simp), dif_neg (by simp), dif_pos (by simp), one_mul]

/-- A cell's block of the packed array holds the weights of `N`, each bias in the row after its matrix. -/
structure Packed (B : Fin 80 → Fin 128 → EReal) (N : Net) : Prop where
  w1 : ∀ (k : Fin 63) (n : Fin 32), B ⟨k.val, by omega⟩ ⟨n.val, by omega⟩ = N.w1 k n
  b1 : ∀ n : Fin 32, B 63 ⟨n.val, by omega⟩ = N.b1 n
  w2 : ∀ (k : Fin 32) (n : Fin 32), B ⟨k.val, by omega⟩ ⟨64 + n.val, by omega⟩ = N.w2 k n.succ
  b2 : ∀ n : Fin 32, B 32 ⟨64 + n.val, by omega⟩ = N.b2 n.succ
  w2' : ∀ k : Fin 32, B ⟨k.val, by omega⟩ 99 = N.w2 k 0
  b2' : B 32 99 = N.b2 0
  w3 : ∀ (k : Fin 32) (n : Fin 32), B ⟨40 + k.val, by omega⟩ ⟨64 + n.val, by omega⟩ = N.w3 k n
  b3 : ∀ n : Fin 32, B 72 ⟨64 + n.val, by omega⟩ = N.b3 n
  w4 : ∀ (k : Fin 59) (n : Fin 32), B ⟨k.val, by omega⟩ ⟨32 + n.val, by omega⟩ = N.w4 k n
  b4 : ∀ n : Fin 32, B 59 ⟨32 + n.val, by omega⟩ = N.b4 n
  w5 : ∀ (k : Fin 32) (n : Fin 3), B ⟨k.val, by omega⟩ ⟨96 + n.val, by omega⟩ = N.w5 k n
  b5 : ∀ n : Fin 3, B 32 ⟨96 + n.val, by omega⟩ = N.b5 n

/-- A row of the result: the color, the density, zeros. -/
def rowVal (k : Fin 8) : EReal :=
  if h : k.val < 3 then color W x d ⟨k.val, h⟩ else if k.val = 3 then density W x else 0

end Cert.Net

end
-- ==== Proof.Value.PackBlock.lean ====
module

public import proofs.«01_k».proof.Proof.KernelIdeal.PackRegion
public import proofs.«01_k».proof.Proof.Value.Net
public import Idealize.ShloMosaic.Lib.Pointwise
public import Idealize.ShloMosaic.Lib.Pipeline.ValueKit

@[expose] public section

noncomputable section

namespace Cert.ValuePack

open Idealize.ShloMosaic Idealize.ShloMosaic.TcCoe
open Cert.KernelIdeal.Gen Cert.Net
open Cert.KernelIdeal hiding ix2

/-! ## Reading back a store that fills a box of rows and columns -/

theorem skip (r0 q0 h w : ℕ) (inb) (v : (⟨3, ![32, h, w]⟩ : Shape).Idx → EReal) (L : List (View.Piece (Elt Ideal) S32x80x128 .f32))
    (a : Fin 32) (r : Fin 80) (q : Fin 128) (hn : r.val < r0 ∨ r0 + h ≤ r.val ∨ q.val < q0 ∨ q0 + w ≤ q.val) :
    View.canon ((⟨Rect.unit (s := S32x80x128) ![0, r0, q0] ![32, h, w] inb, v⟩ : View.Piece (Elt Ideal) S32x80x128 .f32) :: L) (ix3 a r q)
      = View.canon L (ix3 a r q) := by
  refine View.canon_cons_of_not_mem _ _ (fun hm => ?_)
  have hm' := (Rect.mem_set_unit (s := S32x80x128) (off := ![0, r0, q0]) (size := ![32, h, w]) (inb := inb)).1 hm
  have h1 : r0 ≤ r.val ∧ r.val < r0 + h := hm' 1
  have h2 : q0 ≤ q.val ∧ q.val < q0 + w := hm' 2
  omega

theorem hit (r0 q0 h w : ℕ) (inb) (v : (⟨3, ![32, h, w]⟩ : Shape).Idx → EReal) (L : List (View.Piece (Elt Ideal) S32x80x128 .f32))
    (a : Fin 32) (r : Fin 80) (q : Fin 128) (i : Fin h) (j : Fin w) (hr : r.val = r0 + i.val) (hq : q.val = q0 + j.val) :
    View.canon ((⟨Rect.unit (s := S32x80x128) ![0, r0, q0] ![32, h, w] inb, v⟩ : View.Piece (Elt Ideal) S32x80x128 .f32) :: L) (ix3 a r q)
      = v (ix3 a i j) := by
  have e : (ix3 a r q : S32x80x128.Idx) = (Rect.unit (s := S32x80x128) ![0, r0, q0] ![32, h, w] inb).emb (ix3 a i j) := by
    funext b
    refine Fin.ext ((?_ : _ = _).trans (Rect.idx_unit_val (s := S32x80x128) ![0, r0, q0] ![32, h, w] inb (ix3 a i j) b).symm)
    match b with
    | ⟨0, _⟩ => exact (Nat.zero_add _).symm
    | ⟨1, _⟩ => exact hr
    | ⟨2, _⟩ => exact hq
  rw [e]
  exact View.canon_cons_emb _ _ _ _

variable (x0 : Vec Ideal S32x63x32 .f32) (x1 : Vec Ideal S32x1x32 .f32) (x2 : Vec Ideal S32x32x33 .f32) (x3 : Vec Ideal S32x1x33 .f32) (x4 : Vec Ideal S32x32x32 .f32) (x5 : Vec Ideal S32x1x32 .f32) (x6 : Vec Ideal S32x59x32 .f32) (x7 : Vec Ideal S32x1x32 .f32) (x8 : Vec Ideal S32x32x3 .f32) (x9 : Vec Ideal S32x1x3 .f32)

/-- The packed block of a cell holds the cell's weights. -/
theorem packed_block (a : Fin 32) (N : Net)
    (h0 : ∀ k n, x0 (ix3 a k n) = N.w1 k n) (h1 : ∀ n, x1 (ix3 a 0 n) = N.b1 n)
    (h2 : ∀ k n, x2 (ix3 a k n) = N.w2 k n) (h3 : ∀ n, x3 (ix3 a 0 n) = N.b2 n)
    (h4 : ∀ k n, x4 (ix3 a k n) = N.w3 k n) (h5 : ∀ n, x5 (ix3 a 0 n) = N.b3 n)
    (h6 : ∀ k n, x6 (ix3 a k n) = N.w4 k n) (h7 : ∀ n, x7 (ix3 a 0 n) = N.b4 n)
    (h8 : ∀ k n, x8 (ix3 a k n) = N.w5 k n) (h9 : ∀ n, x9 (ix3 a 0 n) = N.b5 n) :
    Packed (fun r q => Pack.packOut x0 x1 x2 x3 x4 x5 x6 x7 x8 x9 (ix3 a r q)) N where
  w1 := fun k n => by
    show View.canon (Pack.pieces x0 x1 x2 x3 x4 x5 x6 x7 x8 x9) _ = _
    unfold Pack.pieces
    iterate 11 refine (skip _ _ _ _ _ _ _ _ _ _ (by dsimp; omega)).trans ?_
    refine (hit _ _ _ _ _ _ _ _ _ _ k n (by simp) (by simp)).trans ?_
    pointwise [k0_pay3]
    exact h0 k n
  b1 := fun n => by
    show View.canon (Pack.pieces x0 x1 x2 x3 x4 x5 x6 x7 x8 x9) _ = _
    unfold Pack.pieces
    iterate 10 refine (skip _ _ _ _ _ _ _ _ _ _ (by dsimp; omega)).trans ?_
    refine (hit _ _ _ _ _ _ _ _ _ _ 0 n (by simp) (by simp)).trans ?_
    pointwise [k0_pay4]
    exact h1 n
  w2 := fun k n => by
    show View.canon (Pack.pieces x0 x1 x2 x3 x4 x5 x6 x7 x8 x9) _ = _
    unfold Pack.pieces
    iterate 7 refine (skip _ _ _ _ _ _ _ _ _ _ (by dsimp; omega)).trans ?_
    refine (hit _ _ _ _ _ _ _ _ _ _ k n (by simp) (by simp)).trans ?_
    pointwise [k0_pay7]
    rw [h2]
    exact congrArg _ (Fin.ext (Nat.add_comm _ _))
  b2 := fun n => by
    show View.canon (Pack.pieces x0 x1 x2 x3 x4 x5 x6 x7 x8 x9) _ = _
    unfold Pack.pieces
    iterate 6 refine (skip _ _ _ _ _ _ _ _ _ _ (by dsimp; omega)).trans ?_
    refine (hit _ _ _ _ _ _ _ _ _ _ 0 n (by simp) (by simp)).trans ?_
    pointwise [k0_pay8]
    rw [h3]
    exact congrArg _ (Fin.ext (Nat.add_comm _ _))
  w2' := fun k => by
    show View.canon (Pack.pieces x0 x1 x2 x3 x4 x5 x6 x7 x8 x9) _ = _
    unfold Pack.pieces
    iterate 1 refine (skip _ _ _ _ _ _ _ _ _ _ (by dsimp; omega)).trans ?_
    refine (hit _ _ _ _ _ _ _ _ _ _ k 0 (by simp) (by simp)).trans ?_
    pointwise [k0_pay13]
    exact h2 k _
  b2' := by
    show View.canon (Pack.pieces x0 x1 x2 x3 x4 x5 x6 x7 x8 x9) _ = _
    unfold Pack.pieces
    refine (hit _ _ _ _ _ _ _ _ _ _ 0 0 (by simp) (by simp)).trans ?_
    pointwise [k0_pay1]
    exact h3 _
  w3 := fun k n => by
    show View.canon (Pack.pieces x0 x1 x2 x3 x4 x5 x6 x7 x8 x9) _ = _
    unfold Pack.pieces
    iterate 5 refine (skip _ _ _ _ _ _ _ _ _ _ (by dsimp; omega)).trans ?_
    refine (hit _ _ _ _ _ _ _ _ _ _ k n (by simp) (by simp)).trans ?_
    pointwise [k0_pay9]
    exact h4 k n
  b3 := fun n => by
    show View.canon (Pack.pieces x0 x1 x2 x3 x4 x5 x6 x7 x8 x9) _ = _
    unfold Pack.pieces
    iterate 4 refine (skip _ _ _ _ _ _ _ _ _ _ (by dsimp; omega)).trans ?_
    refine (hit _ _ _ _ _ _ _ _ _ _ 0 n (by simp) (by simp)).trans ?_
    pointwise [k0_pay10]
    exact h5 n
  w4 := fun k n => by
    show View.canon (Pack.pieces x0 x1 x2 x3 x4 x5 x6 x7 x8 x9) _ = _
    unfold Pack.pieces
    iterate 9 refine (skip _ _ _ _ _ _ _ _ _ _ (by dsimp; omega)).trans ?_
    refine (hit _ _ _ _ _ _ _ _ _ _ k n (by simp) (by simp)).trans ?_
    pointwise [k0_pay5]
    exact h6 k n
  b4 := fun n => by
    show View.canon (Pack.pieces x0 x1 x2 x3 x4 x5 x6 x7 x8 x9) _ = _
    unfold Pack.pieces
    iterate 8 refine (skip _ _ _ _ _ _ _ _ _ _ (by dsimp; omega)).trans ?_
    refine (hit _ _ _ _ _ _ _ _ _ _ 0 n (by simp) (by simp)).trans ?_
    pointwise [k0_pay6]
    exact h7 n
  w5 := fun k n => by
    show View.canon (Pack.pieces x0 x1 x2 x3 x4 x5 x6 x7 x8 x9) _ = _
    unfold Pack.pieces
    iterate 3 refine (skip _ _ _ _ _ _ _ _ _ _ (by dsimp; omega)).trans ?_
    refine (hit _ _ _ _ _ _ _ _ _ _ k n (by simp) (by simp)).trans ?_
    pointwise [k0_pay11]
    exact h8 k n
  b5 := fun n => by
    show View.canon (Pack.pieces x0 x1 x2 x3 x4 x5 x6 x7 x8 x9) _ = _
    unfold Pack.pieces
    iterate 2 refine (skip _ _ _ _ _ _ _ _ _ _ (by dsimp; omega)).trans ?_
    refine (hit _ _ _ _ _ _ _ _ _ _ 0 n (by simp) (by simp)).trans ?_
    pointwise [k0_pay12]
    exact h9 n

end Cert.ValuePack
-- ==== Proof.Value.PackValue.lean ====
module

public import proofs.«01_k».proof.Proof.KernelIdeal.Run
public import proofs.«01_k».proof.Proof.Value.PackBlock
public import Idealize.ShloMosaic.Lib.Pipeline.ValueKit

@[expose] public section

noncomputable section

namespace Cert.ValuePack

open Idealize.ShloMosaic Idealize.ShloMosaic.TcCoe Idealize.ShloMosaic.Pipeline Idealize.SL.Sem
open Cert.KernelIdeal.Gen Cert.Net
open Cert.KernelIdeal hiding ix2

/-- The block of 32 cells that a point of the first grid reads of a table. -/
def blk32 {K N : ℕ} (A : (⟨3, ![4096, K, N]⟩ : Shape).Idx → EReal) (t : ℕ) (ht : t < 128) : (⟨3, ![32, K, N]⟩ : Shape).Idx → EReal :=
  fun j => A (ix3 (⟨t * 32 + (j 0).val, by have h : (j 0).val < 32 := (j 0).isLt; omega⟩ : Fin 4096) (j 1 : Fin K) (j 2 : Fin N))

variable (W : Dev nD → Valuation τ sig (Elt Ideal)) (c : Dev nD)

def tab0 : (⟨3, ![4096, 63, 32]⟩ : Shape).Idx → EReal := W c (Proc.devRef .tc main_v0)
def tab1 : (⟨3, ![4096, 1, 32]⟩ : Shape).Idx → EReal := W c (Proc.devRef .tc main_v1)
def tab2 : (⟨3, ![4096, 32, 33]⟩ : Shape).Idx → EReal := W c (Proc.devRef .tc main_v2)
def tab3 : (⟨3, ![4096, 1, 33]⟩ : Shape).Idx → EReal := W c (Proc.devRef .tc main_v3)
def tab4 : (⟨3, ![4096, 32, 32]⟩ : Shape).Idx → EReal := W c (Proc.devRef .tc main_v4)
def tab5 : (⟨3, ![4096, 1, 32]⟩ : Shape).Idx → EReal := W c (Proc.devRef .tc main_v5)
def tab6 : (⟨3, ![4096, 59, 32]⟩ : Shape).Idx → EReal := W c (Proc.devRef .tc main_v6)
def tab7 : (⟨3, ![4096, 1, 32]⟩ : Shape).Idx → EReal := W c (Proc.devRef .tc main_v7)
def tab8 : (⟨3, ![4096, 32, 3]⟩ : Shape).Idx → EReal := W c (Proc.devRef .tc main_v8)
def tab9 : (⟨3, ![4096, 1, 3]⟩ : Shape).Idx → EReal := W c (Proc.devRef .tc main_v9)

theorem lt128 (t : Fin cfg0.N) : t.val < 128 := t.isLt

theorem index0 : ∀ t : Fin cfg0.N, win0_0.index t = ![t.val, 0, 0] := by decide +kernel

theorem iblk0 (t : Fin cfg0.N) : Pack.iblk W c 0 t = blk32 (tab0 W c) t.val (lt128 t) := by
  funext y
  obtain ⟨a, i, j, rfl⟩ : ∃ (a : Fin 32) (i : Fin 63) (j : Fin 32), y = ix3 a i j := ⟨y 0, y 1, y 2, funext fun b => match b with | ⟨0, _⟩ => rfl | ⟨1, _⟩ => rfl | ⟨2, _⟩ => rfl⟩
  have e0 : win0_0.index t 0 = t.val := congrFun (index0 t) 0
  have e1 : win0_0.index t 1 = 0 := congrFun (index0 t) 1
  have e2 : win0_0.index t 2 = 0 := congrFun (index0 t) 2
  refine congrArg (tab0 W c) (funext fun b => Fin.ext ?_)
  match b with
  | ⟨0, _⟩ => blk_simp [e0]
  | ⟨1, _⟩ => blk_simp [e1]
  | ⟨2, _⟩ => blk_simp [e2]

theorem index1 : ∀ t : Fin cfg0.N, win0_1.index t = ![t.val, 0, 0] := by decide +kernel

theorem iblk1 (t : Fin cfg0.N) : Pack.iblk W c 1 t = blk32 (tab1 W c) t.val (lt128 t) := by
  funext y
  obtain ⟨a, i, j, rfl⟩ : ∃ (a : Fin 32) (i : Fin 1) (j : Fin 32), y = ix3 a i j := ⟨y 0, y 1, y 2, funext fun b => match b with | ⟨0, _⟩ => rfl | ⟨1, _⟩ => rfl | ⟨2, _⟩ => rfl⟩
  have e0 : win0_1.index t 0 = t.val := congrFun (index1 t) 0
  have e1 : win0_1.index t 1 = 0 := congrFun (index1 t) 1
  have e2 : win0_1.index t 2 = 0 := congrFun (index1 t) 2
  refine congrArg (tab1 W c) (funext fun b => Fin.ext ?_)
  match b with
  | ⟨0, _⟩ => blk_simp [e0]
  | ⟨1, _⟩ => blk_simp [e1]
  | ⟨2, _⟩ => blk_simp [e2]

theorem index2 : ∀ t : Fin cfg0.N, win0_2.index t = ![t.val, 0, 0] := by decide +kernel

theorem iblk2 (t : Fin cfg0.N) : Pack.iblk W c 2 t = blk32 (tab2 W c) t.val (lt128 t) := by
  funext y
  obtain ⟨a, i, j, rfl⟩ : ∃ (a : Fin 32) (i : Fin 32) (j : Fin 33), y = ix3 a i j := ⟨y 0, y 1, y 2, funext fun b => match b with | ⟨0, _⟩ => rfl | ⟨1, _⟩ => rfl | ⟨2, _⟩ => rfl⟩
  have e0 : win0_2.index t 0 = t.val := congrFun (index2 t) 0
  have e1 : win0_2.index t 1 = 0 := congrFun (index2 t) 1
  have e2 : win0_2.index t 2 = 0 := congrFun (index2 t) 2
  refine congrArg (tab2 W c) (funext fun b => Fin.ext ?_)
  match b with
  | ⟨0, _⟩ => blk_simp [e0]
  | ⟨1, _⟩ => blk_simp [e1]
  | ⟨2, _⟩ => blk_simp [e2]

theorem index3 : ∀ t : Fin cfg0.N, win0_3.index t = ![t.val, 0, 0] := by decide +kernel

theorem iblk3 (t : Fin cfg0.N) : Pack.iblk W c 3 t = blk32 (tab3 W c) t.val (lt128 t) := by
  funext y
  obtain ⟨a, i, j, rfl⟩ : ∃ (a : Fin 32) (i : Fin 1) (j : Fin 33), y = ix3 a i j := ⟨y 0, y 1, y 2, funext fun b => match b with | ⟨0, _⟩ => rfl | ⟨1, _⟩ => rfl | ⟨2, _⟩ => rfl⟩
  have e0 : win0_3.index t 0 = t.val := congrFun (index3 t) 0
  have e1 : win0_3.index t 1 = 0 := congrFun (index3 t) 1
  have e2 : win0_3.index t 2 = 0 := congrFun (index3 t) 2
  refine congrArg (tab3 W c) (funext fun b => Fin.ext ?_)
  match b with
  | ⟨0, _⟩ => blk_simp [e0]
  | ⟨1, _⟩ => blk_simp [e1]
  | ⟨2, _⟩ => blk_simp [e2]

theorem index4 : ∀ t : Fin cfg0.N, win0_4.index t = ![t.val, 0, 0] := by decide +kernel

theorem iblk4 (t : Fin cfg0.N) : Pack.iblk W c 4 t = blk32 (tab4 W c) t.val (lt128 t) := by
  funext y
  obtain ⟨a, i, j, rfl⟩ : ∃ (a : Fin 32) (i : Fin 32) (j : Fin 32), y = ix3 a i j := ⟨y 0, y 1, y 2, funext fun b => match b with | ⟨0, _⟩ => rfl | ⟨1, _⟩ => rfl | ⟨2, _⟩ => rfl⟩
  have e0 : win0_4.index t 0 = t.val := congrFun (index4 t) 0
  have e1 : win0_4.index t 1 = 0 := congrFun (index4 t) 1
  have e2 : win0_4.index t 2 = 0 := congrFun (index4 t) 2
  refine congrArg (tab4 W c) (funext fun b => Fin.ext ?_)
  match b with
  | ⟨0, _⟩ => blk_simp [e0]
  | ⟨1, _⟩ => blk_simp [e1]
  | ⟨2, _⟩ => blk_simp [e2]

theorem index5 : ∀ t : Fin cfg0.N, win0_5.index t = ![t.val, 0, 0] := by decide +kernel

theorem iblk5 (t : Fin cfg0.N) : Pack.iblk W c 5 t = blk32 (tab5 W c) t.val (lt128 t) := by
  funext y
  obtain ⟨a, i, j, rfl⟩ : ∃ (a : Fin 32) (i : Fin 1) (j : Fin 32), y = ix3 a i j := ⟨y 0, y 1, y 2, funext fun b => match b with | ⟨0, _⟩ => rfl | ⟨1, _⟩ => rfl | ⟨2, _⟩ => rfl⟩
  have e0 : win0_5.index t 0 = t.val := congrFun (index5 t) 0
  have e1 : win0_5.index t 1 = 0 := congrFun (index5 t) 1
  have e2 : win0_5.index t 2 = 0 := congrFun (index5 t) 2
  refine congrArg (tab5 W c) (funext fun b => Fin.ext ?_)
  match b with
  | ⟨0, _⟩ => blk_simp [e0]
  | ⟨1, _⟩ => blk_simp [e1]
  | ⟨2, _⟩ => blk_simp [e2]

theorem index6 : ∀ t : Fin cfg0.N, win0_6.index t = ![t.val, 0, 0] := by decide +kernel

theorem iblk6 (t : Fin cfg0.N) : Pack.iblk W c 6 t = blk32 (tab6 W c) t.val (lt128 t) := by
  funext y
  obtain ⟨a, i, j, rfl⟩ : ∃ (a : Fin 32) (i : Fin 59) (j : Fin 32), y = ix3 a i j := ⟨y 0, y 1, y 2, funext fun b => match b with | ⟨0, _⟩ => rfl | ⟨1, _⟩ => rfl | ⟨2, _⟩ => rfl⟩
  have e0 : win0_6.index t 0 = t.val := congrFun (index6 t) 0
  have e1 : win0_6.index t 1 = 0 := congrFun (index6 t) 1
  have e2 : win0_6.index t 2 = 0 := congrFun (index6 t) 2
  refine congrArg (tab6 W c) (funext fun b => Fin.ext ?_)
  match b with
  | ⟨0, _⟩ => blk_simp [e0]
  | ⟨1, _⟩ => blk_simp [e1]
  | ⟨2, _⟩ => blk_simp [e2]

theorem index7 : ∀ t : Fin cfg0.N, win0_7.index t = ![t.val, 0, 0] := by decide +kernel

theorem iblk7 (t : Fin cfg0.N) : Pack.iblk W c 7 t = blk32 (tab7 W c) t.val (lt128 t) := by
  funext y
  obtain ⟨a, i, j, rfl⟩ : ∃ (a : Fin 32) (i : Fin 1) (j : Fin 32), y = ix3 a i j := ⟨y 0, y 1, y 2, funext fun b => match b with | ⟨0, _⟩ => rfl | ⟨1, _⟩ => rfl | ⟨2, _⟩ => rfl⟩
  have e0 : win0_7.index t 0 = t.val := congrFun (index7 t) 0
  have e1 : win0_7.index t 1 = 0 := congrFun (index7 t) 1
  have e2 : win0_7.index t 2 = 0 := congrFun (index7 t) 2
  refine congrArg (tab7 W c) (funext fun b => Fin.ext ?_)
  match b with
  | ⟨0, _⟩ => blk_simp [e0]
  | ⟨1, _⟩ => blk_simp [e1]
  | ⟨2, _⟩ => blk_simp [e2]

theorem index8 : ∀ t : Fin cfg0.N, win0_8.index t = ![t.val, 0, 0] := by decide +kernel

theorem iblk8 (t : Fin cfg0.N) : Pack.iblk W c 8 t = blk32 (tab8 W c) t.val (lt128 t) := by
  funext y
  obtain ⟨a, i, j, rfl⟩ : ∃ (a : Fin 32) (i : Fin 32) (j : Fin 3), y = ix3 a i j := ⟨y 0, y 1, y 2, funext fun b => match b with | ⟨0, _⟩ => rfl | ⟨1, _⟩ => rfl | ⟨2, _⟩ => rfl⟩
  have e0 : win0_8.index t 0 = t.val := congrFun (index8 t) 0
  have e1 : win0_8.index t 1 = 0 := congrFun (index8 t) 1
  have e2 : win0_8.index t 2 = 0 := congrFun (index8 t) 2
  refine congrArg (tab8 W c) (funext fun b => Fin.ext ?_)
  match b with
  | ⟨0, _⟩ => blk_simp [e0]
  | ⟨1, _⟩ => blk_simp [e1]
  | ⟨2, _⟩ => blk_simp [e2]

theorem index9 : ∀ t : Fin cfg0.N, win0_9.index t = ![t.val, 0, 0] := by decide +kernel

theorem iblk9 (t : Fin cfg0.N) : Pack.iblk W c 9 t = blk32 (tab9 W c) t.val (lt128 t) := by
  funext y
  obtain ⟨a, i, j, rfl⟩ : ∃ (a : Fin 32) (i : Fin 1) (j : Fin 3), y = ix3 a i j := ⟨y 0, y 1, y 2, funext fun b => match b with | ⟨0, _⟩ => rfl | ⟨1, _⟩ => rfl | ⟨2, _⟩ => rfl⟩
  have e0 : win0_9.index t 0 = t.val := congrFun (index9 t) 0
  have e1 : win0_9.index t 1 = 0 := congrFun (index9 t) 1
  have e2 : win0_9.index t 2 = 0 := congrFun (index9 t) 2
  refine congrArg (tab9 W c) (funext fun b => Fin.ext ?_)
  match b with
  | ⟨0, _⟩ => blk_simp [e0]
  | ⟨1, _⟩ => blk_simp [e1]
  | ⟨2, _⟩ => blk_simp [e2]

/-- The packed tables of the cells of one block. -/
def packAt (t : ℕ) (ht : t < 128) : S32x80x128.Idx → EReal := Pack.packOut (F := Ideal) (blk32 (tab0 W c) t ht) (blk32 (tab1 W c) t ht) (blk32 (tab2 W c) t ht) (blk32 (tab3 W c) t ht) (blk32 (tab4 W c) t ht) (blk32 (tab5 W c) t ht) (blk32 (tab6 W c) t ht) (blk32 (tab7 W c) t ht) (blk32 (tab8 W c) t ht) (blk32 (tab9 W c) t ht)

theorem after_packAt (t : Fin cfg0.N) : (Pack.dat W c).after 10 t = packAt W c t.val (lt128 t) := by
  rw [Pack.after_10, iblk0, iblk1, iblk2, iblk3, iblk4, iblk5, iblk6, iblk7, iblk8, iblk9]
  rfl

theorem packAt_congr {t t' : ℕ} {ht : t < 128} (e : t = t') (ht' : t' < 128) {i i' : S32x80x128.Idx} (h : i = i') :
    packAt W c t ht i = packAt W c t' ht' i' := by
  subst e; subst h; rfl

theorem index10 : ∀ t : Fin cfg0.N, win0_10.index t = ![t.val, 0, 0] := by decide +kernel

theorem arr10 (f : Fin 4096) (r : Fin 80) (q : Fin 128) :
    ((Pack.dat W c).arrAt 10 cfg0.N : S4096x80x128.Idx → EReal) (ix3 f r q)
      = packAt W c (f.val / 32) (by omega) (ix3 (⟨f.val % 32, by omega⟩ : Fin 32) r q) := by
  have h := Dat.arrAt_eq_of_covers (dat := Pack.dat W c) 10
    (fun i : S4096x80x128.Idx => packAt W c ((i 0).val / 32) (by have h : (i 0).val < 4096 := (i 0).isLt; omega) (ix3 (⟨(i 0).val % 32, by omega⟩ : Fin 32) (i 1 : Fin 80) (i 2 : Fin 128)))
    (by decide +kernel) fun t hf y => ?_
  · exact congrFun h (ix3 f r q)
  · obtain ⟨a, i, j, rfl⟩ : ∃ (a : Fin 32) (i : Fin 80) (j : Fin 128), y = ix3 a i j := ⟨y 0, y 1, y 2, funext fun b => match b with | ⟨0, _⟩ => rfl | ⟨1, _⟩ => rfl | ⟨2, _⟩ => rfl⟩
    have e0 : win0_10.index t 0 = t.val := congrFun (index10 t) 0
    have e1 : win0_10.index t 1 = 0 := congrFun (index10 t) 1
    have e2 : win0_10.index t 2 = 0 := congrFun (index10 t) 2
    have b0 : (((cfg0.win 10).blk t).view.emb (ix3 a i j) 0).val = t.val * 32 + a.val := by blk_simp [e0]
    have b1 : (((cfg0.win 10).blk t).view.emb (ix3 a i j) 1).val = i.val := by blk_simp [e1]
    have b2 : (((cfg0.win 10).blk t).view.emb (ix3 a i j) 2).val = j.val := by blk_simp [e2]
    rw [after_packAt]
    refine (packAt_congr W c (by omega) (lt128 t) ?_).symm
    refine funext fun b => Fin.ext ?_
    match b with
    | ⟨0, _⟩ => show _ % 32 = a.val; rw [b0]; have := a.isLt; omega
    | ⟨1, _⟩ => exact b1
    | ⟨2, _⟩ => exact b2

end Cert.ValuePack
-- ==== Proof.Value.Cells.lean ====
module

public import Idealize.ShloMosaic.Lib.Pointwise
public import Idealize.ShloMosaic.Lib.WordCmp

@[expose] public section

noncomputable section

namespace Cert.Cells

open Idealize.ShloMosaic

/-- An index of a table with one matrix per cell. -/
def at5 {K N : ℕ} (a b c : Fin 16) (i : Fin K) (j : Fin N) : (⟨5, ![16, 16, 16, K, N]⟩ : Shape).Idx := fun
  | ⟨0, _⟩ => a
  | ⟨1, _⟩ => b
  | ⟨2, _⟩ => c
  | ⟨3, _⟩ => i
  | ⟨4, _⟩ => j

/-- Gathering a cell's matrix for every point: entry `(p, i, j)` is entry `(i, j)` of the matrix of the cell that row `p` of the
    indices names. -/
theorem gather_cell {α : Type} {n K N : ℕ}
    (wf : GatherDims.WF ⟨5, ![16, 16, 16, K, N]⟩ ⟨2, ![n, 3]⟩ ⟨3, ![n, K, N]⟩ [1, 2] [0, 1, 2] [] [0, 1, 2] [] 1 ![1, 1, 1, K, N])
    (x : (⟨5, ![16, 16, 16, K, N]⟩ : Shape).Idx → α) (idx : IVec ⟨2, ![n, 3]⟩ 32) (p : Fin n) (i : Fin K) (j : Fin N) (a b c : Fin 16)
    (ha : (idx (ix2 p (0 : Fin 3))).toNat = a.val) (hb : (idx (ix2 p (1 : Fin 3))).toNat = b.val) (hc : (idx (ix2 p (2 : Fin 3))).toNat = c.val) :
    Host.gather (⟨[1, 2], [0, 1, 2], [], [], [0, 1, 2], 1, ![1, 1, 1, K, N], wf⟩ : GatherDims ⟨5, ![16, 16, 16, K, N]⟩ ⟨2, ![n, 3]⟩ ⟨3, ![n, K, N]⟩)
      x idx (ix3 p i j) = x (at5 a b c i j) := by
  set d : GatherDims ⟨5, ![16, 16, 16, K, N]⟩ ⟨2, ![n, 3]⟩ ⟨3, ![n, K, N]⟩ := ⟨[1, 2], [0, 1, 2], [], [], [0, 1, 2], 1, ![1, 1, 1, K, N], wf⟩ with hd
  have hs : ∀ k : Fin 3, d.siIdx (ix3 p i j) k = ix2 p k := fun k => by
    funext q
    match q with
    | ⟨0, _⟩ => rfl
    | ⟨1, _⟩ => rfl
  have key : ∀ w : BitVec 32, ∀ v : Fin 16, w.toNat = v.val → min w.toInt.toNat 15 = v.val := fun w v h => by
    have := v.isLt
    rw [WordCmp.toInt_eq_toNat_of_lt_half (by omega), h]
    show min v.val 15 = v.val
    omega
  unfold Host.gather
  refine congrArg x (funext fun q => Fin.ext ?_)
  match q with
  | ⟨0, _⟩ =>
    refine Eq.trans (b := min (idx (d.siIdx (ix3 p i j) (0 : Fin 3))).toInt.toNat 15) rfl ?_
    rw [hs]
    exact key _ _ ha
  | ⟨1, _⟩ =>
    refine Eq.trans (b := min (idx (d.siIdx (ix3 p i j) (1 : Fin 3))).toInt.toNat 15) rfl ?_
    rw [hs]
    exact key _ _ hb
  | ⟨2, _⟩ =>
    refine Eq.trans (b := min (idx (d.siIdx (ix3 p i j) (2 : Fin 3))).toInt.toNat 15) rfl ?_
    rw [hs]
    exact key _ _ hc
  | ⟨3, _⟩ =>
    refine Eq.trans (b := 0 + 0 + i.val) rfl ?_
    show 0 + 0 + i.val = i.val
    omega
  | ⟨4, _⟩ =>
    refine Eq.trans (b := 0 + 0 + j.val) rfl ?_
    show 0 + 0 + j.val = j.val
    omega

end Cert.Cells

end
-- ==== Proof.Value.Encode.lean ====
module

public import Idealize.ShloMosaic.Lib.Pointwise

@[expose] public section

noncomputable section

namespace Cert.Encode

open Idealize.ShloMosaic

/-- The power of two that column `k` of an encoding scales its coordinate by. -/
def scale (k : ℕ) : EReal := Ideal.ofBits .f32 (BitVec.ofNat 32 (((k + 3) / 6 + 126) * 8388608))

/-- Column `k` of the encoding of a triple: the triple itself, then the sines and the cosines of its multiples by powers of two. -/
def enc (x : Fin 3 → EReal) (k : ℕ) : EReal :=
  if k < 3 then x ⟨k % 3, Nat.mod_lt _ (by decide)⟩
  else if (k + 3) % 6 < 3 then Ideal.sin (x ⟨k % 3, Nat.mod_lt _ (by decide)⟩ * scale k)
  else Ideal.cos (x ⟨k % 3, Nat.mod_lt _ (by decide)⟩ * scale k)

end Cert.Encode
-- ==== Proof.Value.Spec.lean ====
module

public import proofs.«01_k».proof.Proof.Value.Net
public import proofs.«01_k».proof.Proof.Value.Cells
public import proofs.«01_k».proof.Proof.Value.Encode

@[expose] public section

noncomputable section

namespace Cert.Spec

open Idealize.ShloMosaic
open Cert.Net Cert.Cells Cert.Encode

/-- A table with a matrix for every cell. -/
abbrev Tab (K N : ℕ) : Type := (⟨5, ![16, 16, 16, K, N]⟩ : Shape).Idx → EReal

/-- The weights of all cells. -/
structure Weights where
  w1 : Tab 63 32
  b1 : Tab 1 32
  w2 : Tab 32 33
  b2 : Tab 1 33
  w3 : Tab 32 32
  b3 : Tab 1 32
  w4 : Tab 59 32
  b4 : Tab 1 32
  w5 : Tab 32 3
  b5 : Tab 1 3

/-- The network of a cell. -/
def Weights.net (T : Weights) (a b c : Fin 16) : Net where
  w1 k n := T.w1 (at5 a b c k n)
  b1 n := T.b1 (at5 a b c 0 n)
  w2 k n := T.w2 (at5 a b c k n)
  b2 n := T.b2 (at5 a b c 0 n)
  w3 k n := T.w3 (at5 a b c k n)
  b3 n := T.b3 (at5 a b c 0 n)
  w4 k n := T.w4 (at5 a b c k n)
  b4 n := T.b4 (at5 a b c 0 n)
  w5 k n := T.w5 (at5 a b c k n)
  b5 n := T.b5 (at5 a b c 0 n)

/-- The encoded position and the encoded direction of a point. -/
def posEnc (x : Fin 3 → EReal) : Fin 63 → EReal := fun k => enc x k.val
def dirEnc (x : Fin 3 → EReal) : Fin 27 → EReal := fun k => enc x k.val

end Cert.Spec
-- ==== Proof.Value.PackTab.lean ====
module

public import proofs.«01_k».proof.Proof.Value.PackValue
public import proofs.«01_k».proof.Proof.Value.Spec
public import Idealize.ShloMosaic.Lib.StableHlo.Run

@[expose] public section

set_option maxRecDepth 16384

noncomputable section

namespace Cert.ValuePack

open Idealize.ShloMosaic Idealize.ShloMosaic.TcCoe Idealize.ShloMosaic.Pipeline Idealize.ShloMosaic.StableHlo Idealize.SL.Sem
open Cert.KernelIdeal.Gen Cert.Net Cert.Cells Cert.Spec Cert.KernelIdeal.Run
open Cert.KernelIdeal hiding ix2

/-- A cell's place among the cells in order. -/
theorem flat_lt (a b c : Fin 16) : (a.val * 16 + b.val) * 16 + c.val < 4096 := by omega

def flat (a b c : Fin 16) : Fin 4096 := ⟨(a.val * 16 + b.val) * 16 + c.val, flat_lt a b c⟩

theorem reshape_ap {K N : ℕ} (A : Tab K N) (h : (⟨5, ![16, 16, 16, K, N]⟩ : Shape).ShapeCasts ⟨3, ![4096, K, N]⟩) (a b c : Fin 16) (k : Fin K) (n : Fin N) :
    shapeCast ⟨3, ![4096, K, N]⟩ A h (ix3 (flat a b c) k n) = A (at5 a b c k n) := by
  refine shapeCast_apply A h _ _ ?_
  rw [Shape.rowMajor_val_five, Shape.rowMajor_val_three]
  rfl

section
variable (V : Valuation τ sig (Elt Ideal))
theorem r0 : after hostOps0 V main_v0 = shapeCast S4096x63x32 (V main_arg2) shapeCasts_S16x16x16x63x32_S4096x63x32 := by after_results; rfl
theorem r1 : after hostOps0 V main_v1 = shapeCast S4096x1x32 (V main_arg3) shapeCasts_S16x16x16x1x32_S4096x1x32 := by after_results; rfl
theorem r2 : after hostOps0 V main_v2 = shapeCast S4096x32x33 (V main_arg4) shapeCasts_S16x16x16x32x33_S4096x32x33 := by after_results; rfl
theorem r3 : after hostOps0 V main_v3 = shapeCast S4096x1x33 (V main_arg5) shapeCasts_S16x16x16x1x33_S4096x1x33 := by after_results; rfl
theorem r4 : after hostOps0 V main_v4 = shapeCast S4096x32x32 (V main_arg6) shapeCasts_S16x16x16x32x32_S4096x32x32 := by after_results; rfl
theorem r5 : after hostOps0 V main_v5 = shapeCast S4096x1x32 (V main_arg7) shapeCasts_S16x16x16x1x32_S4096x1x32 := by after_results; rfl
theorem r6 : after hostOps0 V main_v6 = shapeCast S4096x59x32 (V main_arg8) shapeCasts_S16x16x16x59x32_S4096x59x32 := by after_results; rfl
theorem r7 : after hostOps0 V main_v7 = shapeCast S4096x1x32 (V main_arg9) shapeCasts_S16x16x16x1x32_S4096x1x32 := by after_results; rfl
theorem r8 : after hostOps0 V main_v8 = shapeCast S4096x32x3 (V main_arg10) shapeCasts_S16x16x16x32x3_S4096x32x3 := by after_results; rfl
theorem r9 : after hostOps0 V main_v9 = shapeCast S4096x1x3 (V main_arg11) shapeCasts_S16x16x16x1x3_S4096x1x3 := by after_results; rfl
end

variable (m : (ℓ : Loc nD τ sig) → Buf (Elt Ideal) ℓ) (c : Dev nD)

/-- The weights the arguments hold. -/
def weights : Weights where
  w1 := V0 m c (Proc.devRef .tc main_arg2)
  b1 := V0 m c (Proc.devRef .tc main_arg3)
  w2 := V0 m c (Proc.devRef .tc main_arg4)
  b2 := V0 m c (Proc.devRef .tc main_arg5)
  w3 := V0 m c (Proc.devRef .tc main_arg6)
  b3 := V0 m c (Proc.devRef .tc main_arg7)
  w4 := V0 m c (Proc.devRef .tc main_arg8)
  b4 := V0 m c (Proc.devRef .tc main_arg9)
  w5 := V0 m c (Proc.devRef .tc main_arg10)
  b5 := V0 m c (Proc.devRef .tc main_arg11)

theorem blk0_ap (x y z : Fin 16) (t : ℕ) (ht : t < 128) (a : Fin 32) (h : t * 32 + a.val = (flat x y z).val) (k : Fin 63) (n : Fin 32) :
    blk32 (tab0 (V1 m) c) t ht (ix3 a k n) = (weights m c).w1 (at5 x y z k n) := by
  refine Eq.trans ?_ (reshape_ap (weights m c).w1 shapeCasts_S16x16x16x63x32_S4096x63x32 x y z k n)
  refine (congrFun (r0 (V0 m c)) _).trans ?_
  refine congrArg _ (funext fun b => Fin.ext ?_)
  match b with
  | ⟨0, _⟩ => exact h
  | ⟨1, _⟩ => rfl
  | ⟨2, _⟩ => rfl

theorem blk1_ap (x y z : Fin 16) (t : ℕ) (ht : t < 128) (a : Fin 32) (h : t * 32 + a.val = (flat x y z).val) (k : Fin 1) (n : Fin 32) :
    blk32 (tab1 (V1 m) c) t ht (ix3 a k n) = (weights m c).b1 (at5 x y z k n) := by
  refine Eq.trans ?_ (reshape_ap (weights m c).b1 shapeCasts_S16x16x16x1x32_S4096x1x32 x y z k n)
  refine (congrFun (r1 (V0 m c)) _).trans ?_
  refine congrArg _ (funext fun b => Fin.ext ?_)
  match b with
  | ⟨0, _⟩ => exact h
  | ⟨1, _⟩ => rfl
  | ⟨2, _⟩ => rfl

theorem blk2_ap (x y z : Fin 16) (t : ℕ) (ht : t < 128) (a : Fin 32) (h : t * 32 + a.val = (flat x y z).val) (k : Fin 32) (n : Fin 33) :
    blk32 (tab2 (V1 m) c) t ht (ix3 a k n) = (weights m c).w2 (at5 x y z k n) := by
  refine Eq.trans ?_ (reshape_ap (weights m c).w2 shapeCasts_S16x16x16x32x33_S4096x32x33 x y z k n)
  refine (congrFun (r2 (V0 m c)) _).trans ?_
  refine congrArg _ (funext fun b => Fin.ext ?_)
  match b with
  | ⟨0, _⟩ => exact h
  | ⟨1, _⟩ => rfl
  | ⟨2, _⟩ => rfl

theorem blk3_ap (x y z : Fin 16) (t : ℕ) (ht : t < 128) (a : Fin 32) (h : t * 32 + a.val = (flat x y z).val) (k : Fin 1) (n : Fin 33) :
    blk32 (tab3 (V1 m) c) t ht (ix3 a k n) = (weights m c).b2 (at5 x y z k n) := by
  refine Eq.trans ?_ (reshape_ap (weights m c).b2 shapeCasts_S16x16x16x1x33_S4096x1x33 x y z k n)
  refine (congrFun (r3 (V0 m c)) _).trans ?_
  refine congrArg _ (funext fun b => Fin.ext ?_)
  match b with
  | ⟨0, _⟩ => exact h
  | ⟨1, _⟩ => rfl
  | ⟨2, _⟩ => rfl

theorem blk4_ap (x y z : Fin 16) (t : ℕ) (ht : t < 128) (a : Fin 32) (h : t * 32 + a.val = (flat x y z).val) (k : Fin 32) (n : Fin 32) :
    blk32 (tab4 (V1 m) c) t ht (ix3 a k n) = (weights m c).w3 (at5 x y z k n) := by
  refine Eq.trans ?_ (reshape_ap (weights m c).w3 shapeCasts_S16x16x16x32x32_S4096x32x32 x y z k n)
  refine (congrFun (r4 (V0 m c)) _).trans ?_
  refine congrArg _ (funext fun b => Fin.ext ?_)
  match b with
  | ⟨0, _⟩ => exact h
  | ⟨1, _⟩ => rfl
  | ⟨2, _⟩ => rfl

theorem blk5_ap (x y z : Fin 16) (t : ℕ) (ht : t < 128) (a : Fin 32) (h : t * 32 + a.val = (flat x y z).val) (k : Fin 1) (n : Fin 32) :
    blk32 (tab5 (V1 m) c) t ht (ix3 a k n) = (weights m c).b3 (at5 x y z k n) := by
  refine Eq.trans ?_ (reshape_ap (weights m c).b3 shapeCasts_S16x16x16x1x32_S4096x1x32 x y z k n)
  refine (congrFun (r5 (V0 m c)) _).trans ?_
  refine congrArg _ (funext fun b => Fin.ext ?_)
  match b with
  | ⟨0, _⟩ => exact h
  | ⟨1, _⟩ => rfl
  | ⟨2, _⟩ => rfl

theorem blk6_ap (x y z : Fin 16) (t : ℕ) (ht : t < 128) (a : Fin 32) (h : t * 32 + a.val = (flat x y z).val) (k : Fin 59) (n : Fin 32) :
    blk32 (tab6 (V1 m) c) t ht (ix3 a k n) = (weights m c).w4 (at5 x y z k n) := by
  refine Eq.trans ?_ (reshape_ap (weights m c).w4 shapeCasts_S16x16x16x59x32_S4096x59x32 x y z k n)
  refine (congrFun (r6 (V0 m c)) _).trans ?_
  refine congrArg _ (funext fun b => Fin.ext ?_)
  match b with
  | ⟨0, _⟩ => exact h
  | ⟨1, _⟩ => rfl
  | ⟨2, _⟩ => rfl

theorem blk7_ap (x y z : Fin 16) (t : ℕ) (ht : t < 128) (a : Fin 32) (h : t * 32 + a.val = (flat x y z).val) (k : Fin 1) (n : Fin 32) :
    blk32 (tab7 (V1 m) c) t ht (ix3 a k n) = (weights m c).b4 (at5 x y z k n) := by
  refine Eq.trans ?_ (reshape_ap (weights m c).b4 shapeCasts_S16x16x16x1x32_S4096x1x32 x y z k n)
  refine (congrFun (r7 (V0 m c)) _).trans ?_
  refine congrArg _ (funext fun b => Fin.ext ?_)
  match b with
  | ⟨0, _⟩ => exact h
  | ⟨1, _⟩ => rfl
  | ⟨2, _⟩ => rfl

theorem blk8_ap (x y z : Fin 16) (t : ℕ) (ht : t < 128) (a : Fin 32) (h : t * 32 + a.val = (flat x y z).val) (k : Fin 32) (n : Fin 3) :
    blk32 (tab8 (V1 m) c) t ht (ix3 a k n) = (weights m c).w5 (at5 x y z k n) := by
  refine Eq.trans ?_ (reshape_ap (weights m c).w5 shapeCasts_S16x16x16x32x3_S4096x32x3 x y z k n)
  refine (congrFun (r8 (V0 m c)) _).trans ?_
  refine congrArg _ (funext fun b => Fin.ext ?_)
  match b with
  | ⟨0, _⟩ => exact h
  | ⟨1, _⟩ => rfl
  | ⟨2, _⟩ => rfl

theorem blk9_ap (x y z : Fin 16) (t : ℕ) (ht : t < 128) (a : Fin 32) (h : t * 32 + a.val = (flat x y z).val) (k : Fin 1) (n : Fin 3) :
    blk32 (tab9 (V1 m) c) t ht (ix3 a k n) = (weights m c).b5 (at5 x y z k n) := by
  refine Eq.trans ?_ (reshape_ap (weights m c).b5 shapeCasts_S16x16x16x1x3_S4096x1x3 x y z k n)
  refine (congrFun (r9 (V0 m c)) _).trans ?_
  refine congrArg _ (funext fun b => Fin.ext ?_)
  match b with
  | ⟨0, _⟩ => exact h
  | ⟨1, _⟩ => rfl
  | ⟨2, _⟩ => rfl

/-- The packed table, at a cell, holds that cell's network. -/
theorem packed (x y z : Fin 16) :
    Packed (fun r q => (V2 m (outsPack m) c (Proc.devRef .tc main_v10) : S4096x80x128.Idx → EReal) (ix3 (flat x y z) r q)) ((weights m c).net x y z) := by
  have e : (V2 m (outsPack m) c (Proc.devRef .tc main_v10) : S4096x80x128.Idx → EReal) = (Pack.dat (V1 m) c).arrAt 10 cfg0.N :=
    (congrFun (after0 m c) (Proc.devRef .tc main_v10)).symm.trans (afterRegion_arr (Pack.dat (V1 m) c) (V1 m c) arr_inj0 10)
  rw [e]
  have h : (flat x y z).val / 32 * 32 + (flat x y z).val % 32 = (flat x y z).val := by omega
  have ht : (flat x y z).val / 32 < 128 := by omega
  have hp := packed_block (blk32 (tab0 (V1 m) c) ((flat x y z).val / 32) ht) (blk32 (tab1 (V1 m) c) ((flat x y z).val / 32) ht) (blk32 (tab2 (V1 m) c) ((flat x y z).val / 32) ht) (blk32 (tab3 (V1 m) c) ((flat x y z).val / 32) ht) (blk32 (tab4 (V1 m) c) ((flat x y z).val / 32) ht) (blk32 (tab5 (V1 m) c) ((flat x y z).val / 32) ht) (blk32 (tab6 (V1 m) c) ((flat x y z).val / 32) ht) (blk32 (tab7 (V1 m) c) ((flat x y z).val / 32) ht) (blk32 (tab8 (V1 m) c) ((flat x y z).val / 32) ht) (blk32 (tab9 (V1 m) c) ((flat x y z).val / 32) ht) (⟨(flat x y z).val % 32, by omega⟩ : Fin 32) ((weights m c).net x y z) (fun k n => blk0_ap m c x y z _ ht _ h k n) (fun n => blk1_ap m c x y z _ ht _ h 0 n) (fun k n => blk2_ap m c x y z _ ht _ h k n) (fun n => blk3_ap m c x y z _ ht _ h 0 n) (fun k n => blk4_ap m c x y z _ ht _ h k n) (fun n => blk5_ap m c x y z _ ht _ h 0 n) (fun k n => blk6_ap m c x y z _ ht _ h k n) (fun n => blk7_ap m c x y z _ ht _ h 0 n) (fun k n => blk8_ap m c x y z _ ht _ h k n) (fun n => blk9_ap m c x y z _ ht _ h 0 n)
  simp only [arr10]
  exact hp

end Cert.ValuePack
-- ==== Proof.Value.EncRow.lean ====
module

public import proofs.«01_k».proof.Proof.KernelIdeal.EncRegion
public import proofs.«01_k».proof.Proof.Value.Encode
public import Idealize.ShloMosaic.Lib.Pointwise

@[expose] public section

noncomputable section

namespace Cert.ValueEnc

open Idealize.ShloMosaic Idealize.ShloMosaic.TcCoe Idealize.SL.Sem
open Cert.KernelIdeal.Gen Cert.Encode
open Cert.KernelIdeal hiding ix2

/-! ## The words of a column -/

theorem pay3_ap (p : Fin 512) (k : Fin 63) : k1_pay3 (ix2 p k) = IntOp.subi (BitVec.ofNat 32 k.val) 3#32 := by
  pointwise [k1_pay3]

theorem pay4_ap (p : Fin 512) (k : Fin 63) : k1_pay4 (ix2 p k) = BitVec.ofNat 32 ((k.val + 3) / 6) - 1#32 := by
  pointwise [k1_pay4, pay3_ap]
  revert k
  decide +kernel

theorem pay5_ap (p : Fin 512) (k : Fin 63) : k1_pay5 (ix2 p k) = BitVec.ofNat 32 ((k.val + 3) % 6) := by
  pointwise [k1_pay5, pay3_ap, pay4_ap]
  revert k
  decide +kernel

theorem pay7_ap (p : Fin 512) (k : Fin 63) : k1_pay7 (ix2 p k) = BitVec.ofNat 32 (k.val % 3) := by
  pointwise [k1_pay7, pay5_ap]
  revert k
  decide +kernel

theorem axis_eq (k : Fin 63) :
    Scalar.select (IntOp.cmpi CmpIPredicate.slt (BitVec.ofNat 32 k.val) 3#32) (BitVec.ofNat 32 k.val)
      (Scalar.select
        (IntOp.andi
          (IntOp.xori (IntOp.cmpi CmpIPredicate.slt (BitVec.ofNat 32 (k.val % 3)) 0#32)
            (Scalar.cmpi CmpIPredicate.slt (Scalar.select (Scalar.cmpi CmpIPredicate.eq 3#32 0#32) 1#32 3#32) 0#32))
          (IntOp.cmpi CmpIPredicate.ne (BitVec.ofNat 32 (k.val % 3)) 0#32))
        (IntOp.addi (BitVec.ofNat 32 (k.val % 3)) (Scalar.select (Scalar.cmpi CmpIPredicate.eq 3#32 0#32) 1#32 3#32))
        (BitVec.ofNat 32 (k.val % 3))) = BitVec.ofNat 32 (k.val % 3) := by
  revert k
  decide +kernel

theorem lt3_eq (k : ℕ) (hk : k < 63) :
    IntOp.cmpi CmpIPredicate.slt (BitVec.ofNat 32 k) 3#32 = if k < 3 then 1#1 else 0#1 :=
  (by decide +kernel : ∀ k : Fin 63,
    IntOp.cmpi CmpIPredicate.slt (BitVec.ofNat 32 k.val) 3#32 = if k.val < 3 then 1#1 else 0#1) ⟨k, hk⟩

theorem half_eq (k : ℕ) (hk : k < 63) :
    IntOp.cmpi CmpIPredicate.slt (BitVec.ofNat 32 ((k + 3) % 6)) 3#32 = if (k + 3) % 6 < 3 then 1#1 else 0#1 :=
  (by decide +kernel : ∀ k : Fin 63,
    IntOp.cmpi CmpIPredicate.slt (BitVec.ofNat 32 ((k.val + 3) % 6)) 3#32 = if (k.val + 3) % 6 < 3 then 1#1 else 0#1) ⟨k, hk⟩

theorem scale_eq (k : ℕ) (hk : k < 63) :
    IntOp.shli ArithUnit.vector (IntOp.addi (BitVec.ofNat 32 ((k + 3) / 6) - 1#32) 127#32) 23#32
      = BitVec.ofNat 32 (((k + 3) / 6 + 126) * 8388608) :=
  (by decide +kernel : ∀ k : Fin 63,
    IntOp.shli ArithUnit.vector (IntOp.addi (BitVec.ofNat 32 ((k.val + 3) / 6) - 1#32) 127#32) 23#32
      = BitVec.ofNat 32 (((k.val + 3) / 6 + 126) * 8388608)) ⟨k, hk⟩

/-- Selecting a coordinate by its number. -/
theorem pick (x : Fin 3 → EReal) (r : ℕ) (h : r < 3) :
    Scalar.select (IntOp.cmpi CmpIPredicate.eq (BitVec.ofNat 32 r) 0#32) (x 0)
      (Scalar.select (IntOp.cmpi CmpIPredicate.eq (BitVec.ofNat 32 r) 1#32) (x 1) (x 2)) = x ⟨r, h⟩ :=
  match r, h with
  | 0, _ => rfl
  | 1, _ => rfl
  | 2, _ => rfl

theorem select_bit (P : Prop) [Decidable P] (a b : EReal) : Scalar.select (if P then 1#1 else 0#1) a b = if P then a else b := by
  by_cases h : P
  · rw [if_pos h, if_pos h]; rfl
  · rw [if_neg h, if_neg h]; rfl

theorem z2 : (![0, 0] : Fin 2 → ℕ) = fun _ => 0 := by decide

/-- A position's row of the block of encodings. -/
theorem pos_ap (X : FVec Ideal S512x3 .f32) (p : Fin 512) (k : Fin 63) :
    Enc.posVal (F := Ideal) X (ix2 p k) = enc (fun j => X (ix2 p j)) k.val := by
  unfold Enc.posVal
  rw [View.ld_unit_zero z2]
  pointwise [k1_pay10, k1_pay2, pay4_ap, pay5_ap, k1_pay6, pay7_ap, k1_pay8, k1_pay9]
  simp only [axis_eq]
  simp only [lt3_eq _ k.isLt, half_eq _ k.isLt, scale_eq _ k.isLt]
  rw [pick (fun j => X (ix2 p j)) (k.val % 3) (Nat.mod_lt _ (by decide)), select_bit, select_bit]
  rfl

theorem pay12_ap (p : Fin 512) (k : Fin 27) : k1_pay12 (ix2 p k) = IntOp.subi (BitVec.ofNat 32 k.val) 3#32 := by
  pointwise [k1_pay12]

theorem pay14_ap (p : Fin 512) (k : Fin 27) : k1_pay14 k1_pay12 6#32 k1_pay13 (ix2 p k) = BitVec.ofNat 32 ((k.val + 3) / 6) - 1#32 := by
  pointwise [k1_pay14, pay12_ap, k1_pay13]
  revert k
  decide +kernel

theorem pay15_ap (p : Fin 512) (k : Fin 27) : k1_pay15 k1_pay12 6#32 k1_pay13 (ix2 p k) = BitVec.ofNat 32 ((k.val + 3) % 6) := by
  pointwise [k1_pay15, pay12_ap, pay14_ap]
  revert k
  decide +kernel

theorem pay16_ap (p : Fin 512) (k : Fin 27) :
    k1_pay16 (iota .tc S512x27 32 [1] iota_S512x27_d1_w32) k1_pay12 6#32 k1_pay13 (ix2 p k) = BitVec.ofNat 32 (k.val % 3) := by
  pointwise [k1_pay16, pay15_ap]
  revert k
  decide +kernel

/-- A direction's row of the block of encodings. -/
theorem dir_ap (X : FVec Ideal S512x3 .f32) (p : Fin 512) (k : Fin 27) :
    Enc.dirVal (F := Ideal) X (ix2 p k) = enc (fun j => X (ix2 p j)) k.val := by
  have hk : k.val < 63 := by omega
  unfold Enc.dirVal
  rw [View.ld_unit_zero z2]
  pointwise [k1_pay1, k1_pay11, pay14_ap, pay15_ap, pay16_ap, k1_pay17, k1_pay18]
  rw [pay16_ap]
  simp only [lt3_eq _ hk, half_eq _ hk, scale_eq _ hk]
  rw [pick (fun j => X (ix2 p j)) (k.val % 3) (Nat.mod_lt _ (by decide)), select_bit, select_bit]
  rfl

end Cert.ValueEnc
-- ==== Proof.Value.EncValue.lean ====
module

public import proofs.«01_k».proof.Proof.KernelIdeal.Run
public import proofs.«01_k».proof.Proof.KernelIdeal.Keys
public import proofs.«01_k».proof.Proof.Value.EncRow
public import proofs.«01_k».proof.Proof.Value.Spec
public import Idealize.ShloMosaic.Lib.Pipeline.ValueKit

@[expose] public section

noncomputable section

namespace Cert.ValueEnc

open Idealize.ShloMosaic Idealize.ShloMosaic.TcCoe Idealize.ShloMosaic.Pipeline Idealize.SL.Sem
open Cert.KernelIdeal.Gen Cert.Encode Cert.Spec Cert.KernelIdeal.Run Cert.HostKernelIdeal
open Cert.KernelIdeal hiding ix2

variable (W : Dev nD → Valuation τ sig (Elt Ideal)) (c : Dev nD)

/-- The rows of the position table and of the direction table. -/
def rows0 : (⟨2, ![32768, 3]⟩ : Shape).Idx → EReal := W c (Proc.devRef .tc main_v55)
def rows1 : (⟨2, ![32768, 3]⟩ : Shape).Idx → EReal := W c (Proc.devRef .tc main_v62)

theorem at_row (t : Fin cfg1.N) (p : Fin 512) : t.val * 512 + p.val < 32768 := by
  have h : t.val < 64 := t.isLt
  omega

theorem index0 : ∀ t : Fin cfg1.N, win1_0.index t = ![t.val, 0] := by decide +kernel
theorem index1 : ∀ t : Fin cfg1.N, win1_1.index t = ![t.val, 0] := by decide +kernel
theorem index2 : ∀ t : Fin cfg1.N, win1_2.index t = ![t.val, 0] := by decide +kernel
theorem index3 : ∀ t : Fin cfg1.N, win1_3.index t = ![t.val, 0] := by decide +kernel

theorem iblk0 (t : Fin cfg1.N) (p : Fin 512) (j : Fin 3) :
    (Enc.iblk W c 0 t : S512x3.Idx → EReal) (ix2 p j) = rows0 W c (ix2 ⟨t.val * 512 + p.val, at_row t p⟩ j) := by
  have e0 : win1_0.index t 0 = t.val := congrFun (index0 t) 0
  have e1 : win1_0.index t 1 = 0 := congrFun (index0 t) 1
  refine congrArg (rows0 W c) (funext fun b => Fin.ext ?_)
  match b with
  | ⟨0, _⟩ => blk_simp [e0]
  | ⟨1, _⟩ => blk_simp [e1]

theorem iblk1 (t : Fin cfg1.N) (p : Fin 512) (j : Fin 3) :
    (Enc.iblk W c 1 t : S512x3.Idx → EReal) (ix2 p j) = rows1 W c (ix2 ⟨t.val * 512 + p.val, at_row t p⟩ j) := by
  have e0 : win1_1.index t 0 = t.val := congrFun (index1 t) 0
  have e1 : win1_1.index t 1 = 0 := congrFun (index1 t) 1
  refine congrArg (rows1 W c) (funext fun b => Fin.ext ?_)
  match b with
  | ⟨0, _⟩ => blk_simp [e0]
  | ⟨1, _⟩ => blk_simp [e1]

theorem after_pos (t : Fin cfg1.N) (p : Fin 512) (k : Fin 63) :
    ((Enc.dat W c).after 2 t : S512x63.Idx → EReal) (ix2 p k) = posEnc (fun j => rows0 W c (ix2 ⟨t.val * 512 + p.val, at_row t p⟩ j)) k := by
  refine (congrFun (Enc.after_2 W c t) (ix2 p k)).trans ?_
  unfold Enc.posOut
  refine (congrFun (View.canon_unit_zero (Val := Elt Ideal) (e := .f32) (S := S512x63) z2 inb_S512x63_S512x63_0_0 (Enc.posVal (F := Ideal) (Enc.iblk W c 0 t))) (ix2 p k)).trans ?_
  rw [pos_ap]
  simp only [iblk0]
  rfl

theorem arr_pos (p : Fin 32768) (k : Fin 63) :
    ((Enc.dat W c).arrAt 2 cfg1.N : S32768x63.Idx → EReal) (ix2 p k) = posEnc (fun j => rows0 W c (ix2 p j)) k := by
  have h := Dat.arrAt_eq_of_covers (dat := Enc.dat W c) 2
    (fun i : S32768x63.Idx => posEnc (fun j => rows0 W c (ix2 (i 0 : Fin 32768) j)) (i 1 : Fin 63))
    (by decide +kernel) fun t hf y => ?_
  · exact congrFun h (ix2 p k)
  · obtain ⟨a, i, rfl⟩ : ∃ (a : Fin 512) (i : Fin 63), y = ix2 a i := ⟨y 0, y 1, funext fun b => match b with | ⟨0, _⟩ => rfl | ⟨1, _⟩ => rfl⟩
    have e0 : win1_2.index t 0 = t.val := congrFun (index2 t) 0
    have e1 : win1_2.index t 1 = 0 := congrFun (index2 t) 1
    have b0 : (((cfg1.win 2).blk t).view.emb (ix2 a i) 0).val = t.val * 512 + a.val := by blk_simp [e0]
    have b1 : (((cfg1.win 2).blk t).view.emb (ix2 a i) 1).val = i.val := by blk_simp [e1]
    refine (after_pos W c t a i).trans ?_
    have c0 : (((cfg1.win 2).blk t).view.emb (ix2 a i) 0 : Fin 32768) = ⟨t.val * 512 + a.val, at_row t a⟩ := Fin.ext b0
    have c1 : (((cfg1.win 2).blk t).view.emb (ix2 a i) 1 : Fin 63) = i := Fin.ext b1
    exact (congrArg₂ (fun (q : Fin 32768) (l : Fin 63) => posEnc (fun j => rows0 W c (ix2 q j)) l) c0 c1).symm

theorem after_dir (t : Fin cfg1.N) (p : Fin 512) (k : Fin 27) :
    ((Enc.dat W c).after 3 t : S512x27.Idx → EReal) (ix2 p k) = dirEnc (fun j => rows1 W c (ix2 ⟨t.val * 512 + p.val, at_row t p⟩ j)) k := by
  refine (congrFun (Enc.after_3 W c t) (ix2 p k)).trans ?_
  unfold Enc.dirOut
  refine (congrFun (View.canon_unit_zero (Val := Elt Ideal) (e := .f32) (S := S512x27) z2 inb_S512x27_S512x27_0_0 (Enc.dirVal (F := Ideal) (Enc.iblk W c 1 t))) (ix2 p k)).trans ?_
  rw [dir_ap]
  simp only [iblk1]
  rfl

theorem arr_dir (p : Fin 32768) (k : Fin 27) :
    ((Enc.dat W c).arrAt 3 cfg1.N : S32768x27.Idx → EReal) (ix2 p k) = dirEnc (fun j => rows1 W c (ix2 p j)) k := by
  have h := Dat.arrAt_eq_of_covers (dat := Enc.dat W c) 3
    (fun i : S32768x27.Idx => dirEnc (fun j => rows1 W c (ix2 (i 0 : Fin 32768) j)) (i 1 : Fin 27))
    (by decide +kernel) fun t hf y => ?_
  · exact congrFun h (ix2 p k)
  · obtain ⟨a, i, rfl⟩ : ∃ (a : Fin 512) (i : Fin 27), y = ix2 a i := ⟨y 0, y 1, funext fun b => match b with | ⟨0, _⟩ => rfl | ⟨1, _⟩ => rfl⟩
    have e0 : win1_3.index t 0 = t.val := congrFun (index3 t) 0
    have e1 : win1_3.index t 1 = 0 := congrFun (index3 t) 1
    have b0 : (((cfg1.win 3).blk t).view.emb (ix2 a i) 0).val = t.val * 512 + a.val := by blk_simp [e0]
    have b1 : (((cfg1.win 3).blk t).view.emb (ix2 a i) 1).val = i.val := by blk_simp [e1]
    refine (after_dir W c t a i).trans ?_
    have c0 : (((cfg1.win 3).blk t).view.emb (ix2 a i) 0 : Fin 32768) = ⟨t.val * 512 + a.val, at_row t a⟩ := Fin.ext b0
    have c1 : (((cfg1.win 3).blk t).view.emb (ix2 a i) 1 : Fin 27) = i := Fin.ext b1
    exact (congrArg₂ (fun (q : Fin 32768) (l : Fin 27) => dirEnc (fun j => rows1 W c (ix2 q j)) l) c0 c1).symm

variable (m : (ℓ : Loc nD τ sig) → Buf (Elt Ideal) ℓ)

section
variable (outs : Outs (F := Ideal))

theorem v55_19 : V19 m outs c main_v55 = fun j => X0 m c (ix2 (ord (K0 m c) (j 0)) (j 1)) :=
  (V19_of m outs c main_v55 (by decide)).trans <| (V18_of m outs c main_v55 (by decide)).trans <| (V17_of m outs c main_v55 (by decide)).trans <| (V16_of m outs c main_v55 (by decide)).trans <| (V15_of m outs c main_v55 (by decide)).trans <| (V14_of m outs c main_v55 (by decide)).trans <| (V13_of m outs c main_v55 (by decide)).trans <| (V12_of m outs c main_v55 (by decide)).trans <| (V11_of m outs c main_v55 (by decide)).trans <| (V10_of m outs c main_v55 (by decide)).trans <| (V9_of m outs c main_v55 (by decide)).trans <| (V8_of m outs c main_v55 (by decide)).trans (v55 m outs c)

theorem v62_19 : V19 m outs c main_v62 = fun j => X1 m c (ix2 (ord (K0 m c) (j 0)) (j 1)) :=
  (V19_of m outs c main_v62 (by decide)).trans <| (V18_of m outs c main_v62 (by decide)).trans <| (V17_of m outs c main_v62 (by decide)).trans <| (V16_of m outs c main_v62 (by decide)).trans <| (V15_of m outs c main_v62 (by decide)).trans <| (V14_of m outs c main_v62 (by decide)).trans <| (V13_of m outs c main_v62 (by decide)).trans <| (V12_of m outs c main_v62 (by decide)).trans <| (V11_of m outs c main_v62 (by decide)).trans <| (V10_of m outs c main_v62 (by decide)).trans <| (V9_of m outs c main_v62 (by decide)).trans <| (V8_of m outs c main_v62 (by decide)).trans (v62 m outs c)
end

/-- The encoded rows, in the order of the cells. -/
theorem pos_rows (p : Fin 32768) (k : Fin 63) :
    (V20 m (outsEnc m) c (Proc.devRef .tc main_v102_0) : S32768x63.Idx → EReal) (ix2 p k) = posEnc (fun j => X0 m c (ix2 (ord (K0 m c) p) j)) k := by
  have e : (V20 m (outsEnc m) c (Proc.devRef .tc main_v102_0) : S32768x63.Idx → EReal) = (Enc.dat (V19 m (outsPack m)) c).arrAt 2 cfg1.N :=
    (congrFun (after1 m c) (Proc.devRef .tc main_v102_0)).symm.trans (afterRegion_arr (Enc.dat (V19 m (outsPack m)) c) (V19 m (outsPack m) c) arr_inj1 2)
  refine (congrFun e (ix2 p k)).trans ((arr_pos (V19 m (outsPack m)) c p k).trans ?_)
  refine congrArg (fun f : Fin 3 → EReal => posEnc f k) (funext fun j => ?_)
  exact congrFun (v55_19 c m (outsPack m)) (ix2 p j)

/-- The encoded rows, in the order of the cells. -/
theorem dir_rows (p : Fin 32768) (k : Fin 27) :
    (V20 m (outsEnc m) c (Proc.devRef .tc main_v102_1) : S32768x27.Idx → EReal) (ix2 p k) = dirEnc (fun j => X1 m c (ix2 (ord (K0 m c) p) j)) k := by
  have e : (V20 m (outsEnc m) c (Proc.devRef .tc main_v102_1) : S32768x27.Idx → EReal) = (Enc.dat (V19 m (outsPack m)) c).arrAt 3 cfg1.N :=
    (congrFun (after1 m c) (Proc.devRef .tc main_v102_1)).symm.trans (afterRegion_arr (Enc.dat (V19 m (outsPack m)) c) (V19 m (outsPack m) c) arr_inj1 3)
  refine (congrFun e (ix2 p k)).trans ((arr_dir (V19 m (outsPack m)) c p k).trans ?_)
  refine congrArg (fun f : Fin 3 → EReal => dirEnc f k) (funext fun j => ?_)
  exact congrFun (v62_19 c m (outsPack m)) (ix2 p j)

end Cert.ValueEnc
-- ==== Proof.Value.MlpRow.lean ====
module

public import proofs.«01_k».proof.Proof.KernelIdeal.MlpBody
public import proofs.«01_k».proof.Proof.Value.Net
public import proofs.«01_k».proof.Proof.Shared.Words
public import Idealize.ShloMosaic.Lib.Pointwise
public import Idealize.ShloMosaic.Lib.WordCmp
public import Idealize.ShloMosaic.Lib.Pipeline.Value

@[expose] public section

set_option maxRecDepth 16384

noncomputable section

namespace Cert.ValueMlp

open Idealize.ShloMosaic Idealize.ShloMosaic.TcCoe Idealize.ShloMosaic.Tactic
open Cert.KernelIdeal.Gen Cert.Net Cert.Words
open Cert.KernelIdeal hiding ix2

variable (big : Vec Ideal S1x80x128 .f32) (ex : Vec Ideal S256x63 .f32) (ed : Vec Ideal S256x27 .f32)

variable {N : Net} (B : Fin 80 → Fin 128 → EReal) (hN : Packed B N) (hb : ∀ r q, big (ix3 0 r q) = B r q) (p : Fin 256)
include hN hb

theorem pay4_ap (k : Fin 40) (q : Fin 8) : k2_pay4 big (ix2 k q) = B ⟨k.val, by omega⟩ ⟨96 + q.val, by omega⟩ := by
  pointwise [k2_pay4, k2_pay3]
  exact hb _ _

theorem l1_ap (k : Fin 32) : max (∑ j : Fin 63, ex (ix2 p j) * B ⟨j.val, by omega⟩ ⟨k.val, by omega⟩ + B 63 ⟨k.val, by omega⟩) 0
    = l1 N (fun j => ex (ix2 p j)) k := by
  unfold l1 act dense
  rw [hN.b1]
  congr 2
  exact Finset.sum_congr rfl fun j _ => by rw [hN.w1]

theorem pay7_ap (k : Fin 40) : k2_pay7 big ex (ix2 p k)
    = if h : k.val < 32 then l1 N (fun j => ex (ix2 p j)) ⟨k.val, h⟩ else if h : k.val - 32 < 1 then 1 else 0 := by
  pointwise [k2_pay7, k2_pay5, k2_pay6, k2_pay3]
  by_cases h : k.val < 32
  · rw [dif_pos h, dif_pos h, ← l1_ap big ex B hN hb]
    simp only [hb, Finset.univ_unique, Finset.sum_singleton]
  · rw [dif_neg h, dif_neg h]

theorem pay8_ap : k2_pay8 big ex (ix2 p 0) = density N (fun j => ex (ix2 p j)) := by
  have h7 := pay7_ap big ex B hN hb p
  unfold k2_pay8
  generalize k2_pay7 big ex = P7 at h7
  pointwise [k2_pay4, k2_pay3]
  simp only [h7, hb]
  rw [aug40]
  unfold density l2 act dense
  rw [← hN.b2']
  congr 2
  exact Finset.sum_congr rfl fun j _ => by rw [← hN.w2']

theorem l2_ap (k : Fin 32) : max (∑ x : Fin 40, (if h : x.val < 32 then l1 N (fun j => ex (ix2 p j)) ⟨x.val, h⟩ else if h : x.val - 32 < 1 then 1 else 0)
      * B ⟨x.val, by omega⟩ ⟨64 + k.val, by omega⟩) 0 = l2 N (fun j => ex (ix2 p j)) k.succ := by
  rw [aug40 _ fun x => B ⟨x.val, by omega⟩ ⟨64 + k.val, by omega⟩]
  unfold l2 act dense
  rw [← hN.b2]
  congr 2
  exact Finset.sum_congr rfl fun j _ => by rw [← hN.w2]

theorem l3_ap (k : Fin 32) : ∑ x : Fin 40, (if h : x.val < 32 then l2 N (fun j => ex (ix2 p j)) (⟨x.val, h⟩ : Fin 32).succ else if h : x.val - 32 < 1 then 1 else 0)
      * B ⟨40 + x.val, by omega⟩ ⟨64 + k.val, by omega⟩ = l3 N (fun j => ex (ix2 p j)) k := by
  rw [aug40 (fun x => l2 N (fun j => ex (ix2 p j)) x.succ) fun x => B ⟨40 + x.val, by omega⟩ ⟨64 + k.val, by omega⟩]
  unfold l3 dense
  rw [← hN.b3]
  congr 1
  exact Finset.sum_congr rfl fun j _ => by rw [← hN.w3]

theorem pay9_ap (k : Fin 32) : max (k2_pay9 big ex ed (ix2 p k)) 0 = l4 N (fun j => ex (ix2 p j)) (fun j => ed (ix2 p j)) k := by
  have h7 := pay7_ap big ex B hN hb p
  unfold k2_pay9
  generalize k2_pay7 big ex = P7 at h7
  pointwise [k2_pay5, k2_pay6, k2_pay3]
  simp only [h7, hb]
  have e2 : ∀ (k : Fin 40) (h : k.val < 32), _ = _ := fun k h => l2_ap big ex B hN hb p ⟨k.val, h⟩
  have e3 : ∀ (k : Fin 64) (h : k.val < 32), _ = _ := fun k h => l3_ap big ex B hN hb p ⟨k.val, h⟩
  simp +contextual only [e2]
  simp +contextual only [e3]
  rw [aug64 (fun k => l3 N (fun j => ex (ix2 p j)) k) (fun k => ed (ix2 p k)) fun x => B ⟨x.val, by omega⟩ ⟨32 + k.val, by omega⟩]
  unfold l4 act dense
  rw [← hN.b4]
  congr 2
  exact Finset.sum_congr rfl fun j _ => by rw [← hN.w4]; rfl

omit hN hb in
theorem mask_iff (s e q : BitVec 32) (hs : s.toNat < 2 ^ 31) (he : e.toNat < 2 ^ 31) (hq : q.toNat < 2 ^ 31) :
    IntOp.andi (IntOp.andi (IntOp.cmpi .sge (BitVec.ofNat 32 p.val) s) (IntOp.cmpi .slt (BitVec.ofNat 32 p.val) e))
      (Scalar.cmpi .slt q 4096#32) = 1#1 ↔ (s.toNat ≤ p.val ∧ p.val < e.toNat) ∧ q.toNat < 4096 := by
  have hp := p.isLt
  have e1 : (BitVec.ofNat 32 p.val).toNat = p.val := by rw [BitVec.toNat_ofNat]; omega
  rw [andi_iff, andi_iff, slt_iff _ _ (by omega) he, show Scalar.cmpi .slt q 4096#32 = IntOp.cmpi .slt q 4096#32 from rfl,
    slt_iff _ _ hq (by decide), WordCmp.cmpi_sge_of_lt (by omega) (by omega), WordCmp.ofBool_eq_one_iff, decide_eq_true_iff, e1]
  rfl

theorem val_ap (s e f q : BitVec 32) (hs : s.toNat < 2 ^ 31) (he : e.toNat < 2 ^ 31) (hq : q.toNat < 2 ^ 31) (old : Vec Ideal S256x8 .f32) (k : Fin 8) :
    Mlp.mlpOut s e f q ex ed big old (ix2 p k) = if (s.toNat ≤ p.val ∧ p.val < e.toNat) ∧ q.toNat < 4096
      then rowVal N (fun j => ex (ix2 p j)) (fun j => ed (ix2 p j)) k
      else if Scalar.cmpi .sgt f 0#32 = 1#1 then 0 else old (ix2 p k) := by
  have z2 : (![0, 0] : Fin 2 → Nat) = fun _ => 0 := by decide
  have z3 : (![0, 0, 0] : Fin 3 → Nat) = fun _ => 0 := by decide
  unfold Mlp.mlpOut
  rw [View.canon_unit_zero z2]
  unfold Mlp.mlpVal
  rw [View.ld_unit_zero z3, View.ld_unit_zero z2, View.ld_unit_zero z2, View.ld_unit_zero z2]
  have h9 := pay9_ap big ex ed B hN hb p
  have h8 := pay8_ap big ex B hN hb p
  have h4 := pay4_ap big B hN hb
  generalize k2_pay9 (F := Ideal) _ _ _ = P9 at h9 ⊢
  generalize k2_pay8 (F := Ideal) _ _ = P8 at h8 ⊢
  generalize k2_pay4 (F := Ideal) _ = P4 at h4 ⊢
  pointwise [k2_pay1, k2_pay5, k2_pay6, k2_pay10, k2_pay2]
  rw [select_ite, select_ite]
  refine if_congr (mask_iff p s e q hs he hq) ?_ rfl
  unfold rowVal
  by_cases h : k.val < 3
  · rw [dif_pos h, dif_pos h]
    simp only [h9, h4]
    rw [aug40 (fun x => l4 N (fun j => ex (ix2 p j)) (fun j => ed (ix2 p j)) x) fun x => B ⟨x.val, by omega⟩ ⟨96 + k.val, by omega⟩]
    unfold color dense
    have h5 := hN.b5 ⟨k.val, h⟩
    have w5 := fun x => hN.w5 x ⟨k.val, h⟩
    simp only at h5 w5
    rw [← h5]
    simp only [← w5]
    rfl
  · rw [dif_neg h, dif_neg h]
    by_cases h' : k.val = 3
    · rw [dif_pos (by omega), if_pos h', ← h8]
      refine congrArg P8 ?_
      congr 1
      exact Fin.ext (by show k.val - 3 = 0; omega)
    · rw [dif_neg (by omega), if_neg h']

end Cert.ValueMlp

end
-- ==== Proof.Value.Fill.lean ====
module

public import proofs.«01_k».proof.Proof.Shared.Seg

@[expose] public section

/-! A tile filled segment by segment.

Segments are taken in order. Each writes its own rows of the tile it lies in, unless its cell id is 4096; the first of a
tile sets the rows it does not write to zero, the others leave them. -/

namespace Cert.Seg

variable {cs rs : ℕ → ℕ}

/-- The tile of segment `t`. -/
def tile (rs : ℕ → ℕ) (t : ℕ) : ℕ := min (rs t / 256) 127

/-- The end of segment `t` within its tile. -/
def ending (rs : ℕ → ℕ) (t : ℕ) : ℕ := if rs t < 32768 then (rs (t + 1) - 1) % 256 + 1 else 0

/-- The cell id of segment `t`. -/
def ident (cs rs : ℕ → ℕ) (t : ℕ) : ℕ := cs (min (rs t) 32767)

namespace Segs

theorem fill_step {α : Type*} (h : Segs cs rs) (zero : α) (V : ℕ → ℕ → α) (f pr : ℕ → ℕ → α) (t : ℕ) (ht : t < 4225) (r : ℕ) (hr : r < 256)
    (hf : ∀ t, t < 4225 → ∀ r, r < 256 → f t r =
      if (rs t % 256 ≤ r ∧ r < ending rs t) ∧ ident cs rs t < 4096 then V (ident cs rs t) (tile rs t * 256 + r)
      else if rs t % 256 = 0 ∧ rs t < 32768 then zero else pr t r)
    (hp : ¬ (rs t % 256 = 0 ∧ rs t < 32768) →
      pr t r = if tile rs t * 256 + r < rs t ∧ cs (tile rs t * 256 + r) < 4096 then V (cs (tile rs t * 256 + r)) (tile rs t * 256 + r) else zero) :
    f t r = if tile rs t * 256 + r < rs (t + 1) ∧ cs (tile rs t * 256 + r) < 4096 then V (cs (tile rs t * 256 + r)) (tile rs t * 256 + r) else zero := by
  have hm : rs t ≤ rs (t + 1) := h.rmono t (t + 1) (by omega) (by omega)
  have hle := h.rle t (by omega)
  have hle' := h.rle (t + 1) (by omega)
  rw [hf t ht r hr]
  by_cases hlt : rs t < 32768
  · have ht' := h.index_lt t (by omega) hlt
    have eT : tile rs t = rs t / 256 := by unfold tile; omega
    have ei : ident cs rs t = cs (rs t) := by unfold ident; congr 1; omega
    have ee : ending rs t = (rs (t + 1) - 1) % 256 + 1 := by unfold ending; exact if_pos hlt
    rw [eT] at hp ⊢
    rw [ei, ee]
    generalize hpe : rs t / 256 * 256 + r = p at hp ⊢
    have hp1 : p / 256 = rs t / 256 := by omega
    have hp2 : p % 256 = r := by omega
    have hiff := h.row_iff t p ht' (by omega) hlt hp1.symm
    rw [hp2] at hiff
    by_cases hin : rs t ≤ p ∧ p < rs (t + 1)
    · have hsame : cs p = cs (rs t) := by
        have := (h.same t (by omega) (p - rs t) (fun _ => by omega) (by omega)).2
        rwa [show rs t + (p - rs t) = p from by omega] at this
      have hin' := hiff.mpr hin
      rw [← hsame]
      by_cases hc : cs p < 4096
      · rw [if_pos ⟨hin', hc⟩, if_pos ⟨hin.2, hc⟩]
      · rw [if_neg (fun x => hc x.2), if_neg (fun x : p < rs (t + 1) ∧ cs p < 4096 => hc x.2)]
        by_cases h1 : rs t % 256 = 0 ∧ rs t < 32768
        · exact if_pos h1
        · rw [if_neg h1, hp h1, if_neg (fun x => hc x.2)]
    · rw [if_neg (fun x => hin (hiff.mp x.1))]
      by_cases h1 : rs t % 256 = 0 ∧ rs t < 32768
      · have hge : rs t ≤ p := by omega
        rw [if_pos h1, if_neg (fun x => hin ⟨hge, x.1⟩)]
      · rw [if_neg h1, hp h1]
        have hiff2 : p < rs t ↔ p < rs (t + 1) := by omega
        simp only [hiff2]
  · have e1 : rs t = 32768 := by omega
    have e2 : rs (t + 1) = 32768 := by omega
    have ee : ending rs t = 0 := by unfold ending; exact if_neg hlt
    have h1 : ¬ (rs t % 256 = 0 ∧ rs t < 32768) := fun x => hlt x.2
    rw [if_neg (fun x => by rw [ee] at x; omega), if_neg h1, hp h1, e1, e2]

/-- The last segment of a tile ends with the tile. -/
theorem tile_end (h : Segs cs rs) (t : ℕ) (ht : t < 4225) (r : ℕ) (hr : r < 256) (hl : t = 4224 ∨ tile rs t ≠ tile rs (t + 1)) :
    tile rs t * 256 + r < rs (t + 1) := by
  have hm : rs t ≤ rs (t + 1) := h.rmono t (t + 1) (by omega) (by omega)
  have hT : tile rs t ≤ 127 := by unfold tile; omega
  by_cases hn : tile rs t = tile rs (t + 1)
  · obtain rfl : t = 4224 := hl.resolve_right fun x => x hn
    have := h.rs_last
    omega
  by_cases he : t = 4224
  · subst he
    have := h.rs_last
    omega
  · have hf := h.fresh (t + 1) (by omega) (Or.inr hn)
    unfold tile at hn hT ⊢
    omega

/-- Every tile holds a segment. -/
theorem tile_surj (h : Segs cs rs) (b : ℕ) (hb : b < 128) : ∃ t, t < 4225 ∧ tile rs t = b := by
  obtain ⟨k, hk, e⟩ := h.surj (b * 256) (by omega) (Or.inl (by omega))
  exact ⟨k, by omega, by unfold tile; omega⟩

theorem fill {α : Type*} (h : Segs cs rs) (zero : α) (V : ℕ → ℕ → α) (f pr : ℕ → ℕ → α) (hpr : ∀ t r, pr (t + 1) r = f t r)
    (hf : ∀ t, t < 4225 → ∀ r, r < 256 → f t r =
      if (rs t % 256 ≤ r ∧ r < ending rs t) ∧ ident cs rs t < 4096 then V (ident cs rs t) (tile rs t * 256 + r)
      else if rs t % 256 = 0 ∧ rs t < 32768 then zero else pr t r)
    (t : ℕ) (ht : t < 4225) (r : ℕ) (hr : r < 256) :
    f t r = if tile rs t * 256 + r < rs (t + 1) ∧ cs (tile rs t * 256 + r) < 4096 then V (cs (tile rs t * 256 + r)) (tile rs t * 256 + r) else zero := by
  induction t with
  | zero =>
    obtain ⟨h1, h2⟩ := h.fresh 0 (by omega) (Or.inl rfl)
    exact h.fill_step zero V f pr 0 ht r hr hf fun hc => absurd ⟨h2, h1⟩ hc
  | succ t ih =>
    refine h.fill_step zero V f pr (t + 1) ht r hr hf fun hc => ?_
    have e : tile rs t = tile rs (t + 1) := by
      by_contra hne
      have := h.fresh (t + 1) ht (Or.inr hne)
      exact hc ⟨this.2, this.1⟩
    rw [hpr, ih (by omega), e]

end Segs

end Cert.Seg
-- ==== Proof.Value.MlpBlock.lean ====
module

public import proofs.«01_k».proof.Proof.KernelIdeal.Tables
public import proofs.«01_k».proof.Proof.Value.PackTab
public import proofs.«01_k».proof.Proof.Value.EncValue
public import proofs.«01_k».proof.Proof.Value.MlpRow
public import proofs.«01_k».proof.Proof.Value.Fill

@[expose] public section

set_option maxRecDepth 16384

noncomputable section

namespace Cert.ValueMlp

open Idealize.ShloMosaic Idealize.ShloMosaic.TcCoe Idealize.ShloMosaic.Pipeline Idealize.SL.Sem
open Cert.KernelIdeal.Gen Cert.KernelIdeal.Run Cert.HostKernelIdeal Cert.Net Cert.Spec Cert.Seg Cert.Words
open Cert.KernelIdeal hiding ix2

variable (m : (ℓ : Loc nD τ sig) → Buf (Elt Ideal) ℓ)

/-- The first rows of the segments, and the cell ids in order. -/
abbrev rs : ℕ → ℕ := rsN (K0 m 0)
abbrev cs : ℕ → ℕ := csN (K0 m 0)

theorem index0 (t : Fin (cfg2 (adm0 m)).N) : ((cfg2 (adm0 m)).win 0).index t = ![tile (rs m) t.val, 0] := by
  unfold tile
  rw [← item_coords m t, ← tileOf_toNat]
  exact t0 m _

theorem index1 (t : Fin (cfg2 (adm0 m)).N) : ((cfg2 (adm0 m)).win 1).index t = ![tile (rs m) t.val, 0] := by
  unfold tile
  rw [← item_coords m t, ← tileOf_toNat]
  exact t1 m _

theorem index2 (t : Fin (cfg2 (adm0 m)).N) : ((cfg2 (adm0 m)).win 2).index t = ![min (ident (cs m) (rs m) t.val) 4095, 0, 0] := by
  have e : (IntOp.minsi (cellAt m (grid2.coords t)) 4095#32).toNat = min (ident (cs m) (rs m) t.val) 4095 := by
    rw [blockW_toNat, cellAt_toNat, item_coords]
    rfl
  rw [← e]
  exact t2 m _

theorem tile_row (t : ℕ) (p : Fin 256) : tile (rs m) t * 256 + p.val < 32768 := by
  unfold tile; omega

variable (W : Dev nD → Valuation τ sig (Elt Ideal)) (c : Dev nD)

theorem iblk0 (t : Fin (cfg2 (adm0 m)).N) (p : Fin 256) (j : Fin 63) :
    (Mlp.iblk (adm0 m) W c 0 t : S256x63.Idx → EReal) (ix2 p j)
      = (W c (Proc.devRef .tc main_v102_0) : S32768x63.Idx → EReal) (ix2 ⟨tile (rs m) t.val * 256 + p.val, tile_row m _ p⟩ j) := by
  refine congrArg (W c (Proc.devRef .tc main_v102_0) : S32768x63.Idx → EReal) (funext fun b => Fin.ext ?_)
  refine (Window.rect_emb_val ((cfg2 (adm0 m)).win 0) t (ix2 p j) b).trans ?_
  rw [index0 m t]
  match b with
  | ⟨0, _⟩ => rfl
  | ⟨1, _⟩ => exact (congrArg (· + j.val) (Nat.zero_mul _)).trans (Nat.zero_add _)

theorem iblk1 (t : Fin (cfg2 (adm0 m)).N) (p : Fin 256) (j : Fin 27) :
    (Mlp.iblk (adm0 m) W c 1 t : S256x27.Idx → EReal) (ix2 p j)
      = (W c (Proc.devRef .tc main_v102_1) : S32768x27.Idx → EReal) (ix2 ⟨tile (rs m) t.val * 256 + p.val, tile_row m _ p⟩ j) := by
  refine congrArg (W c (Proc.devRef .tc main_v102_1) : S32768x27.Idx → EReal) (funext fun b => Fin.ext ?_)
  refine (Window.rect_emb_val ((cfg2 (adm0 m)).win 1) t (ix2 p j) b).trans ?_
  rw [index1 m t]
  match b with
  | ⟨0, _⟩ => rfl
  | ⟨1, _⟩ => exact (congrArg (· + j.val) (Nat.zero_mul _)).trans (Nat.zero_add _)

theorem iblk2 (t : Fin (cfg2 (adm0 m)).N) (r : Fin 80) (q : Fin 128) :
    (Mlp.iblk (adm0 m) W c 2 t : S1x80x128.Idx → EReal) (ix3 0 r q)
      = (W c (Proc.devRef .tc main_v10) : S4096x80x128.Idx → EReal) (ix3 ⟨min (ident (cs m) (rs m) t.val) 4095, by omega⟩ r q) := by
  refine congrArg (W c (Proc.devRef .tc main_v10) : S4096x80x128.Idx → EReal) (funext fun b => Fin.ext ?_)
  refine (Window.rect_emb_val ((cfg2 (adm0 m)).win 2) t (ix3 0 r q) b).trans ?_
  rw [index2 m t]
  match b with
  | ⟨0, _⟩ => exact (Nat.add_zero _).trans (Nat.mul_one _)
  | ⟨1, _⟩ => exact (congrArg (· + r.val) (Nat.zero_mul _)).trans (Nat.zero_add _)
  | ⟨2, _⟩ => exact (congrArg (· + q.val) (Nat.zero_mul _)).trans (Nat.zero_add _)

end Cert.ValueMlp
-- ==== Proof.Value.MlpTraj.lean ====
module

public import proofs.«01_k».proof.Proof.Value.MlpBlock

@[expose] public section

set_option maxRecDepth 16384

noncomputable section

namespace Cert.ValueMlp

open Idealize.ShloMosaic Idealize.ShloMosaic.TcCoe Idealize.ShloMosaic.Pipeline Idealize.SL.Sem
open Cert.KernelIdeal.Gen Cert.KernelIdeal.Run Cert.HostKernelIdeal Cert.Net Cert.Spec Cert.Seg Cert.Words
open Cert.KernelIdeal hiding ix2

/-- A point whose item stores nothing: its item has no row of its own, or no cell, and is not its tile's first. -/
theorem not_live (s e q f : BitVec 32) (hs : s.toNat < 2 ^ 31) (he : e.toNat < 2 ^ 31) (hq : q.toNat < 2 ^ 31) (h : ¬ k2_cond1 s e q f = 1#1) :
    (¬ s.toNat < e.toNat ∨ ¬ q.toNat < 4096) ∧ ¬ Scalar.cmpi .sgt f 0#32 = 1#1 := by
  have h1 : Scalar.cmpi .sgt e s = 1#1 ↔ s.toNat < e.toNat := slt_iff s e hs he
  have h2 : Scalar.cmpi .slt q 4096#32 = 1#1 ↔ q.toNat < 4096 := slt_iff q 4096#32 hq (by decide)
  rw [← h1, ← h2]
  unfold k2_cond1 at h
  dsimp only at h
  generalize Scalar.cmpi .sgt f 0#32 = a at h ⊢
  generalize Scalar.cmpi .sgt e s = b at h ⊢
  generalize Scalar.cmpi .slt q 4096#32 = d at h ⊢
  revert h
  revert a b d
  decide

section
variable {F : FTy → Type} [FloatOps F] (m : (ℓ : Loc nD τ sig) → Buf (Elt F) ℓ)

theorem endW_mk (T : pre2.Contents (Elt F)) (hok : ok2 (F := F) T) (i : grid2.Coords) :
    Mlp.endW (⟨T, hok⟩ : (pcfg2 (F := F)).Adm) i = Mlp.word (F := F) (T 3) i := by
  unfold Mlp.endW
  rfl

theorem endW_eq (i : grid2.Coords) : Mlp.endW (adm0 m) i = endOf m i := by
  unfold endOf
  exact endW_mk (Run.tabs m) (tabs_ok m) i

theorem endOf_at (t : Fin (cfg2 (adm0 m)).N) : (endOf m (grid2.coords t)).toNat = ending (rsN (K0 m 0)) t.val := by
  have h := endOf_toNat m (grid2.coords t)
  rw [item_coords m t] at h
  exact h
end

variable (m : (ℓ : Loc nD τ sig) → Buf (Elt Ideal) ℓ)

/-- The network of the cell with number `q`. -/
def netAt (q : ℕ) : Net := (ValuePack.weights m 0).net ⟨min q 4095 / 256, by omega⟩ ⟨min q 4095 / 16 % 16, by omega⟩ ⟨min q 4095 % 16, by omega⟩

/-- What the network of cell `q` gives for the point in row `p`. -/
def valAt (k : Fin 8) (q p : ℕ) : EReal :=
  if h : p < 32768 then
    rowVal (netAt m q) (posEnc fun j => X0 m 0 (ix2 (ord (K0 m 0) ⟨p, h⟩) j)) (dirEnc fun j => X1 m 0 (ix2 (ord (K0 m 0) ⟨p, h⟩) j)) k
  else 0

/-- What the third region finds. -/
abbrev W2 : Dev nD → Valuation τ sig (Elt Ideal) := V20 m (outsEnc m)

theorem v10_20 : (V20 m (outsEnc m) 0 (Proc.devRef .tc main_v10) : S4096x80x128.Idx → EReal) = V2 m (outsPack m) 0 (Proc.devRef .tc main_v10) :=
  (V20_of m (outsEnc m) 0 main_v10 (by decide)).trans <| (V19_of m (outsEnc m) 0 main_v10 (by decide)).trans <| (V18_of m (outsEnc m) 0 main_v10 (by decide)).trans <| (V17_of m (outsEnc m) 0 main_v10 (by decide)).trans <| (V16_of m (outsEnc m) 0 main_v10 (by decide)).trans <| (V15_of m (outsEnc m) 0 main_v10 (by decide)).trans <| (V14_of m (outsEnc m) 0 main_v10 (by decide)).trans <| (V13_of m (outsEnc m) 0 main_v10 (by decide)).trans <| (V12_of m (outsEnc m) 0 main_v10 (by decide)).trans <| (V11_of m (outsEnc m) 0 main_v10 (by decide)).trans <| (V10_of m (outsEnc m) 0 main_v10 (by decide)).trans <| (V9_of m (outsEnc m) 0 main_v10 (by decide)).trans <| (V8_of m (outsEnc m) 0 main_v10 (by decide)).trans <| (V7_of m (outsEnc m) 0 main_v10 (by decide)).trans <| (V6_of m (outsEnc m) 0 main_v10 (by decide)).trans <| (V5_of m (outsEnc m) 0 main_v10 (by decide)).trans <| (V4_of m (outsEnc m) 0 main_v10 (by decide)).trans (V3_of m (outsEnc m) 0 main_v10 (by decide)) |>.trans rfl

theorem packed_at (t : Fin (cfg2 (adm0 m)).N) :
    Packed (fun r q => (Mlp.iblk (adm0 m) (W2 m) 0 2 t : S1x80x128.Idx → EReal) (ix3 0 r q)) (netAt m (ident (cs m) (rs m) t.val)) := by
  have h := ValuePack.packed m 0 ⟨min (ident (cs m) (rs m) t.val) 4095 / 256, by omega⟩ ⟨min (ident (cs m) (rs m) t.val) 4095 / 16 % 16, by omega⟩ ⟨min (ident (cs m) (rs m) t.val) 4095 % 16, by omega⟩
  have e : (fun r q => (Mlp.iblk (adm0 m) (W2 m) 0 2 t : S1x80x128.Idx → EReal) (ix3 0 r q))
      = fun (r : Fin 80) (q : Fin 128) => (V2 m (outsPack m) 0 (Proc.devRef .tc main_v10) : S4096x80x128.Idx → EReal)
        (ix3 (ValuePack.flat ⟨min (ident (cs m) (rs m) t.val) 4095 / 256, by omega⟩ ⟨min (ident (cs m) (rs m) t.val) 4095 / 16 % 16, by omega⟩ ⟨min (ident (cs m) (rs m) t.val) 4095 % 16, by omega⟩) r q) := by
    funext r q
    refine (iblk2 m (W2 m) 0 t r q).trans ?_
    refine (congrFun (v10_20 m) _).trans (congrArg _ ?_)
    refine congrArg (fun f : Fin 4096 => ix3 f r q) (Fin.ext ?_)
    show min (ident (cs m) (rs m) t.val) 4095 = (min (ident (cs m) (rs m) t.val) 4095 / 256 * 16 + min (ident (cs m) (rs m) t.val) 4095 / 16 % 16) * 16 + min (ident (cs m) (rs m) t.val) 4095 % 16
    omega
  rw [e]
  exact h

theorem starts_at (t : Fin (cfg2 (adm0 m)).N) : (Mlp.startW (adm0 m) (grid2.coords t)).toNat = rs m t.val % 256 := by
  have h := startOf_toNat m (grid2.coords t)
  rw [item_coords m t] at h
  exact h

theorem ends_at (t : Fin (cfg2 (adm0 m)).N) : (Mlp.endW (adm0 m) (grid2.coords t)).toNat = ending (rs m) t.val :=
  (congrArg BitVec.toNat (endW_eq m (grid2.coords t))).trans (endOf_at m t)

theorem cell_at (t : Fin (cfg2 (adm0 m)).N) : (Mlp.cellW (adm0 m) (grid2.coords t)).toNat = ident (cs m) (rs m) t.val := by
  have h : (cellAt m (grid2.coords t)).toNat = ident (cs m) (rs m) t.val := by
    rw [cellAt_toNat, item_coords]
    rfl
  exact h

theorem first_at (t : Fin (cfg2 (adm0 m)).N) : Scalar.cmpi .sgt (Mlp.firstW (adm0 m) (grid2.coords t)) 0#32 = 1#1 ↔ (rs m t.val % 256 = 0 ∧ rs m t.val < 32768) := by
  have e : Mlp.firstW (adm0 m) (grid2.coords t) = if rs m t.val % 256 = 0 ∧ rs m t.val < 32768 then 1#32 else 0#32 := by
    have h := firstOf_eq m (grid2.coords t)
    rw [item_coords m t] at h
    exact h
  rw [e]
  by_cases h : rs m t.val % 256 = 0 ∧ rs m t.val < 32768
  · rw [if_pos h]; exact iff_of_true (by decide) h
  · rw [if_neg h]; exact iff_of_false (by decide) h

theorem row_val (t : Fin (cfg2 (adm0 m)).N) (N : Net) (p : Fin 256) (k : Fin 8) :
    rowVal N (fun j => (Mlp.iblk (adm0 m) (W2 m) 0 0 t : S256x63.Idx → EReal) (ix2 p j)) (fun j => (Mlp.iblk (adm0 m) (W2 m) 0 1 t : S256x27.Idx → EReal) (ix2 p j)) k
      = rowVal N (posEnc fun j => X0 m 0 (ix2 (ord (K0 m 0) ⟨tile (rs m) t.val * 256 + p.val, tile_row m _ p⟩) j)) (dirEnc fun j => X1 m 0 (ix2 (ord (K0 m 0) ⟨tile (rs m) t.val * 256 + p.val, tile_row m _ p⟩) j)) k := by
  congr 1
  · funext j
    exact (iblk0 m (W2 m) 0 t p j).trans (ValueEnc.pos_rows 0 m _ j)
  · funext j
    exact (iblk1 m (W2 m) 0 t p j).trans (ValueEnc.dir_rows 0 m _ j)

/-- One point's change to the output buffer. -/
theorem step (t : Fin (cfg2 (adm0 m)).N) (old : Vec Ideal S256x8 .f32) (p : Fin 256) (k : Fin 8) :
    Mlp.upd (adm0 m) (W2 m) 0 t old (ix2 p k)
      = if (rs m t.val % 256 ≤ p.val ∧ p.val < ending (rs m) t.val) ∧ ident (cs m) (rs m) t.val < 4096
          then valAt m k (ident (cs m) (rs m) t.val) (tile (rs m) t.val * 256 + p.val)
        else if rs m t.val % 256 = 0 ∧ rs m t.val < 32768 then 0 else old (ix2 p k) := by
  have hs := starts_at m t
  have he := ends_at m t
  have hq := cell_at m t
  have hs' : (Mlp.startW (adm0 m) (grid2.coords t)).toNat < 2 ^ 31 := by omega
  have he' : (Mlp.endW (adm0 m) (grid2.coords t)).toNat < 2 ^ 31 := by
    rw [he]; unfold ending; split <;> omega
  have hq' : (Mlp.cellW (adm0 m) (grid2.coords t)).toNat < 2 ^ 31 := by
    rw [hq]; have : ident (cs m) (rs m) t.val ≤ 4096 := (segs0 m 0).le _ (by omega); omega
  unfold Mlp.upd
  by_cases hl : Mlp.live (adm0 m) (grid2.coords t)
  · rw [if_pos hl]
    refine (val_ap _ _ _ _ (packed_at m t) (fun r q => rfl) p _ _ _ _ hs' he' hq' old k).trans ?_
    rw [hs, he, hq, row_val]
    have e : ∀ x y : EReal, (if Scalar.cmpi .sgt (Mlp.firstW (adm0 m) (grid2.coords t)) 0#32 = 1#1 then x else y)
        = if rs m t.val % 256 = 0 ∧ rs m t.val < 32768 then x else y := fun x y => if_congr (first_at m t) rfl rfl
    rw [e]
    unfold valAt
    rw [dif_pos (tile_row m t.val p)]
  · rw [if_neg hl]
    obtain ⟨h1, h2⟩ := not_live _ _ _ _ hs' he' hq' hl
    rw [hs, he, hq] at h1
    rw [first_at] at h2
    rw [if_neg (fun x => by rcases h1 with h | h; exacts [h (lt_of_le_of_lt x.1.1 x.1.2), h x.2]), if_neg h2]

/-- The output buffer after a point, at a row its tile's items have reached. -/
theorem traj_ap (t : ℕ) (ht : t < 4225) (p : Fin 256) (k : Fin 8) :
    Mlp.traj (adm0 m) (W2 m) 0 t (ix2 p k)
      = if tile (rs m) t * 256 + p.val < rs m (t + 1) ∧ cs m (tile (rs m) t * 256 + p.val) < 4096
          then valAt m k (cs m (tile (rs m) t * 256 + p.val)) (tile (rs m) t * 256 + p.val) else 0 := by
  have e : (if h : p.val < 256 then Mlp.traj (adm0 m) (W2 m) 0 t (ix2 (⟨p.val, h⟩ : Fin 256) k) else 0) = Mlp.traj (adm0 m) (W2 m) 0 t (ix2 p k) := dif_pos p.isLt
  refine e.symm.trans ?_
  refine (segs0 m 0).fill (0 : EReal) (valAt m k)
    (fun t r => if h : r < 256 then Mlp.traj (adm0 m) (W2 m) 0 t (ix2 (⟨r, h⟩ : Fin 256) k) else 0)
    (fun t r => if h : r < 256 then Mlp.prev (adm0 m) (W2 m) 0 t (ix2 (⟨r, h⟩ : Fin 256) k) else 0)
    (fun _ _ => rfl) (fun t ht r hr => ?_) t ht p.val p.isLt
  rw [dif_pos hr, dif_pos hr]
  exact (congrFun (Mlp.traj_eq (adm0 m) (W2 m) 0 ⟨t, ht⟩) _).trans (step m ⟨t, ht⟩ _ _ k)

end Cert.ValueMlp
-- ==== Proof.Value.MlpValue.lean ====
module

public import proofs.«01_k».proof.Proof.Value.MlpTraj
public import proofs.«01_k».proof.Proof.KernelIdeal.Frame
public import Idealize.ShloMosaic.Lib.Pipeline.Covers

@[expose] public section

set_option maxRecDepth 16384

noncomputable section

namespace Cert.ValueMlp

open Idealize.ShloMosaic Idealize.ShloMosaic.TcCoe Idealize.ShloMosaic.Pipeline Idealize.SL.Sem
open Cert.KernelIdeal.Gen Cert.KernelIdeal.Run Cert.HostKernelIdeal Cert.Net Cert.Spec Cert.Seg Cert.Words
open Cert.KernelIdeal hiding ix2

variable (m : (ℓ : Loc nD τ sig) → Buf (Elt Ideal) ℓ)

/-- A row of the table the third region leaves. -/
def rowOut (p : Fin 32768) (k : Fin 8) : EReal := if cs m p.val < 4096 then valAt m k (cs m p.val) p.val else 0

theorem flush_last (t : Fin (cfg2 (adm0 m)).N) (h : ((cfg2 (adm0 m)).win 3).flush t = true) : t.val = 4224 ∨ tile (rs m) t.val ≠ tile (rs m) (t.val + 1) := by
  have ht : t.val < 4225 := t.isLt
  unfold Pipeline.Window.flush at h
  rw [Bool.and_eq_true, Bool.or_eq_true, decide_eq_true_iff, decide_eq_true_iff] at h
  rcases h.2 with h1 | ⟨h1, h2⟩
  · left
    have : t.val + 1 = 4225 := h1
    omega
  · right
    intro e
    apply h2
    rw [index3, index3]
    show ![tile (rs m) (t.val + 1), 0] = ![tile (rs m) t.val, 0]
    rw [e]

theorem covers3 : ((cfg2 (adm0 m)).win 3).Covers := by
  have hs : ∀ a : Fin 2, 0 < ![256, 8] a := by decide
  refine ((cfg2 (adm0 m)).win 3).covers_of_index_surj rfl hs fun β => ?_
  have h0 : (β (0 : Fin 2)).val < 128 := lt_of_lt_of_eq (β (0 : Fin 2)).isLt (show (32768 + 256 - 1) / 256 = 128 from rfl)
  have h1 : (β (1 : Fin 2)).val < 1 := lt_of_lt_of_eq (β (1 : Fin 2)).isLt (show (8 + 8 - 1) / 8 = 1 from rfl)
  obtain ⟨t, ht, e⟩ := (segs0 m 0).tile_surj (β (0 : Fin 2)).val h0
  refine ⟨⟨t, ht⟩, fun a => ?_⟩
  rw [index3]
  match a with
  | ⟨0, _⟩ => exact e
  | ⟨1, _⟩ => show 0 = (β (1 : Fin 2)).val; omega

theorem arr3 (p : Fin 32768) (k : Fin 8) :
    ((Mlp.dat (adm0 m) (W2 m) 0).arrAt 3 (cfg2 (adm0 m)).N : S32768x8.Idx → EReal) (ix2 p k) = rowOut m p k := by
  have h := Dat.arrAt_eq_of_covers (dat := Mlp.dat (adm0 m) (W2 m) 0) 3
    (fun i : S32768x8.Idx => rowOut m (i (0 : Fin 2) : Fin 32768) (i (1 : Fin 2) : Fin 8)) (covers3 m) fun t hf y => ?_
  · exact congrFun h (ix2 p k)
  · obtain ⟨a, i, rfl⟩ : ∃ (a : Fin 256) (i : Fin 8), y = ix2 a i := ⟨y (0 : Fin 2), y (1 : Fin 2), funext fun b => match b with | ⟨0, _⟩ => rfl | ⟨1, _⟩ => rfl⟩
    have ht : t.val < 4225 := t.isLt
    have b0 : ((((cfg2 (adm0 m)).win 3).blk t).view.emb (ix2 a i) (0 : Fin 2) : Fin 32768) = ⟨tile (rs m) t.val * 256 + a.val, tile_row m _ a⟩ := by
      refine Fin.ext ?_
      refine (Window.rect_emb_val ((cfg2 (adm0 m)).win 3) t (ix2 a i) (0 : Fin 2)).trans ?_
      rw [index3 m t]
      rfl
    have b1 : ((((cfg2 (adm0 m)).win 3).blk t).view.emb (ix2 a i) (1 : Fin 2) : Fin 8) = i := by
      refine Fin.ext ?_
      refine (Window.rect_emb_val ((cfg2 (adm0 m)).win 3) t (ix2 a i) (1 : Fin 2)).trans ?_
      rw [index3 m t]
      exact (congrArg (· + i.val) (Nat.zero_mul _)).trans (Nat.zero_add _)
    refine (traj_ap m t.val ht a i).trans ?_
    refine Eq.trans ?_ (congrArg₂ (rowOut m) b0 b1).symm
    have hr := (segs0 m 0).tile_end t.val ht a.val a.isLt (flush_last m t hf)
    unfold rowOut
    exact if_congr (and_iff_right hr) rfl rfl

/-- The rows of the network's results, in the order of the cells. -/
theorem v103 (p : Fin 32768) (k : Fin 8) :
    (V21 m (outs0 m) 0 (Proc.devRef .tc main_v103) : S32768x8.Idx → EReal) (ix2 p k) = rowOut m p k := by
  have e : (V21 m (outs0 m) 0 (Proc.devRef .tc main_v103) : S32768x8.Idx → EReal) = (Mlp.dat (adm0 m) (W2 m) 0).arrAt 3 (cfg2 (adm0 m)).N :=
    (congrFun (after2 m (tabs_ok m) 0) (Proc.devRef .tc main_v103)).symm.trans (afterRegion_arr (Mlp.dat (adm0 m) (W2 m) 0) (W2 m 0) arr_inj2 3)
  exact (congrFun e (ix2 p k)).trans (arr3 m p k)

end Cert.ValueMlp
-- ==== Proof.Value.Rows.lean ====
module

public import Idealize.ShloMosaic.Lib.Routing.Ops
public import Idealize.ShloMosaic.Lib.Routing.OpsSet
public import Idealize.ShloMosaic.Lib.Routing.OpsPair
public import Idealize.ShloMosaic.Lib.Pointwise

@[expose] public section

/-! A scatter of whole rows through a permutation of the rows. -/

namespace Cert.Rows

open Idealize.ShloMosaic Idealize.ShloMosaic.Routing

variable {R C : ℕ}

/-- Row `i` of the updates lands at the row its word names, column for column. -/
theorem lands_row (wf : ScatterDims.WF ⟨2, ![R, C]⟩ ⟨2, ![R, 1]⟩ ⟨2, ![R, C]⟩ [1] [0] [0] 1) (idx : IVec ⟨2, ![R, 1]⟩ 32) (i r : Fin R) (j k : Fin C) :
    (⟨[1], [0], [0], 1, wf⟩ : ScatterDims ⟨2, ![R, C]⟩ ⟨2, ![R, 1]⟩ ⟨2, ![R, C]⟩).resultIdx? (ix2 i j) idx = some (ix2 r k)
      ↔ (idx (ix2 i (0 : Fin 1))).toInt = (r.val : Int) ∧ j = k := by
  set d : ScatterDims ⟨2, ![R, C]⟩ ⟨2, ![R, 1]⟩ ⟨2, ![R, C]⟩ := ⟨[1], [0], [0], 1, wf⟩ with hd
  have hm : (0 : Fin 2) ∈ d.scatterDimsToOperandDims := List.mem_singleton.2 rfl
  have hs : d.siIdx (ix2 i j) ⟨d.scatterDimsToOperandDims.idxOf 0, List.idxOf_lt_length_iff.2 hm⟩ = ix2 i (0 : Fin 1) := by
    funext q
    match q with
    | ⟨0, _⟩ => rfl
    | ⟨1, _⟩ => rfl
  have s0 : d.start (ix2 i j) idx 0 = (idx (ix2 i (0 : Fin 1))).toInt := by
    unfold ScatterDims.start
    rw [dif_pos hm, hs]
  have s1 : d.start (ix2 i j) idx 1 = 0 := rfl
  have w0 : d.window (ix2 i j) 0 = 0 := rfl
  have w1 : d.window (ix2 i j) 1 = j.val := rfl
  refine (resultIdx?_ix2 d (ix2 i j) idx r k).trans ?_
  rw [s0, s1, w0, w1, Fin.ext_iff]
  omega

/-- Scattering rows through a permutation puts each where it belongs. -/
theorem scatter_rows {α : Type} (wf : ScatterDims.WF ⟨2, ![R, C]⟩ ⟨2, ![R, 1]⟩ ⟨2, ![R, C]⟩ [1] [0] [0] 1) (x0 : (⟨2, ![R, C]⟩ : Shape).Idx → α)
    (idx : IVec ⟨2, ![R, 1]⟩ 32) (upd : (⟨2, ![R, C]⟩ : Shape).Idx → α) (g : Fin R → Fin R) (hg : Function.Injective g) (hR : R < 2 ^ 31)
    (hi : ∀ i : Fin R, idx (ix2 i (0 : Fin 1)) = BitVec.ofNat 32 (g i).val) (i : Fin R) (k : Fin C) :
    Host.scatter (⟨[1], [0], [0], 1, wf⟩ : ScatterDims ⟨2, ![R, C]⟩ ⟨2, ![R, 1]⟩ ⟨2, ![R, C]⟩) (fun _ b => b) x0 idx upd (ix2 (g i) k) = upd (ix2 i k) := by
  have e : ∀ i : Fin R, (idx (ix2 i (0 : Fin 1))).toInt = ((g i).val : Int) := fun i => by
    rw [hi]
    exact StableHlo.Predicate.toInt_ofNat_small _ (by have := (g i).isLt; omega)
  refine scatter_set_hit _ x0 idx upd (ix2 (g i) k) (upd (ix2 i k)) (fun q hq => ?_) (ix2 i k) ((lands_row wf idx i (g i) k k).2 ⟨e i, rfl⟩)
  obtain ⟨a, b, rfl⟩ : ∃ (a : Fin R) (b : Fin C), q = ix2 a b := ⟨q 0, q 1, funext fun b => match b with | ⟨0, _⟩ => rfl | ⟨1, _⟩ => rfl⟩
  obtain ⟨h1, rfl⟩ := (lands_row wf idx a (g i) b k).1 hq
  rw [e] at h1
  have : a = i := hg (Fin.ext (by omega))
  rw [this]

end Cert.Rows
-- ==== Proof.Value.KernelOut.lean ====
module

public import proofs.«01_k».proof.Proof.Value.MlpValue
public import proofs.«01_k».proof.Proof.Value.Rows
public import Idealize.ShloMosaic.Lib.StableHlo.Run
public import Idealize.ShloMosaic.Lib.Pointwise

@[expose] public section

set_option maxRecDepth 16384

noncomputable section

namespace Cert.ValueOut

open Idealize.ShloMosaic Idealize.ShloMosaic.TcCoe Idealize.ShloMosaic.StableHlo Idealize.SL.Sem
open Cert.KernelIdeal.Gen Cert.KernelIdeal.Run Cert.HostKernelIdeal Cert.Words Cert.ValueMlp
open Cert.KernelIdeal hiding ix2

section
variable (V : Valuation τ sig (Elt Ideal))

/-- The rows put back in their places. -/
def back (o : IVec S32768 32) (u : S32768x8.Idx → EReal) : S32768x8.Idx → EReal :=
  Host.scatter scatter_S32768x8_S32768x1_S32768x8_1_0_0_1 (fun _ b => b) (broadcastInDim S32768x8 ![] bcast_S_S32768x8 (constant (F := Ideal) S_ .f32 0x00000000#32))
    (broadcastInDim S32768x1 ![0] bcast_S32768_S32768x1_0 o) u

theorem r112 (g : Fin 32768 → Fin 32768) (h : V main_v48_1 = fun j => BitVec.ofNat 32 (g (j 0)).val) :
    after hostOps3 V main_v112 = extractStridedSlice S32768x3 ![0, 0] (back (fun j => BitVec.ofNat 32 (g (j 0)).val) (V main_v103)) slices_S32768x8_S32768x3_0_0 := by
  after_results
  rw [wrap_small _ _ _ (by rfl) g h, h]
  rfl

theorem r113 (g : Fin 32768 → Fin 32768) (h : V main_v48_1 = fun j => BitVec.ofNat 32 (g (j 0)).val) :
    after hostOps3 V main_v113 = extractStridedSlice S32768x1 ![0, 3] (back (fun j => BitVec.ofNat 32 (g (j 0)).val) (V main_v103)) slices_S32768x8_S32768x1_0_3 := by
  after_results
  rw [wrap_small _ _ _ (by rfl) g h, h]
  rfl

theorem back_ap (g : Fin 32768 → Fin 32768) (hg : Function.Injective g) (u : S32768x8.Idx → EReal) (p : Fin 32768) (k : Fin 8) :
    back (fun j => BitVec.ofNat 32 (g (j 0)).val) u (ix2 (g p) k) = u (ix2 p k) :=
  Rows.scatter_rows scatter_S32768x8_S32768x1_S32768x8_1_0_0_1_wf _ _ u g hg (by decide) (fun i => by pointwise) p k

end

variable (m : (ℓ : Loc nD τ sig) → Buf (Elt Ideal) ℓ)

theorem v48_21 (outs : Outs (F := Ideal)) (c : Dev nD) : V21 m outs c main_v48_1 = fun j => BitVec.ofNat 32 (ord (K0 m c) (j 0)).val :=
  (V21_of m outs c main_v48_1 (by decide)).trans <| (V20_of m outs c main_v48_1 (by decide)).trans <| (V19_of m outs c main_v48_1 (by decide)).trans <| (V18_of m outs c main_v48_1 (by decide)).trans <| (V17_of m outs c main_v48_1 (by decide)).trans <| (V16_of m outs c main_v48_1 (by decide)).trans <| (V15_of m outs c main_v48_1 (by decide)).trans <| (V14_of m outs c main_v48_1 (by decide)).trans <| (V13_of m outs c main_v48_1 (by decide)).trans <| (V12_of m outs c main_v48_1 (by decide)).trans <| (V11_of m outs c main_v48_1 (by decide)).trans <| (V10_of m outs c main_v48_1 (by decide)).trans <| (V9_of m outs c main_v48_1 (by decide)).trans <| (V8_of m outs c main_v48_1 (by decide)).trans (v48_1 m outs c)

/-- The first result at a point, by its row in the order of the cells. -/
theorem color_row (p : Fin 32768) (k : Fin 3) :
    (V22 m (outs0 m) 0 (Proc.devRef .tc main_v112) : S32768x3.Idx → EReal) (ix2 (ord (K0 m 0) p) k) = rowOut m p ⟨k.val, by omega⟩ := by
  refine (congrFun (r112 (V21 m (outs0 m) 0) (ord (K0 m 0)) (v48_21 m (outs0 m) 0)) _).trans ?_
  refine Eq.trans ?_ (back_ap (ord (K0 m 0)) (orderOf_bij (K0 m 0)).1 _ p ⟨k.val, by omega⟩ |>.trans (v103 m p ⟨k.val, by omega⟩))
  pointwise

/-- The second. -/
theorem density_row (p : Fin 32768) :
    (V22 m (outs0 m) 0 (Proc.devRef .tc main_v113) : S32768x1.Idx → EReal) (ix2 (ord (K0 m 0) p) 0) = rowOut m p 3 := by
  refine (congrFun (r113 (V21 m (outs0 m) 0) (ord (K0 m 0)) (v48_21 m (outs0 m) 0)) _).trans ?_
  refine Eq.trans ?_ (back_ap (ord (K0 m 0)) (orderOf_bij (K0 m 0)).1 _ p 3 |>.trans (v103 m p 3))
  pointwise

end Cert.ValueOut
-- ==== Proof.Value.KernelAt.lean ====
module

public import proofs.«01_k».proof.Proof.Value.KernelOut

@[expose] public section

set_option maxRecDepth 16384

noncomputable section

namespace Cert.ValueOut

open Idealize.ShloMosaic Idealize.ShloMosaic.TcCoe Idealize.ShloMosaic.StableHlo Idealize.SL.Sem
open Cert.KernelIdeal.Gen Cert.KernelIdeal.Run Cert.HostKernelIdeal Cert.Words Cert.ValueMlp Cert.Net Cert.Spec
open Cert.KernelIdeal hiding ix2

/-- A coordinate of a point's cell. -/
def clipped (X : FVec Ideal S32768x3 .f32) (q : Fin 32768) (k : Fin 3) : BitVec 32 := IntOp.minsi 15#32 (IntOp.maxsi 0#32 (coords X (ix2 q k)))

theorem clipped_le (X : FVec Ideal S32768x3 .f32) (q : Fin 32768) (k : Fin 3) : (clipped X q k).toNat ≤ 15 := clip_le _

def cellAxis (X : FVec Ideal S32768x3 .f32) (q : Fin 32768) (k : Fin 3) : Fin 16 := ⟨(clipped X q k).toNat, Nat.lt_succ_of_le (clipped_le X q k)⟩

variable (m : (ℓ : Loc nD τ sig) → Buf (Elt Ideal) ℓ)

theorem netAt_flat (a b c : Fin 16) (n : ℕ) (h : n = (a.val * 16 + b.val) * 16 + c.val) : netAt m n = (ValuePack.weights m 0).net a b c := by
  have ha := a.isLt
  have hb := b.isLt
  have hc := c.isLt
  have e1 : (⟨min n 4095 / 256, by omega⟩ : Fin 16) = a := Fin.ext (by show min n 4095 / 256 = a.val; omega)
  have e2 : (⟨min n 4095 / 16 % 16, by omega⟩ : Fin 16) = b := Fin.ext (by show min n 4095 / 16 % 16 = b.val; omega)
  have e3 : (⟨min n 4095 % 16, by omega⟩ : Fin 16) = c := Fin.ext (by show min n 4095 % 16 = c.val; omega)
  unfold netAt
  rw [e1, e2, e3]

/-- What the kernel leaves for the point `q`. -/
def kernelRow (q : Fin 32768) (k : Fin 8) : EReal :=
  Scalar.select (inBox (X0 m 0) (ix1 q))
    (rowVal ((ValuePack.weights m 0).net (cellAxis (X0 m 0) q 0) (cellAxis (X0 m 0) q 1) (cellAxis (X0 m 0) q 2))
      (posEnc fun j => X0 m 0 (ix2 q j)) (dirEnc fun j => X1 m 0 (ix2 q j)) k) 0

theorem rowOut_eq (p : Fin 32768) (k : Fin 8) : rowOut m p k = kernelRow m (ord (K0 m 0) p) k := by
  have ec : cs m p.val = (K0 m 0 (ix1 (ord (K0 m 0) p))).toNat := csN_of (K0 m 0) p
  have ek : K0 m 0 (ix1 (ord (K0 m 0) p)) = Scalar.select (inBox (X0 m 0) (ix1 (ord (K0 m 0) p)))
      (cellOf (clipped (X0 m 0) (ord (K0 m 0) p) 0) (clipped (X0 m 0) (ord (K0 m 0) p) 1) (clipped (X0 m 0) (ord (K0 m 0) p) 2)) 4096#32 := rfl
  unfold rowOut kernelRow
  rw [ec, ek, select_ite, select_ite]
  by_cases h : inBox (X0 m 0) (ix1 (ord (K0 m 0) p)) = 1#1
  · have hf := cellOf_toNat _ _ _ (clipped_le (X0 m 0) (ord (K0 m 0) p) 0) (clipped_le (X0 m 0) (ord (K0 m 0) p) 1) (clipped_le (X0 m 0) (ord (K0 m 0) p) 2)
    have h0 := clipped_le (X0 m 0) (ord (K0 m 0) p) 0
    have h1 := clipped_le (X0 m 0) (ord (K0 m 0) p) 1
    have h2 := clipped_le (X0 m 0) (ord (K0 m 0) p) 2
    rw [if_pos h, if_pos h, if_pos (by omega)]
    unfold valAt
    rw [dif_pos p.isLt, netAt_flat m (cellAxis (X0 m 0) (ord (K0 m 0) p) 0) (cellAxis (X0 m 0) (ord (K0 m 0) p) 1) (cellAxis (X0 m 0) (ord (K0 m 0) p) 2) _ hf]
  · rw [if_neg h, if_neg h, if_neg (by decide)]

theorem color_at (q : Fin 32768) (k : Fin 3) :
    (V22 m (outs0 m) 0 (Proc.devRef .tc main_v112) : S32768x3.Idx → EReal) (ix2 q k) = kernelRow m q ⟨k.val, by omega⟩ := by
  obtain ⟨p, rfl⟩ := (orderOf_bij (K0 m 0)).2 q
  exact (color_row m p k).trans (rowOut_eq m p _)

theorem density_at (q : Fin 32768) :
    (V22 m (outs0 m) 0 (Proc.devRef .tc main_v113) : S32768x1.Idx → EReal) (ix2 q 0) = kernelRow m q 3 := by
  obtain ⟨p, rfl⟩ := (orderOf_bij (K0 m 0)).2 q
  exact (density_row m p).trans (rowOut_eq m p _)

end Cert.ValueOut
-- ==== Proof.Value.RefEnc.lean ====
module

public import proofs.«01_k».proof.Proof.Gen.ReferenceIdeal.Run
public import proofs.«01_k».proof.Proof.Value.Encode
public import Idealize.ShloMosaic.Lib.Pipeline.Value
public import Idealize.ShloMosaic.Lib.Pointwise

@[expose] public section

noncomputable section

namespace Cert.RefValue

open Cert.ReferenceIdeal Cert.ReferenceIdeal.Gen Cert.ReferenceIdeal.Value Cert.Encode
open Idealize.ShloMosaic Idealize.ShloMosaic.TcCoe Idealize.SL.Sem Idealize.ShloMosaic.StableHlo

/-- Piece `g` of an encoding, three columns wide. -/
def piece (X : FVec Ideal S32768x3 .f32) (g : ℕ) : FVec Ideal S32768x3 .f32 :=
  if g = 0 then X
  else if g % 2 = 1 then
    Host.sin (mulf (broadcastInDim S32768x3 ![] bcast_S_S32768x3 (constant S_ .f32 (BitVec.ofNat 32 (((g + 1) / 2 + 126) * 8388608)))) X)
  else Host.cos (mulf (broadcastInDim S32768x3 ![] bcast_S_S32768x3 (constant S_ .f32 (BitVec.ofNat 32 (((g + 1) / 2 + 126) * 8388608)))) X)

theorem scaled_ap (X : FVec Ideal S32768x3 .f32) (b : BitVec 32) (p : Fin 32768) (r : Fin 3) :
    mulf (broadcastInDim S32768x3 ![] bcast_S_S32768x3 (constant S_ .f32 b)) X (ix2 p r) = X (ix2 p r) * Ideal.ofBits .f32 b :=
  mul_comm (Ideal.ofBits .f32 b) (X (ix2 p r))

theorem sin_ap (X : FVec Ideal S32768x3 .f32) (b : BitVec 32) (p : Fin 32768) (r : Fin 3) :
    Host.sin (mulf (broadcastInDim S32768x3 ![] bcast_S_S32768x3 (constant S_ .f32 b)) X) (ix2 p r) = Ideal.sin (X (ix2 p r) * Ideal.ofBits .f32 b) := by
  rw [← scaled_ap]; rfl

theorem cos_ap (X : FVec Ideal S32768x3 .f32) (b : BitVec 32) (p : Fin 32768) (r : Fin 3) :
    Host.cos (mulf (broadcastInDim S32768x3 ![] bcast_S_S32768x3 (constant S_ .f32 b)) X) (ix2 p r) = Ideal.cos (X (ix2 p r) * Ideal.ofBits .f32 b) := by
  rw [← scaled_ap]; rfl

theorem piece_ap (X : FVec Ideal S32768x3 .f32) (g : ℕ) (p : Fin 32768) (r : Fin 3) :
    piece X g (ix2 p r) = enc (fun j => X (ix2 p j)) (3 * g + r.val) := by
  have e : (⟨(3 * g + r.val) % 3, Nat.mod_lt _ (by decide)⟩ : Fin 3) = r := Fin.ext (by show (3 * g + r.val) % 3 = r.val; omega)
  have h6 : (3 * g + r.val + 3) / 6 = (g + 1) / 2 := by omega
  unfold piece enc scale
  rw [e, h6]
  generalize BitVec.ofNat 32 (((g + 1) / 2 + 126) * 8388608) = b
  by_cases h0 : g = 0
  · rw [if_pos h0, if_pos (show 3 * g + r.val < 3 by omega)]
  · rw [if_neg h0, if_neg (show ¬ 3 * g + r.val < 3 by omega)]
    by_cases h1 : g % 2 = 1
    · rw [if_pos h1, if_pos (show (3 * g + r.val + 3) % 6 < 3 by omega), sin_ap]
    · rw [if_neg h1, if_neg (show ¬ (3 * g + r.val + 3) % 6 < 3 by omega), cos_ap]

theorem pieces_ap (X : FVec Ideal S32768x3 .f32) (b n w : ℕ)
    (h : Shape.Concatenates ((List.ofFn fun g : Fin n => (⟨S32768x3, piece X (b + g.val)⟩ : (s : Shape) × (s.Idx → EReal))).map (·.1)) ⟨2, ![32768, w]⟩ 1)
    (p : Fin 32768) (k : Fin w) (hk : k.val / 3 < n) :
    concatenate ⟨2, ![32768, w]⟩ 1 (List.ofFn fun g : Fin n => (⟨S32768x3, piece X (b + g.val)⟩ : (s : Shape) × (s.Idx → EReal))) h (ix2 p k)
      = enc (fun j => X (ix2 p j)) (3 * b + k.val) := by
  rw [concatenate_ofFn_apply 1 (fun g : Fin n => piece X (b + g.val)) h rfl 3 rfl (ix2 p k) ⟨k.val / 3, hk⟩ rfl
    (ix2 p (⟨k.val % 3, Nat.mod_lt _ (by decide)⟩ : Fin 3)) rfl
    (fun b hb => by
      match b with
      | ⟨0, _⟩ => rfl
      | ⟨1, _⟩ => exact absurd rfl hb), piece_ap]
  congr 1
  show 3 * (b + k.val / 3) + k.val % 3 = _
  omega

/-- The printed encoding of the positions. -/
theorem v79_ap (V0 : Valuation τ sig (Elt Ideal)) (p : Fin 32768) (k : Fin 63) :
    (res_main_v79 V0 : FVec Ideal S32768x63 .f32) (ix2 p k)
      = enc (fun j => (V0 (Proc.devRef .tc main_arg0) : FVec Ideal S32768x3 .f32) (ix2 p j)) k.val := by
  unfold res_main_v79
  generalize V0 (Proc.devRef .tc main_arg0) = X
  by_cases h : k.val < 48
  · refine (concatenate_pair_apply_left (s₁ := S32768x48) (s₂ := S32768x15) (t := S32768x63) 1 _ _ _ (ix2 p k) rfl
      (ix2 p (⟨k.val, h⟩ : Fin 48)) (fun b => by
      match b with
      | ⟨0, _⟩ => rfl
      | ⟨1, _⟩ => rfl)).trans ?_
    refine (pieces_ap X 0 16 48 concatenates_S32768x3_S32768x3_S32768x3_S32768x3_S32768x3_S32768x3_S32768x3_S32768x3_S32768x3_S32768x3_S32768x3_S32768x3_S32768x3_S32768x3_S32768x3_S32768x3_S32768x48_d1 p ⟨k.val, h⟩ (by show k.val / 3 < 16; omega)).trans ?_
    rw [Nat.mul_zero, Nat.zero_add]
  · have hk : k.val - 48 < 15 := by omega
    refine (concatenate_pair_apply_right (s₁ := S32768x48) (s₂ := S32768x15) (t := S32768x63) 1 _ _ _ (ix2 p k) rfl rfl
      (ix2 p (⟨k.val - 48, hk⟩ : Fin 15)) (fun b hb => by
      match b with
      | ⟨0, _⟩ => rfl
      | ⟨1, _⟩ => exact absurd rfl hb) (by show k.val - 48 + 48 = k.val; omega)).trans ?_
    refine (pieces_ap X 16 5 15 concatenates_S32768x3_S32768x3_S32768x3_S32768x3_S32768x3_S32768x15_d1 p ⟨k.val - 48, hk⟩ (by show (k.val - 48) / 3 < 5; omega)).trans ?_
    have e : 3 * 16 + (k.val - 48) = k.val := by omega
    exact congrArg _ e

end Cert.RefValue
-- ==== Proof.Value.RefCell.lean ====
module

public import proofs.«01_k».proof.Proof.Value.Spec
public import proofs.«01_k».proof.Proof.Value.RefEnc
public import proofs.«01_k».proof.Proof.KernelIdeal.Items

@[expose] public section

noncomputable section

namespace Cert.RefValue

open Cert.ReferenceIdeal Cert.ReferenceIdeal.Gen Cert.ReferenceIdeal.Value Cert.Encode Cert.Cells Cert.Net Cert.Words
open Idealize.ShloMosaic Idealize.ShloMosaic.TcCoe Idealize.SL.Sem Idealize.ShloMosaic.StableHlo

variable (V0 : Valuation τ sig (Elt Ideal))

/-- The positions, the directions and the weights. -/
def pts : FVec Ideal S32768x3 .f32 := V0 (Proc.devRef .tc main_arg0)
def drs : FVec Ideal S32768x3 .f32 := V0 (Proc.devRef .tc main_arg1)
def weights : Spec.Weights where
  w1 := V0 (Proc.devRef .tc main_arg2)
  b1 := V0 (Proc.devRef .tc main_arg3)
  w2 := V0 (Proc.devRef .tc main_arg4)
  b2 := V0 (Proc.devRef .tc main_arg5)
  w3 := V0 (Proc.devRef .tc main_arg6)
  b3 := V0 (Proc.devRef .tc main_arg7)
  w4 := V0 (Proc.devRef .tc main_arg8)
  b4 := V0 (Proc.devRef .tc main_arg9)
  w5 := V0 (Proc.devRef .tc main_arg10)
  b5 := V0 (Proc.devRef .tc main_arg11)

/-- A coordinate as an index of a table: a negative one counts from the end. -/
def wrap (v : IVec S32768 32) : IVec S32768x1 32 :=
  broadcastInDim S32768x1 ![0] bcast_S32768_S32768x1_0 (select (cmpi .slt v (broadcastInDim S32768 ![] bcast_S_S32768 (constantI S_ 32 0#32)))
    (addi v (broadcastInDim S32768 ![] bcast_S_S32768 (constantI S_ 32 16#32))) v)

/-- The indices that the weights are gathered at. -/
def cellIdx : IVec S32768x3 32 :=
  concatenate S32768x3 1 [⟨S32768x1, wrap (res_main_v114 V0)⟩, ⟨S32768x1, wrap (res_main_v116 V0)⟩, ⟨S32768x1, wrap (res_main_v118 V0)⟩]
    concatenates_S32768x1_S32768x1_S32768x1_S32768x3_d1

/-- The encoding of the directions. -/
def dirs : FVec Ideal S32768x27 .f32 :=
  concatenate ⟨2, ![32768, 27]⟩ 1 (List.ofFn fun g : Fin 9 => (⟨S32768x3, piece (drs V0) (0 + g.val)⟩ : (s : Shape) × (s.Idx → EReal)))
    concatenates_S32768x3_S32768x3_S32768x3_S32768x3_S32768x3_S32768x3_S32768x3_S32768x3_S32768x3_S32768x27_d1

theorem dirs_ap (p : Fin 32768) (k : Fin 27) : dirs V0 (ix2 p k) = enc (fun j => drs V0 (ix2 p j)) k.val := by
  unfold dirs
  refine (pieces_ap (drs V0) 0 9 27 _ p k (by omega)).trans ?_
  rw [Nat.mul_zero, Nat.zero_add]

theorem pos_ap (p : Fin 32768) (k : Fin 63) :
    (res_main_v79 V0 : FVec Ideal S32768x63 .f32) (ix2 p k) = enc (fun j => pts V0 (ix2 p j)) k.val := v79_ap V0 p k

/-! ## The cell of a point -/

/-- The coordinates of a point's cell. -/
def cellWords : IVec S32768x3 32 := res_main_v112 V0

theorem cellWords_le (p : Fin 32768) (k : Fin 3) : (cellWords V0 (ix2 p k)).toNat ≤ 15 :=
  HostKernelIdeal.clip_le _

def cell (p : Fin 32768) (k : Fin 3) : Fin 16 := ⟨(cellWords V0 (ix2 p k)).toNat, Nat.lt_succ_of_le (cellWords_le V0 p k)⟩

theorem wrap_ap (v : IVec S32768 32) (p : Fin 32768) (h : (v (ix1 p)).toNat ≤ 15) : wrap v (ix2 p 0) = v (ix1 p) := by
  pointwise [wrap]
  rw [select_ite]
  refine if_neg (fun e => ?_)
  have e' := (slt_iff _ _ (by omega) (by decide)).1 e
  exact Nat.not_lt_zero _ e'

theorem idx0 (p : Fin 32768) : (cellIdx V0 (ix2 p (0 : Fin 3))).toNat = (cell V0 p 0).val := by
  have h : (res_main_v114 V0 : IVec S32768 32) (ix1 p) = cellWords V0 (ix2 p 0) := HostKernelIdeal.col_ap (cellWords V0) 0 (by decide) _ p
  have e : cellIdx V0 (ix2 p 0) = wrap (res_main_v114 V0) (ix2 p 0) := by
    pointwise [cellIdx]
  rw [e, wrap_ap _ _ (by rw [h]; exact cellWords_le V0 p 0), h]
  rfl
theorem idx1 (p : Fin 32768) : (cellIdx V0 (ix2 p (1 : Fin 3))).toNat = (cell V0 p 1).val := by
  have h : (res_main_v116 V0 : IVec S32768 32) (ix1 p) = cellWords V0 (ix2 p 1) := HostKernelIdeal.col_ap (cellWords V0) 1 (by decide) _ p
  have e : cellIdx V0 (ix2 p 1) = wrap (res_main_v116 V0) (ix2 p 0) := by
    pointwise [cellIdx]
  rw [e, wrap_ap _ _ (by rw [h]; exact cellWords_le V0 p 1), h]
  rfl
theorem idx2 (p : Fin 32768) : (cellIdx V0 (ix2 p (2 : Fin 3))).toNat = (cell V0 p 2).val := by
  have h : (res_main_v118 V0 : IVec S32768 32) (ix1 p) = cellWords V0 (ix2 p 2) := HostKernelIdeal.col_ap (cellWords V0) 2 (by decide) _ p
  have e : cellIdx V0 (ix2 p 2) = wrap (res_main_v118 V0) (ix2 p 0) := by
    pointwise [cellIdx]
  rw [e, wrap_ap _ _ (by rw [h]; exact cellWords_le V0 p 2), h]
  rfl

/-- The network of a point. -/
def net (p : Fin 32768) : Net := (weights V0).net (cell V0 p 0) (cell V0 p 1) (cell V0 p 2)

/-! ## Gathered weights and products -/

theorem gather1x3 (A : Spec.Tab 1 3) (p : Fin 32768) (i : Fin 1) (j : Fin 3) :
    Host.gather gather_S16x16x16x1x3_S32768x3_S32768x1x3_12_012_n_n_012_1_11113 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather1x32 (A : Spec.Tab 1 32) (p : Fin 32768) (i : Fin 1) (j : Fin 32) :
    Host.gather gather_S16x16x16x1x32_S32768x3_S32768x1x32_12_012_n_n_012_1_111132 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather1x33 (A : Spec.Tab 1 33) (p : Fin 32768) (i : Fin 1) (j : Fin 33) :
    Host.gather gather_S16x16x16x1x33_S32768x3_S32768x1x33_12_012_n_n_012_1_111133 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather32x3 (A : Spec.Tab 32 3) (p : Fin 32768) (i : Fin 32) (j : Fin 3) :
    Host.gather gather_S16x16x16x32x3_S32768x3_S32768x32x3_12_012_n_n_012_1_111323 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather32x32 (A : Spec.Tab 32 32) (p : Fin 32768) (i : Fin 32) (j : Fin 32) :
    Host.gather gather_S16x16x16x32x32_S32768x3_S32768x32x32_12_012_n_n_012_1_1113232 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather32x33 (A : Spec.Tab 32 33) (p : Fin 32768) (i : Fin 32) (j : Fin 33) :
    Host.gather gather_S16x16x16x32x33_S32768x3_S32768x32x33_12_012_n_n_012_1_1113233 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather59x32 (A : Spec.Tab 59 32) (p : Fin 32768) (i : Fin 59) (j : Fin 32) :
    Host.gather gather_S16x16x16x59x32_S32768x3_S32768x59x32_12_012_n_n_012_1_1115932 A (cellIdx V0) (ix3 p i j) = A (at5 (cell V0 p 0) (cell V0 p 1) (cell V0 p 2) i j) :=
  gather_cell _ A (cellIdx V0) p i j _ _ _ (idx0 V0 p) (idx1 V0 p) (idx2 V0 p)

theorem gather63x32 (A : Spec.Tab 63 32) (p : Fin 32768) (i : Fin 63) (j : Fin 32) :
    Host.gather gather_S16x16x16x63x32_S32768x3_S32768x63x32_12_012_n_n_012_1_1116332 A (cellIdx V0) (ix3 p i j) = A (at5 (cell V0 p 0) (cell V0 p 1) (cell V0 p 2) i j) :=
  gather_cell _ A (cellIdx V0) p i j _ _ _ (idx0 V0 p) (idx1 V0 p) (idx2 V0 p)

theorem dot32x3 (X : FVec Ideal S32768x1x32 .f32) (Y : FVec Ideal S32768x32x3 .f32) (p : Fin 32768) (n : Fin 3) :
    Host.dotGeneral dot_S32768x1x32_S32768x32x3_S32768x1x3_2_1_1_2_0_0 none X Y (ix3 p 0 n) = ∑ k : Fin 32, X (ix3 p 0 k) * Y (ix3 p k n) := by
  pointwise

theorem dot32x32 (X : FVec Ideal S32768x1x32 .f32) (Y : FVec Ideal S32768x32x32 .f32) (p : Fin 32768) (n : Fin 32) :
    Host.dotGeneral dot_S32768x1x32_S32768x32x32_S32768x1x32_2_1_1_2_0_0 none X Y (ix3 p 0 n) = ∑ k : Fin 32, X (ix3 p 0 k) * Y (ix3 p k n) := by
  pointwise

theorem dot32x33 (X : FVec Ideal S32768x1x32 .f32) (Y : FVec Ideal S32768x32x33 .f32) (p : Fin 32768) (n : Fin 33) :
    Host.dotGeneral dot_S32768x1x32_S32768x32x33_S32768x1x33_2_1_1_2_0_0 none X Y (ix3 p 0 n) = ∑ k : Fin 32, X (ix3 p 0 k) * Y (ix3 p k n) := by
  pointwise

theorem dot59x32 (X : FVec Ideal S32768x1x59 .f32) (Y : FVec Ideal S32768x59x32 .f32) (p : Fin 32768) (n : Fin 32) :
    Host.dotGeneral dot_S32768x1x59_S32768x59x32_S32768x1x32_2_1_1_2_0_0 none X Y (ix3 p 0 n) = ∑ k : Fin 59, X (ix3 p 0 k) * Y (ix3 p k n) := by
  pointwise

theorem dot63x32 (X : FVec Ideal S32768x1x63 .f32) (Y : FVec Ideal S32768x63x32 .f32) (p : Fin 32768) (n : Fin 32) :
    Host.dotGeneral dot_S32768x1x63_S32768x63x32_S32768x1x32_2_1_1_2_0_0 none X Y (ix3 p 0 n) = ∑ k : Fin 63, X (ix3 p 0 k) * Y (ix3 p k n) := by
  pointwise

end Cert.RefValue
-- ==== Proof.Value.RefNet.lean ====
module

public import proofs.«01_k».proof.Proof.Value.RefCell

@[expose] public section

noncomputable section

namespace Cert.RefValue

open Cert.ReferenceIdeal Cert.ReferenceIdeal.Gen Cert.ReferenceIdeal.Value Cert.Encode Cert.Cells Cert.Net Cert.Words Cert.Spec
open Idealize.ShloMosaic Idealize.ShloMosaic.TcCoe Idealize.SL.Sem Idealize.ShloMosaic.StableHlo

variable (V0 : Valuation τ sig (Elt Ideal)) (p : Fin 32768)

/-- A point's encoded position and direction. -/
def pe : Fin 63 → EReal := posEnc (fun j => pts V0 (ix2 p j))
def de : Fin 27 → EReal := Spec.dirEnc (fun j => drs V0 (ix2 p j))

theorem v182_ap (n : Fin 33) :
    (res_main_v182 V0 : FVec Ideal S32768x1x33 .f32) (ix3 p 0 n) = ∑ k : Fin 32, l1 (net V0 p) (pe V0 p) k * (net V0 p).w2 k n := by
  show (Host.dotGeneral dot_S32768x1x32_S32768x32x33_S32768x1x33_2_1_1_2_0_0 none (maximumf (addf (Host.dotGeneral dot_S32768x1x63_S32768x63x32_S32768x1x32_2_1_1_2_0_0 none (broadcastInDim S32768x1x63 ![0, 2] bcast_S32768x63_S32768x1x63_0_2 (res_main_v79 V0)) (Host.gather gather_S16x16x16x63x32_S32768x3_S32768x63x32_12_012_n_n_012_1_1116332 (weights V0).w1 (cellIdx V0))) (Host.gather gather_S16x16x16x1x32_S32768x3_S32768x1x32_12_012_n_n_012_1_111132 (weights V0).b1 (cellIdx V0))) (broadcastInDim S32768x1x32 ![] bcast_S_S32768x1x32 (constant S_ .f32 0x00000000#32))) (Host.gather gather_S16x16x16x32x33_S32768x3_S32768x32x33_12_012_n_n_012_1_1113233 (weights V0).w2 (cellIdx V0))) (ix3 p 0 n) = _
  pointwise [dot63x32, dot32x33, gather63x32, gather1x32, gather32x33, pos_ap]
  rfl

theorem v204_ap (n : Fin 33) : (res_main_v204 V0 : FVec Ideal S32768x1x33 .f32) (ix3 p 0 n) = l2 (net V0 p) (pe V0 p) n := by
  show (maximumf (addf (res_main_v182 V0) (Host.gather gather_S16x16x16x1x33_S32768x3_S32768x1x33_12_012_n_n_012_1_111133 (weights V0).b2 (cellIdx V0))) (broadcastInDim S32768x1x33 ![] bcast_S_S32768x1x33 (constant S_ .f32 0x00000000#32))) (ix3 p 0 n) = _
  pointwise [gather1x33, v182_ap]
  rfl

theorem v251_ap (n : Fin 59) : (res_main_v251 V0 : FVec Ideal S32768x1x59 .f32) (ix3 p 0 n) = feat (net V0 p) (pe V0 p) (de V0 p) n := by
  show (concatenate S32768x1x59 2 [⟨S32768x1x32, (addf (Host.dotGeneral dot_S32768x1x32_S32768x32x32_S32768x1x32_2_1_1_2_0_0 none (extractStridedSlice S32768x1x32 ![0, 0, 1] (res_main_v204 V0) slices_S32768x1x33_S32768x1x32_0_0_1) (Host.gather gather_S16x16x16x32x32_S32768x3_S32768x32x32_12_012_n_n_012_1_1113232 (weights V0).w3 (cellIdx V0))) (Host.gather gather_S16x16x16x1x32_S32768x3_S32768x1x32_12_012_n_n_012_1_111132 (weights V0).b3 (cellIdx V0)))⟩, ⟨S32768x1x27, (broadcastInDim S32768x1x27 ![0, 2] bcast_S32768x27_S32768x1x27_0_2 (dirs V0))⟩] concatenates_S32768x1x32_S32768x1x27_S32768x1x59_d2) (ix3 p 0 n) = _
  pointwise [dot32x32, gather32x32, gather1x32, v204_ap, dirs_ap]
  rfl

theorem v336_ap (n : Fin 3) :
    (res_main_v336 V0 : FVec Ideal S32768x1x3 .f32) (ix3 p 0 n) = dense (net V0 p).w5 (net V0 p).b5 (l4 (net V0 p) (pe V0 p) (de V0 p)) n := by
  show (addf (Host.dotGeneral dot_S32768x1x32_S32768x32x3_S32768x1x3_2_1_1_2_0_0 none (maximumf (addf (Host.dotGeneral dot_S32768x1x59_S32768x59x32_S32768x1x32_2_1_1_2_0_0 none (res_main_v251 V0) (Host.gather gather_S16x16x16x59x32_S32768x3_S32768x59x32_12_012_n_n_012_1_1115932 (weights V0).w4 (cellIdx V0))) (Host.gather gather_S16x16x16x1x32_S32768x3_S32768x1x32_12_012_n_n_012_1_111132 (weights V0).b4 (cellIdx V0))) (broadcastInDim S32768x1x32 ![] bcast_S_S32768x1x32 (constant S_ .f32 0x00000000#32))) (Host.gather gather_S16x16x16x32x3_S32768x3_S32768x32x3_12_012_n_n_012_1_111323 (weights V0).w5 (cellIdx V0))) (Host.gather gather_S16x16x16x1x3_S32768x3_S32768x1x3_12_012_n_n_012_1_11113 (weights V0).b5 (cellIdx V0))) (ix3 p 0 n) = _
  pointwise [dot59x32, dot32x3, gather59x32, gather1x32, gather32x3, gather1x3, v251_ap]
  rfl

theorem zero_ap : (id (constant S_ .f32 0x00000000#32) : FVec Ideal S_ .f32) ix0 = 0 := by
  show (constant S_ .f32 0x00000000#32 : FVec Ideal S_ .f32) ix0 = 0
  pointwise

/-- The color the reference gives a point, -/
theorem color_ap (n : Fin 3) :
    (select (broadcastInDim S32768x3 ![0, 1] bcast_S32768x1_S32768x3_0_1 (broadcastInDim S32768x1 ![0] bcast_S32768_S32768x1_0 (res_main_v16 V0)))
      (shapeCast _ (Host.divf (broadcastInDim S32768x1x3 ![] bcast_S_S32768x1x3 (constant S_ .f32 0x3F800000#32)) (addf (broadcastInDim S32768x1x3 ![] bcast_S_S32768x1x3 (constant S_ .f32 0x3F800000#32)) (Host.exp (Host.negf (res_main_v336 V0))))) shapeCasts_S32768x1x3_S32768x3)
      (broadcastInDim S32768x3 ![] bcast_S_S32768x3 (id (constant S_ .f32 0x00000000#32))) : FVec Ideal S32768x3 .f32) (ix2 p n)
      = Scalar.select ((res_main_v16 V0 : IVec S32768 1) (ix1 p)) (color (net V0 p) (pe V0 p) (de V0 p) n) 0 := by
  pointwise [v336_ap]
  rw [zero_ap]
  rfl

/-- and the density. -/
theorem density_ap :
    (select (broadcastInDim S32768x1 ![0] bcast_S32768_S32768x1_0 (res_main_v16 V0)) (extractStridedSlice S32768x1 ![0, 0] (maximumf (shapeCast _ (res_main_v204 V0) shapeCasts_S32768x1x33_S32768x33) (broadcastInDim S32768x33 ![] bcast_S_S32768x33 (constant S_ .f32 0x00000000#32))) slices_S32768x33_S32768x1_0_0) (broadcastInDim S32768x1 ![] bcast_S_S32768x1 (id (constant S_ .f32 0x00000000#32))) : FVec Ideal S32768x1 .f32) (ix2 p 0)
      = Scalar.select ((res_main_v16 V0 : IVec S32768 1) (ix1 p)) (density (net V0 p) (pe V0 p)) 0 := by
  pointwise [v204_ap]
  rw [zero_ap, max_eq_left]
  · rfl
  · exact le_max_right _ _

end Cert.RefValue
-- ==== Proof.Value.Equal.lean ====
module

public import proofs.«01_k».proof.Proof.Value.KernelAt
public import proofs.«01_k».proof.Proof.Value.RefNet

@[expose] public section

noncomputable section

namespace Cert.Equal

open Idealize.ShloMosaic Idealize.ShloMosaic.TcCoe Idealize.SL.Sem Idealize.ShloMosaic.StableHlo
open Cert.Net Cert.Spec

/-- The row of values both programs give the point `q`, of the weights, the positions and the directions alone. -/
def pointRow (T : Weights) (X D : FVec Ideal ⟨2, ![32768, 3]⟩ .f32) (q : Fin 32768) (k : Fin 8) : EReal :=
  Scalar.select (HostKernelIdeal.inBox X (ix1 q))
    (rowVal (T.net (ValueOut.cellAxis X q 0) (ValueOut.cellAxis X q 1) (ValueOut.cellAxis X q 2)) (posEnc fun j => X (ix2 q j)) (dirEnc fun j => D (ix2 q j)) k) 0

section Reference

open Cert.ReferenceIdeal Cert.ReferenceIdeal.Gen Cert.ReferenceIdeal.Value

variable (V : Valuation τ sig (Elt Ideal)) (q : Fin 32768)

theorem inBox_eq : (res_main_v16 V : IVec S32768 1) = HostKernelIdeal.inBox (RefValue.pts V) := rfl

theorem cell_eq (k : Fin 3) : RefValue.cell V q k = ValueOut.cellAxis (RefValue.pts V) q k := rfl

theorem net_eq : RefValue.net V q = (RefValue.weights V).net (ValueOut.cellAxis (RefValue.pts V) q 0) (ValueOut.cellAxis (RefValue.pts V) q 1) (ValueOut.cellAxis (RefValue.pts V) q 2) := by
  unfold RefValue.net
  rw [cell_eq, cell_eq, cell_eq]

theorem rowVal_color (W : Net) (x : Fin 63 → EReal) (d : Fin 27 → EReal) (k : Fin 3) : rowVal W x d ⟨k.val, by omega⟩ = color W x d k := dif_pos k.isLt

theorem rowVal_density (W : Net) (x : Fin 63 → EReal) (d : Fin 27 → EReal) : rowVal W x d 3 = density W x := rfl

theorem ref_color (k : Fin 3) :
    Scalar.select ((res_main_v16 V : IVec S32768 1) (ix1 q)) (color (RefValue.net V q) (RefValue.pe V q) (RefValue.de V q) k) 0
      = pointRow (RefValue.weights V) (RefValue.pts V) (RefValue.drs V) q ⟨k.val, by omega⟩ := by
  unfold pointRow
  rw [rowVal_color, inBox_eq, net_eq]
  rfl

theorem ref_density :
    Scalar.select ((res_main_v16 V : IVec S32768 1) (ix1 q)) (density (RefValue.net V q) (RefValue.pe V q)) 0
      = pointRow (RefValue.weights V) (RefValue.pts V) (RefValue.drs V) q 3 := by
  unfold pointRow
  rw [rowVal_density, inBox_eq, net_eq]
  rfl

end Reference

theorem kernelRow_eq (m : (ℓ : Loc KernelIdeal.nD KernelIdeal.τ KernelIdeal.sig) → Buf (Elt Ideal) ℓ) (q : Fin 32768) (k : Fin 8) :
    ValueOut.kernelRow m q k = pointRow (ValuePack.weights m 0) (HostKernelIdeal.X0 m 0) (HostKernelIdeal.X1 m 0) q k := rfl

end Cert.Equal
-- ==== Proof.Value.Algebraic.lean ====
module

public import proofs.«01_k».proof.Defs
public import proofs.«01_k».proof.Proof.Value.Equal

@[expose] public section

noncomputable section

namespace Cert.Equal

open Idealize.ShloMosaic Idealize.ShloMosaic.TcCoe Idealize.SL.Sem Idealize.ShloMosaic.StableHlo
open Cert.Net Cert.Spec

section Kernel

open Cert.KernelIdeal.Gen Cert.KernelIdeal.Run Cert.HostKernelIdeal
open Cert.KernelIdeal hiding ix2

variable (m : (ℓ : Loc nD τ sig) → Buf (Elt Ideal) ℓ) (g : Dev nD → PrngReg)

/-- The kernel's two results. -/
def colorOut (c : Dev nD) : Buf (Elt Ideal) ((c.tc : Thread nD τ).loc main_v112) := V22 m (outs0 m) c (Proc.devRef .tc main_v112)
def densityOut (c : Dev nD) : Buf (Elt Ideal) ((c.tc : Thread nD τ).loc main_v113) := V22 m (outs0 m) c (Proc.devRef .tc main_v113)

theorem kernel_run : θ_run (defs (F := Ideal)) (onTc (τ := τ) (main (F := Ideal))) ⟨m, fun _ => 0, g⟩ (fun r => ∀ c : Dev nD,
    r.2.mem ((c.tc : Thread nD τ).loc main_v112) = colorOut m c
    ∧ r.2.mem ((c.tc : Thread nD τ).loc main_v113) = densityOut m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run _ _ _).mono (fun r h c => ⟨h.1 c main_v112 (Finset.mem_filter.mpr ⟨Finset.mem_univ _, by decide⟩),
      h.1 c main_v113 (Finset.mem_filter.mpr ⟨Finset.mem_univ _, by decide⟩),
      (h.1 c main_arg0 (Finset.mem_filter.mpr ⟨Finset.mem_univ _, by decide⟩)).trans (V22_main_arg0 m (outs0 m) c),
      (h.1 c main_arg1 (Finset.mem_filter.mpr ⟨Finset.mem_univ _, by decide⟩)).trans (V22_main_arg1 m (outs0 m) c),
      (h.1 c main_arg2 (Finset.mem_filter.mpr ⟨Finset.mem_univ _, by decide⟩)).trans (V22_main_arg2 m (outs0 m) c),
      (h.1 c main_arg3 (Finset.mem_filter.mpr ⟨Finset.mem_univ _, by decide⟩)).trans (V22_main_arg3 m (outs0 m) c),
      (h.1 c main_arg4 (Finset.mem_filter.mpr ⟨Finset.mem_univ _, by decide⟩)).trans (V22_main_arg4 m (outs0 m) c),
      (h.1 c main_arg5 (Finset.mem_filter.mpr ⟨Finset.mem_univ _, by decide⟩)).trans (V22_main_arg5 m (outs0 m) c),
      (h.1 c main_arg6 (Finset.mem_filter.mpr ⟨Finset.mem_univ _, by decide⟩)).trans (V22_main_arg6 m (outs0 m) c),
      (h.1 c main_arg7 (Finset.mem_filter.mpr ⟨Finset.mem_univ _, by decide⟩)).trans (V22_main_arg7 m (outs0 m) c),
      (h.1 c main_arg8 (Finset.mem_filter.mpr ⟨Finset.mem_univ _, by decide⟩)).trans (V22_main_arg8 m (outs0 m) c),
      (h.1 c main_arg9 (Finset.mem_filter.mpr ⟨Finset.mem_univ _, by decide⟩)).trans (V22_main_arg9 m (outs0 m) c),
      (h.1 c main_arg10 (Finset.mem_filter.mpr ⟨Finset.mem_univ _, by decide⟩)).trans (V22_main_arg10 m (outs0 m) c),
      (h.1 c main_arg11 (Finset.mem_filter.mpr ⟨Finset.mem_univ _, by decide⟩)).trans (V22_main_arg11 m (outs0 m) c)⟩) (run_all m g)

end Kernel

section Agree

variable (m : (ℓ : Loc KernelIdeal.nD KernelIdeal.τ KernelIdeal.sig) → Buf (Elt Ideal) ℓ)
  (V : Valuation ReferenceIdeal.τ ReferenceIdeal.sig (Elt Ideal))
  (hX : RefValue.pts V = HostKernelIdeal.X0 m 0) (hD : RefValue.drs V = HostKernelIdeal.X1 m 0) (hT : RefValue.weights V = ValuePack.weights m 0)

include hX hD hT

open Cert.ReferenceIdeal Cert.ReferenceIdeal.Gen Cert.ReferenceIdeal.Value

/-- From equal arguments the reference's colors are the kernel's, -/
theorem color_eq :
    (select (broadcastInDim S32768x3 ![0, 1] bcast_S32768x1_S32768x3_0_1 (broadcastInDim S32768x1 ![0] bcast_S32768_S32768x1_0 (res_main_v16 V)))
            (shapeCast _ (Host.divf (broadcastInDim S32768x1x3 ![] bcast_S_S32768x1x3 (constant S_ .f32 0x3F800000#32)) (addf (broadcastInDim S32768x1x3 ![] bcast_S_S32768x1x3 (constant S_ .f32 0x3F800000#32)) (Host.exp (Host.negf (res_main_v336 V))))) shapeCasts_S32768x1x3_S32768x3)
            (broadcastInDim S32768x3 ![] bcast_S_S32768x3 (id (constant S_ .f32 0x00000000#32))) : FVec Ideal S32768x3 .f32) = colorOut m 0 := by
  funext i
  obtain ⟨q, k, rfl⟩ : ∃ (q : Fin 32768) (k : Fin 3), i = ix2 q k := ⟨i 0, i 1, eq_ix2 i⟩
  refine (RefValue.color_ap V q k).trans ((ref_color V q k).trans ?_)
  rw [hX, hD, hT]
  exact ((ValueOut.color_at m q k).trans (kernelRow_eq m q _)).symm

/-- and so are the densities. -/
theorem density_eq :
    (select (broadcastInDim S32768x1 ![0] bcast_S32768_S32768x1_0 (res_main_v16 V)) (extractStridedSlice S32768x1 ![0, 0] (maximumf (shapeCast _ (res_main_v204 V) shapeCasts_S32768x1x33_S32768x33) (broadcastInDim S32768x33 ![] bcast_S_S32768x33 (constant S_ .f32 0x00000000#32))) slices_S32768x33_S32768x1_0_0) (broadcastInDim S32768x1 ![] bcast_S_S32768x1 (id (constant S_ .f32 0x00000000#32))) : FVec Ideal S32768x1 .f32) = densityOut m 0 := by
  funext i
  obtain ⟨q, k, rfl⟩ : ∃ (q : Fin 32768) (k : Fin 1), i = ix2 q k := ⟨i 0, i 1, eq_ix2 i⟩
  obtain rfl : k = 0 := Subsingleton.elim _ _
  refine (RefValue.density_ap V q).trans ((ref_density V q).trans ?_)
  rw [hX, hD, hT]
  exact ((ValueOut.density_at m q).trans (kernelRow_eq m q _)).symm

end Agree

/-- Weights are equal when their tables are. -/
theorem weights_mk {T S : Weights} (h1 : T.w1 = S.w1) (h2 : T.b1 = S.b1) (h3 : T.w2 = S.w2) (h4 : T.b2 = S.b2) (h5 : T.w3 = S.w3)
    (h6 : T.b3 = S.b3) (h7 : T.w4 = S.w4) (h8 : T.b4 = S.b4) (h9 : T.w5 = S.w5) (h10 : T.b5 = S.b5) : T = S := by
  cases T; cases S; subst h1 h2 h3 h4 h5 h6 h7 h8 h9 h10; rfl

theorem algebraic : Cert.algebraic_KernelIdeal_ReferenceIdeal (hKernelIdeal := Cert.KernelIdeal.Gen.facts) (hReferenceIdeal := Cert.ReferenceIdeal.Gen.facts) := fun m g m' g' _ hm =>
  ⟨colorOut m, densityOut m, kernel_run m g, (θ_run _ _ _).mono (fun r h c => by
    obtain rfl : c = 0 := Subsingleton.elim _ _
    obtain ⟨a0, a1, a2, a3, a4, a5, a6, a7, a8, a9, a10, a11⟩ := hm 0
    have hT : RefValue.weights (launchContents m' 0) = ValuePack.weights m 0 :=
      weights_mk a2 a3 a4 a5 a6 a7 a8 a9 a10 a11
    exact ⟨(h 0).1.trans (color_eq m (launchContents m' 0) a0 a1 hT), (h 0).2.1.trans (density_eq m (launchContents m' 0) a0 a1 hT), (h 0).2.2⟩)
    (Cert.ReferenceIdeal.Value.run m' g')⟩

end Cert.Equal
-- ==== Proof.lean ====
/- The proof of the certificate's claims. Proof/KernelIdeal holds the development for the program read over any float
   instance; Proof/Kernel is the same text for the program as printed.
   Proof/Value computes the two results of the idealized kernel and of the reference, and finds them equal. -/
module

public import proofs.«01_k».proof.Defs
public import proofs.«01_k».proof.Proof.Kernel.Frame
public import proofs.«01_k».proof.Proof.KernelIdeal.Frame
public import proofs.«01_k».proof.Proof.ReferenceFrame
public import proofs.«01_k».proof.Proof.Value.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.HostKernel.frame m g,
  fun m g _ => Cert.HostKernelIdeal.frame m g,
  Cert.ReferenceFrame.frame,
  trivial,
  Cert.Equal.algebraic⟩

end Cert.Proof

end
